-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InLast (m : (ℓ : Loc Cert.InLast.nD Cert.InLast.τ Cert.InLast.sig) → Buf (Elt Bits) ℓ) : Prop :=
  True

def Pre_InLastIdeal (m : (ℓ : Loc Cert.InLastIdeal.nD Cert.InLastIdeal.τ Cert.InLastIdeal.sig) → Buf (Elt Ideal) ℓ) : Prop :=
  True

def Pre_InLastRefIdeal (m : (ℓ : Loc Cert.InLastRefIdeal.nD Cert.InLastRefIdeal.τ Cert.InLastRefIdeal.sig) → Buf (Elt Ideal) ℓ) : Prop :=
  True

def Pre_OutFirst (m : (ℓ : Loc Cert.OutFirst.nD Cert.OutFirst.τ Cert.OutFirst.sig) → Buf (Elt Bits) ℓ) : Prop :=
  True

def Pre_OutFirstIdeal (m : (ℓ : Loc Cert.OutFirstIdeal.nD Cert.OutFirstIdeal.τ Cert.OutFirstIdeal.sig) → Buf (Elt Ideal) ℓ) : Prop :=
  True

def Pre_OutFirstRefIdeal (m : (ℓ : Loc Cert.OutFirstRefIdeal.nD Cert.OutFirstRefIdeal.τ Cert.OutFirstRefIdeal.sig) → Buf (Elt Ideal) ℓ) : Prop :=
  True

def Pre_DeltaScan (m : (ℓ : Loc Cert.DeltaScan.nD Cert.DeltaScan.τ Cert.DeltaScan.sig) → Buf (Elt Bits) ℓ) : Prop :=
  True

def Pre_DeltaScanIdeal (m : (ℓ : Loc Cert.DeltaScanIdeal.nD Cert.DeltaScanIdeal.τ Cert.DeltaScanIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_InLast [hInLast : Cert.InLast.Facts] : Prop :=
  ∀ (m : (ℓ : Loc Cert.InLast.nD Cert.InLast.τ Cert.InLast.sig) → Buf (Elt Bits) ℓ) (g : Dev Cert.InLast.nD → PrngReg), Pre_InLast m →
    θ_run (Cert.InLast.defs (F := Bits)) (onTc (τ := Cert.InLast.τ) (Cert.InLast.main (F := Bits))) ⟨m, fun _ => 0, g⟩ (fun r => (∀ c : Dev Cert.InLast.nD,
      r.2.mem ((c.tc : Thread Cert.InLast.nD Cert.InLast.τ).loc Cert.InLast.main_arg0) = m ((c.tc : Thread Cert.InLast.nD Cert.InLast.τ).loc Cert.InLast.main_arg0)
      ∧ r.2.mem ((c.tc : Thread Cert.InLast.nD Cert.InLast.τ).loc Cert.InLast.main_arg1) = m ((c.tc : Thread Cert.InLast.nD Cert.InLast.τ).loc Cert.InLast.main_arg1)
      ∧ r.2.mem ((c.tc : Thread Cert.InLast.nD Cert.InLast.τ).loc Cert.InLast.main_arg2) = m ((c.tc : Thread Cert.InLast.nD Cert.InLast.τ).loc Cert.InLast.main_arg2)
      ∧ r.2.mem ((c.tc : Thread Cert.InLast.nD Cert.InLast.τ).loc Cert.InLast.main_arg3) = m ((c.tc : Thread Cert.InLast.nD Cert.InLast.τ).loc Cert.InLast.main_arg3))
      ∧ r.2.sem = fun _ => 0)

def quiescent_InLastIdeal [hInLastIdeal : Cert.InLastIdeal.Facts] : Prop :=
  ∀ (m : (ℓ : Loc Cert.InLastIdeal.nD Cert.InLastIdeal.τ Cert.InLastIdeal.sig) → Buf (Elt Ideal) ℓ) (g : Dev Cert.InLastIdeal.nD → PrngReg), Pre_InLastIdeal m →
    θ_run (Cert.InLastIdeal.defs (F := Ideal)) (onTc (τ := Cert.InLastIdeal.τ) (Cert.InLastIdeal.main (F := Ideal))) ⟨m, fun _ => 0, g⟩ (fun r => (∀ c : Dev Cert.InLastIdeal.nD,
      r.2.mem ((c.tc : Thread Cert.InLastIdeal.nD Cert.InLastIdeal.τ).loc Cert.InLastIdeal.main_arg0) = m ((c.tc : Thread Cert.InLastIdeal.nD Cert.InLastIdeal.τ).loc Cert.InLastIdeal.main_arg0)
      ∧ r.2.mem ((c.tc : Thread Cert.InLastIdeal.nD Cert.InLastIdeal.τ).loc Cert.InLastIdeal.main_arg1) = m ((c.tc : Thread Cert.InLastIdeal.nD Cert.InLastIdeal.τ).loc Cert.InLastIdeal.main_arg1)
      ∧ r.2.mem ((c.tc : Thread Cert.InLastIdeal.nD Cert.InLastIdeal.τ).loc Cert.InLastIdeal.main_arg2) = m ((c.tc : Thread Cert.InLastIdeal.nD Cert.InLastIdeal.τ).loc Cert.InLastIdeal.main_arg2)
      ∧ r.2.mem ((c.tc : Thread Cert.InLastIdeal.nD Cert.InLastIdeal.τ).loc Cert.InLastIdeal.main_arg3) = m ((c.tc : Thread Cert.InLastIdeal.nD Cert.InLastIdeal.τ).loc Cert.InLastIdeal.main_arg3))
      ∧ r.2.sem = fun _ => 0)

def quiescent_InLastRefIdeal [hInLastRefIdeal : Cert.InLastRefIdeal.Facts] : Prop :=
  ∀ (m : (ℓ : Loc Cert.InLastRefIdeal.nD Cert.InLastRefIdeal.τ Cert.InLastRefIdeal.sig) → Buf (Elt Ideal) ℓ) (g : Dev Cert.InLastRefIdeal.nD → PrngReg), Pre_InLastRefIdeal m →
    θ_run (Cert.InLastRefIdeal.defs (F := Ideal)) (onTc (τ := Cert.InLastRefIdeal.τ) (Cert.InLastRefIdeal.main (F := Ideal))) ⟨m, fun _ => 0, g⟩ (fun r => (∀ c : Dev Cert.InLastRefIdeal.nD,
      r.2.mem ((c.tc : Thread Cert.InLastRefIdeal.nD Cert.InLastRefIdeal.τ).loc Cert.InLastRefIdeal.main_arg0) = m ((c.tc : Thread Cert.InLastRefIdeal.nD Cert.InLastRefIdeal.τ).loc Cert.InLastRefIdeal.main_arg0)
      ∧ r.2.mem ((c.tc : Thread Cert.InLastRefIdeal.nD Cert.InLastRefIdeal.τ).loc Cert.InLastRefIdeal.main_arg1) = m ((c.tc : Thread Cert.InLastRefIdeal.nD Cert.InLastRefIdeal.τ).loc Cert.InLastRefIdeal.main_arg1)
      ∧ r.2.mem ((c.tc : Thread Cert.InLastRefIdeal.nD Cert.InLastRefIdeal.τ).loc Cert.InLastRefIdeal.main_arg2) = m ((c.tc : Thread Cert.InLastRefIdeal.nD Cert.InLastRefIdeal.τ).loc Cert.InLastRefIdeal.main_arg2)
      ∧ r.2.mem ((c.tc : Thread Cert.InLastRefIdeal.nD Cert.InLastRefIdeal.τ).loc Cert.InLastRefIdeal.main_arg3) = m ((c.tc : Thread Cert.InLastRefIdeal.nD Cert.InLastRefIdeal.τ).loc Cert.InLastRefIdeal.main_arg3))
      ∧ r.2.sem = fun _ => 0)

def quiescent_OutFirst [hOutFirst : Cert.OutFirst.Facts] : Prop :=
  ∀ (m : (ℓ : Loc Cert.OutFirst.nD Cert.OutFirst.τ Cert.OutFirst.sig) → Buf (Elt Bits) ℓ) (g : Dev Cert.OutFirst.nD → PrngReg), Pre_OutFirst m →
    θ_run (Cert.OutFirst.defs (F := Bits)) (onTc (τ := Cert.OutFirst.τ) (Cert.OutFirst.main (F := Bits))) ⟨m, fun _ => 0, g⟩ (fun r => (∀ c : Dev Cert.OutFirst.nD,
      r.2.mem ((c.tc : Thread Cert.OutFirst.nD Cert.OutFirst.τ).loc Cert.OutFirst.main_arg0) = m ((c.tc : Thread Cert.OutFirst.nD Cert.OutFirst.τ).loc Cert.OutFirst.main_arg0)
      ∧ r.2.mem ((c.tc : Thread Cert.OutFirst.nD Cert.OutFirst.τ).loc Cert.OutFirst.main_arg1) = m ((c.tc : Thread Cert.OutFirst.nD Cert.OutFirst.τ).loc Cert.OutFirst.main_arg1)
      ∧ r.2.mem ((c.tc : Thread Cert.OutFirst.nD Cert.OutFirst.τ).loc Cert.OutFirst.main_arg2) = m ((c.tc : Thread Cert.OutFirst.nD Cert.OutFirst.τ).loc Cert.OutFirst.main_arg2)
      ∧ r.2.mem ((c.tc : Thread Cert.OutFirst.nD Cert.OutFirst.τ).loc Cert.OutFirst.main_arg3) = m ((c.tc : Thread Cert.OutFirst.nD Cert.OutFirst.τ).loc Cert.OutFirst.main_arg3)
      ∧ r.2.mem ((c.tc : Thread Cert.OutFirst.nD Cert.OutFirst.τ).loc Cert.OutFirst.main_arg4) = m ((c.tc : Thread Cert.OutFirst.nD Cert.OutFirst.τ).loc Cert.OutFirst.main_arg4)
      ∧ r.2.mem ((c.tc : Thread Cert.OutFirst.nD Cert.OutFirst.τ).loc Cert.OutFirst.main_arg5) = m ((c.tc : Thread Cert.OutFirst.nD Cert.OutFirst.τ).loc Cert.OutFirst.main_arg5)
      ∧ r.2.mem ((c.tc : Thread Cert.OutFirst.nD Cert.OutFirst.τ).loc Cert.OutFirst.main_arg6) = m ((c.tc : Thread Cert.OutFirst.nD Cert.OutFirst.τ).loc Cert.OutFirst.main_arg6)
      ∧ r.2.mem ((c.tc : Thread Cert.OutFirst.nD Cert.OutFirst.τ).loc Cert.OutFirst.main_arg7) = m ((c.tc : Thread Cert.OutFirst.nD Cert.OutFirst.τ).loc Cert.OutFirst.main_arg7)
      ∧ r.2.mem ((c.tc : Thread Cert.OutFirst.nD Cert.OutFirst.τ).loc Cert.OutFirst.main_arg8) = m ((c.tc : Thread Cert.OutFirst.nD Cert.OutFirst.τ).loc Cert.OutFirst.main_arg8))
      ∧ r.2.sem = fun _ => 0)

def quiescent_OutFirstIdeal [hOutFirstIdeal : Cert.OutFirstIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg), Pre_OutFirstIdeal m →
    θ_run (Cert.OutFirstIdeal.defs (F := Ideal)) (onTc (τ := Cert.OutFirstIdeal.τ) (Cert.OutFirstIdeal.main (F := Ideal))) ⟨m, fun _ => 0, g⟩ (fun r => (∀ c : Dev Cert.OutFirstIdeal.nD,
      r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
      ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1)
      ∧ r.2.mem ((c.tc : Thread Cert.OutFirstIdeal.nD Cert.OutFirstIdeal.τ).loc Cert.OutFirstIdeal.main_arg2) = m ((c.tc : Thread Cert.OutFirstIdeal.nD Cert.OutFirstIdeal.τ).loc Cert.OutFirstIdeal.main_arg2)
      ∧ r.2.mem ((c.tc : Thread Cert.OutFirstIdeal.nD Cert.OutFirstIdeal.τ).loc Cert.OutFirstIdeal.main_arg3) = m ((c.tc : Thread Cert.OutFirstIdeal.nD Cert.OutFirstIdeal.τ).loc Cert.OutFirstIdeal.main_arg3)
      ∧ r.2.mem ((c.tc : Thread Cert.OutFirstIdeal.nD Cert.OutFirstIdeal.τ).loc Cert.OutFirstIdeal.main_arg4) = m ((c.tc : Thread Cert.OutFirstIdeal.nD Cert.OutFirstIdeal.τ).loc Cert.OutFirstIdeal.main_arg4)
      ∧ r.2.mem ((c.tc : Thread Cert.OutFirstIdeal.nD Cert.OutFirstIdeal.τ).loc Cert.OutFirstIdeal.main_arg5) = m ((c.tc : Thread Cert.OutFirstIdeal.nD Cert.OutFirstIdeal.τ).loc Cert.OutFirstIdeal.main_arg5)
      ∧ r.2.mem ((c.tc : Thread Cert.OutFirstIdeal.nD Cert.OutFirstIdeal.τ).loc Cert.OutFirstIdeal.main_arg6) = m ((c.tc : Thread Cert.OutFirstIdeal.nD Cert.OutFirstIdeal.τ).loc Cert.OutFirstIdeal.main_arg6)
      ∧ r.2.mem ((c.tc : Thread Cert.OutFirstIdeal.nD Cert.OutFirstIdeal.τ).loc Cert.OutFirstIdeal.main_arg7) = m ((c.tc : Thread Cert.OutFirstIdeal.nD Cert.OutFirstIdeal.τ).loc Cert.OutFirstIdeal.main_arg7)
      ∧ r.2.mem ((c.tc : Thread Cert.OutFirstIdeal.nD Cert.OutFirstIdeal.τ).loc Cert.OutFirstIdeal.main_arg8) = m ((c.tc : Thread Cert.OutFirstIdeal.nD Cert.OutFirstIdeal.τ).loc Cert.OutFirstIdeal.main_arg8))
      ∧ r.2.sem = fun _ => 0)

def quiescent_OutFirstRefIdeal [hOutFirstRefIdeal : Cert.OutFirstRefIdeal.Facts] : Prop :=
  ∀ (m : (ℓ : Loc Cert.OutFirstRefIdeal.nD Cert.OutFirstRefIdeal.τ Cert.OutFirstRefIdeal.sig) → Buf (Elt Ideal) ℓ) (g : Dev Cert.OutFirstRefIdeal.nD → PrngReg), Pre_OutFirstRefIdeal m →
    θ_run (Cert.OutFirstRefIdeal.defs (F := Ideal)) (onTc (τ := Cert.OutFirstRefIdeal.τ) (Cert.OutFirstRefIdeal.main (F := Ideal))) ⟨m, fun _ => 0, g⟩ (fun r => (∀ c : Dev Cert.OutFirstRefIdeal.nD,
      r.2.mem ((c.tc : Thread Cert.OutFirstRefIdeal.nD Cert.OutFirstRefIdeal.τ).loc Cert.OutFirstRefIdeal.main_arg0) = m ((c.tc : Thread Cert.OutFirstRefIdeal.nD Cert.OutFirstRefIdeal.τ).loc Cert.OutFirstRefIdeal.main_arg0)
      ∧ r.2.mem ((c.tc : Thread Cert.OutFirstRefIdeal.nD Cert.OutFirstRefIdeal.τ).loc Cert.OutFirstRefIdeal.main_arg1) = m ((c.tc : Thread Cert.OutFirstRefIdeal.nD Cert.OutFirstRefIdeal.τ).loc Cert.OutFirstRefIdeal.main_arg1)
      ∧ r.2.mem ((c.tc : Thread Cert.OutFirstRefIdeal.nD Cert.OutFirstRefIdeal.τ).loc Cert.OutFirstRefIdeal.main_arg2) = m ((c.tc : Thread Cert.OutFirstRefIdeal.nD Cert.OutFirstRefIdeal.τ).loc Cert.OutFirstRefIdeal.main_arg2)
      ∧ r.2.mem ((c.tc : Thread Cert.OutFirstRefIdeal.nD Cert.OutFirstRefIdeal.τ).loc Cert.OutFirstRefIdeal.main_arg3) = m ((c.tc : Thread Cert.OutFirstRefIdeal.nD Cert.OutFirstRefIdeal.τ).loc Cert.OutFirstRefIdeal.main_arg3)
      ∧ r.2.mem ((c.tc : Thread Cert.OutFirstRefIdeal.nD Cert.OutFirstRefIdeal.τ).loc Cert.OutFirstRefIdeal.main_arg4) = m ((c.tc : Thread Cert.OutFirstRefIdeal.nD Cert.OutFirstRefIdeal.τ).loc Cert.OutFirstRefIdeal.main_arg4)
      ∧ r.2.mem ((c.tc : Thread Cert.OutFirstRefIdeal.nD Cert.OutFirstRefIdeal.τ).loc Cert.OutFirstRefIdeal.main_arg5) = m ((c.tc : Thread Cert.OutFirstRefIdeal.nD Cert.OutFirstRefIdeal.τ).loc Cert.OutFirstRefIdeal.main_arg5)
      ∧ r.2.mem ((c.tc : Thread Cert.OutFirstRefIdeal.nD Cert.OutFirstRefIdeal.τ).loc Cert.OutFirstRefIdeal.main_arg6) = m ((c.tc : Thread Cert.OutFirstRefIdeal.nD Cert.OutFirstRefIdeal.τ).loc Cert.OutFirstRefIdeal.main_arg6)
      ∧ r.2.mem ((c.tc : Thread Cert.OutFirstRefIdeal.nD Cert.OutFirstRefIdeal.τ).loc Cert.OutFirstRefIdeal.main_arg7) = m ((c.tc : Thread Cert.OutFirstRefIdeal.nD Cert.OutFirstRefIdeal.τ).loc Cert.OutFirstRefIdeal.main_arg7)
      ∧ r.2.mem ((c.tc : Thread Cert.OutFirstRefIdeal.nD Cert.OutFirstRefIdeal.τ).loc Cert.OutFirstRefIdeal.main_arg8) = m ((c.tc : Thread Cert.OutFirstRefIdeal.nD Cert.OutFirstRefIdeal.τ).loc Cert.OutFirstRefIdeal.main_arg8))
      ∧ r.2.sem = fun _ => 0)

def quiescent_DeltaScan [hDeltaScan : Cert.DeltaScan.Facts] : Prop :=
  ∀ (m : (ℓ : Loc Cert.DeltaScan.nD Cert.DeltaScan.τ Cert.DeltaScan.sig) → Buf (Elt Bits) ℓ) (g : Dev Cert.DeltaScan.nD → PrngReg), Pre_DeltaScan m →
    θ_run (Cert.DeltaScan.defs (F := Bits)) (onTc (τ := Cert.DeltaScan.τ) (Cert.DeltaScan.main (F := Bits))) ⟨m, fun _ => 0, g⟩ (fun r => (∀ c : Dev Cert.DeltaScan.nD,
      r.2.mem ((c.tc : Thread Cert.DeltaScan.nD Cert.DeltaScan.τ).loc Cert.DeltaScan.main_arg0) = m ((c.tc : Thread Cert.DeltaScan.nD Cert.DeltaScan.τ).loc Cert.DeltaScan.main_arg0)
      ∧ r.2.mem ((c.tc : Thread Cert.DeltaScan.nD Cert.DeltaScan.τ).loc Cert.DeltaScan.main_arg1) = m ((c.tc : Thread Cert.DeltaScan.nD Cert.DeltaScan.τ).loc Cert.DeltaScan.main_arg1)
      ∧ r.2.mem ((c.tc : Thread Cert.DeltaScan.nD Cert.DeltaScan.τ).loc Cert.DeltaScan.main_arg2) = m ((c.tc : Thread Cert.DeltaScan.nD Cert.DeltaScan.τ).loc Cert.DeltaScan.main_arg2)
      ∧ r.2.mem ((c.tc : Thread Cert.DeltaScan.nD Cert.DeltaScan.τ).loc Cert.DeltaScan.main_arg3) = m ((c.tc : Thread Cert.DeltaScan.nD Cert.DeltaScan.τ).loc Cert.DeltaScan.main_arg3)
      ∧ r.2.mem ((c.tc : Thread Cert.DeltaScan.nD Cert.DeltaScan.τ).loc Cert.DeltaScan.main_arg4) = m ((c.tc : Thread Cert.DeltaScan.nD Cert.DeltaScan.τ).loc Cert.DeltaScan.main_arg4)
      ∧ r.2.mem ((c.tc : Thread Cert.DeltaScan.nD Cert.DeltaScan.τ).loc Cert.DeltaScan.main_arg5) = m ((c.tc : Thread Cert.DeltaScan.nD Cert.DeltaScan.τ).loc Cert.DeltaScan.main_arg5)
      ∧ r.2.mem ((c.tc : Thread Cert.DeltaScan.nD Cert.DeltaScan.τ).loc Cert.DeltaScan.main_arg6) = m ((c.tc : Thread Cert.DeltaScan.nD Cert.DeltaScan.τ).loc Cert.DeltaScan.main_arg6)
      ∧ r.2.mem ((c.tc : Thread Cert.DeltaScan.nD Cert.DeltaScan.τ).loc Cert.DeltaScan.main_arg7) = m ((c.tc : Thread Cert.DeltaScan.nD Cert.DeltaScan.τ).loc Cert.DeltaScan.main_arg7))
      ∧ r.2.sem = fun _ => 0)

def quiescent_DeltaScanIdeal [hDeltaScanIdeal : Cert.DeltaScanIdeal.Facts] : Prop :=
  ∀ (m : (ℓ : Loc Cert.DeltaScanIdeal.nD Cert.DeltaScanIdeal.τ Cert.DeltaScanIdeal.sig) → Buf (Elt Ideal) ℓ) (g : Dev Cert.DeltaScanIdeal.nD → PrngReg), Pre_DeltaScanIdeal m →
    θ_run (Cert.DeltaScanIdeal.defs (F := Ideal)) (onTc (τ := Cert.DeltaScanIdeal.τ) (Cert.DeltaScanIdeal.main (F := Ideal))) ⟨m, fun _ => 0, g⟩ (fun r => (∀ c : Dev Cert.DeltaScanIdeal.nD,
      r.2.mem ((c.tc : Thread Cert.DeltaScanIdeal.nD Cert.DeltaScanIdeal.τ).loc Cert.DeltaScanIdeal.main_arg0) = m ((c.tc : Thread Cert.DeltaScanIdeal.nD Cert.DeltaScanIdeal.τ).loc Cert.DeltaScanIdeal.main_arg0)
      ∧ r.2.mem ((c.tc : Thread Cert.DeltaScanIdeal.nD Cert.DeltaScanIdeal.τ).loc Cert.DeltaScanIdeal.main_arg1) = m ((c.tc : Thread Cert.DeltaScanIdeal.nD Cert.DeltaScanIdeal.τ).loc Cert.DeltaScanIdeal.main_arg1)
      ∧ r.2.mem ((c.tc : Thread Cert.DeltaScanIdeal.nD Cert.DeltaScanIdeal.τ).loc Cert.DeltaScanIdeal.main_arg2) = m ((c.tc : Thread Cert.DeltaScanIdeal.nD Cert.DeltaScanIdeal.τ).loc Cert.DeltaScanIdeal.main_arg2)
      ∧ r.2.mem ((c.tc : Thread Cert.DeltaScanIdeal.nD Cert.DeltaScanIdeal.τ).loc Cert.DeltaScanIdeal.main_arg3) = m ((c.tc : Thread Cert.DeltaScanIdeal.nD Cert.DeltaScanIdeal.τ).loc Cert.DeltaScanIdeal.main_arg3)
      ∧ r.2.mem ((c.tc : Thread Cert.DeltaScanIdeal.nD Cert.DeltaScanIdeal.τ).loc Cert.DeltaScanIdeal.main_arg4) = m ((c.tc : Thread Cert.DeltaScanIdeal.nD Cert.DeltaScanIdeal.τ).loc Cert.DeltaScanIdeal.main_arg4)
      ∧ r.2.mem ((c.tc : Thread Cert.DeltaScanIdeal.nD Cert.DeltaScanIdeal.τ).loc Cert.DeltaScanIdeal.main_arg5) = m ((c.tc : Thread Cert.DeltaScanIdeal.nD Cert.DeltaScanIdeal.τ).loc Cert.DeltaScanIdeal.main_arg5)
      ∧ r.2.mem ((c.tc : Thread Cert.DeltaScanIdeal.nD Cert.DeltaScanIdeal.τ).loc Cert.DeltaScanIdeal.main_arg6) = m ((c.tc : Thread Cert.DeltaScanIdeal.nD Cert.DeltaScanIdeal.τ).loc Cert.DeltaScanIdeal.main_arg6)
      ∧ r.2.mem ((c.tc : Thread Cert.DeltaScanIdeal.nD Cert.DeltaScanIdeal.τ).loc Cert.DeltaScanIdeal.main_arg7) = m ((c.tc : Thread Cert.DeltaScanIdeal.nD Cert.DeltaScanIdeal.τ).loc Cert.DeltaScanIdeal.main_arg7))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5)
      ∧ r.2.mem ((c.tc : Thread Cert.DeltaRefIdeal.nD Cert.DeltaRefIdeal.τ).loc Cert.DeltaRefIdeal.main_arg6) = m ((c.tc : Thread Cert.DeltaRefIdeal.nD Cert.DeltaRefIdeal.τ).loc Cert.DeltaRefIdeal.main_arg6)
      ∧ r.2.mem ((c.tc : Thread Cert.DeltaRefIdeal.nD Cert.DeltaRefIdeal.τ).loc Cert.DeltaRefIdeal.main_arg7) = m ((c.tc : Thread Cert.DeltaRefIdeal.nD Cert.DeltaRefIdeal.τ).loc Cert.DeltaRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v21_0)) (v1 : (c : Dev Cert.InProjIdeal.nD) → Buf (Elt Ideal) ((c.tc : Thread Cert.InProjIdeal.nD Cert.InProjIdeal.τ).loc Cert.InProjIdeal.main_v21_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v21_0) = v0 c
          ∧ r.2.mem ((c.tc : Thread Cert.InProjIdeal.nD Cert.InProjIdeal.τ).loc Cert.InProjIdeal.main_v21_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v36) = v0 c
          ∧ r.2.mem ((c.tc : Thread Cert.InRefIdeal.nD Cert.InRefIdeal.τ).loc Cert.InRefIdeal.main_v40) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_InLast_InLastIdeal : Prop :=
  True

def algebraic_InLastIdeal_InLastRefIdeal [hInLastIdeal : Cert.InLastIdeal.Facts] [hInLastRefIdeal : Cert.InLastRefIdeal.Facts] : Prop :=
  ∀ (m : (ℓ : Loc Cert.InLastIdeal.nD Cert.InLastIdeal.τ Cert.InLastIdeal.sig) → Buf (Elt Ideal) ℓ) (g : Dev Cert.InLastIdeal.nD → PrngReg)
    (m' : (ℓ : Loc Cert.InLastRefIdeal.nD Cert.InLastRefIdeal.τ Cert.InLastRefIdeal.sig) → Buf (Elt Ideal) ℓ) (g' : Dev Cert.InLastRefIdeal.nD → PrngReg), Pre_InLastIdeal m →
    (∀ c : Dev Cert.InLastIdeal.nD,
      m' ((c.tc : Thread Cert.InLastRefIdeal.nD Cert.InLastRefIdeal.τ).loc Cert.InLastRefIdeal.main_arg0) = m ((c.tc : Thread Cert.InLastIdeal.nD Cert.InLastIdeal.τ).loc Cert.InLastIdeal.main_arg0)
      ∧ m' ((c.tc : Thread Cert.InLastRefIdeal.nD Cert.InLastRefIdeal.τ).loc Cert.InLastRefIdeal.main_arg1) = m ((c.tc : Thread Cert.InLastIdeal.nD Cert.InLastIdeal.τ).loc Cert.InLastIdeal.main_arg1)
      ∧ m' ((c.tc : Thread Cert.InLastRefIdeal.nD Cert.InLastRefIdeal.τ).loc Cert.InLastRefIdeal.main_arg2) = m ((c.tc : Thread Cert.InLastIdeal.nD Cert.InLastIdeal.τ).loc Cert.InLastIdeal.main_arg2)
      ∧ m' ((c.tc : Thread Cert.InLastRefIdeal.nD Cert.InLastRefIdeal.τ).loc Cert.InLastRefIdeal.main_arg3) = m ((c.tc : Thread Cert.InLastIdeal.nD Cert.InLastIdeal.τ).loc Cert.InLastIdeal.main_arg3)) →
    ∃ (v0 : (c : Dev Cert.InLastIdeal.nD) → Buf (Elt Ideal) ((c.tc : Thread Cert.InLastIdeal.nD Cert.InLastIdeal.τ).loc Cert.InLastIdeal.main_v20_0)) (v1 : (c : Dev Cert.InLastIdeal.nD) → Buf (Elt Ideal) ((c.tc : Thread Cert.InLastIdeal.nD Cert.InLastIdeal.τ).loc Cert.InLastIdeal.main_v20_1)),
      θ_run (Cert.InLastIdeal.defs (F := Ideal)) (onTc (τ := Cert.InLastIdeal.τ) (Cert.InLastIdeal.main (F := Ideal))) ⟨m, fun _ => 0, g⟩ (fun r => ∀ c : Dev Cert.InLastIdeal.nD,
          r.2.mem ((c.tc : Thread Cert.InLastIdeal.nD Cert.InLastIdeal.τ).loc Cert.InLastIdeal.main_v20_0) = v0 c
          ∧ r.2.mem ((c.tc : Thread Cert.InLastIdeal.nD Cert.InLastIdeal.τ).loc Cert.InLastIdeal.main_v20_1) = v1 c
          ∧ r.2.mem ((c.tc : Thread Cert.InLastIdeal.nD Cert.InLastIdeal.τ).loc Cert.InLastIdeal.main_arg0) = m ((c.tc : Thread Cert.InLastIdeal.nD Cert.InLastIdeal.τ).loc Cert.InLastIdeal.main_arg0)
          ∧ r.2.mem ((c.tc : Thread Cert.InLastIdeal.nD Cert.InLastIdeal.τ).loc Cert.InLastIdeal.main_arg1) = m ((c.tc : Thread Cert.InLastIdeal.nD Cert.InLastIdeal.τ).loc Cert.InLastIdeal.main_arg1)
          ∧ r.2.mem ((c.tc : Thread Cert.InLastIdeal.nD Cert.InLastIdeal.τ).loc Cert.InLastIdeal.main_arg2) = m ((c.tc : Thread Cert.InLastIdeal.nD Cert.InLastIdeal.τ).loc Cert.InLastIdeal.main_arg2)
          ∧ r.2.mem ((c.tc : Thread Cert.InLastIdeal.nD Cert.InLastIdeal.τ).loc Cert.InLastIdeal.main_arg3) = m ((c.tc : Thread Cert.InLastIdeal.nD Cert.InLastIdeal.τ).loc Cert.InLastIdeal.main_arg3))
      ∧ θ_run (Cert.InLastRefIdeal.defs (F := Ideal)) (onTc (τ := Cert.InLastRefIdeal.τ) (Cert.InLastRefIdeal.main (F := Ideal))) ⟨m', fun _ => 0, g'⟩ (fun r => ∀ c : Dev Cert.InLastRefIdeal.nD,
          r.2.mem ((c.tc : Thread Cert.InLastRefIdeal.nD Cert.InLastRefIdeal.τ).loc Cert.InLastRefIdeal.main_v31) = v0 c
          ∧ r.2.mem ((c.tc : Thread Cert.InLastRefIdeal.nD Cert.InLastRefIdeal.τ).loc Cert.InLastRefIdeal.main_v33) = v1 c
          ∧ r.2.mem ((c.tc : Thread Cert.InLastRefIdeal.nD Cert.InLastRefIdeal.τ).loc Cert.InLastRefIdeal.main_arg0) = m' ((c.tc : Thread Cert.InLastRefIdeal.nD Cert.InLastRefIdeal.τ).loc Cert.InLastRefIdeal.main_arg0)
          ∧ r.2.mem ((c.tc : Thread Cert.InLastRefIdeal.nD Cert.InLastRefIdeal.τ).loc Cert.InLastRefIdeal.main_arg1) = m' ((c.tc : Thread Cert.InLastRefIdeal.nD Cert.InLastRefIdeal.τ).loc Cert.InLastRefIdeal.main_arg1)
          ∧ r.2.mem ((c.tc : Thread Cert.InLastRefIdeal.nD Cert.InLastRefIdeal.τ).loc Cert.InLastRefIdeal.main_arg2) = m' ((c.tc : Thread Cert.InLastRefIdeal.nD Cert.InLastRefIdeal.τ).loc Cert.InLastRefIdeal.main_arg2)
          ∧ r.2.mem ((c.tc : Thread Cert.InLastRefIdeal.nD Cert.InLastRefIdeal.τ).loc Cert.InLastRefIdeal.main_arg3) = m' ((c.tc : Thread Cert.InLastRefIdeal.nD Cert.InLastRefIdeal.τ).loc Cert.InLastRefIdeal.main_arg3))

def preserves_OutFirst_OutFirstIdeal : Prop :=
  True

def algebraic_OutFirstIdeal_OutFirstRefIdeal [hOutFirstIdeal : Cert.OutFirstIdeal.Facts] [hOutFirstRefIdeal : Cert.OutFirstRefIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg)
    (m' : (ℓ : Loc Cert.OutFirstRefIdeal.nD Cert.OutFirstRefIdeal.τ Cert.OutFirstRefIdeal.sig) → Buf (Elt Ideal) ℓ) (g' : Dev Cert.OutFirstRefIdeal.nD → PrngReg), Pre_OutFirstIdeal m →
    (∀ c : Dev Cert.OutFirstIdeal.nD,
      m' ((c.tc : Thread Cert.OutFirstRefIdeal.nD Cert.OutFirstRefIdeal.τ).loc Cert.OutFirstRefIdeal.main_arg0) = m ((c.tc : Thread Cert.OutFirstIdeal.nD Cert.OutFirstIdeal.τ).loc Cert.OutFirstIdeal.main_arg0)
      ∧ m' ((c.tc : Thread Cert.OutFirstRefIdeal.nD Cert.OutFirstRefIdeal.τ).loc Cert.OutFirstRefIdeal.main_arg1) = m ((c.tc : Thread Cert.OutFirstIdeal.nD Cert.OutFirstIdeal.τ).loc Cert.OutFirstIdeal.main_arg1)
      ∧ m' ((c.tc : Thread Cert.OutFirstRefIdeal.nD Cert.OutFirstRefIdeal.τ).loc Cert.OutFirstRefIdeal.main_arg2) = m ((c.tc : Thread Cert.OutFirstIdeal.nD Cert.OutFirstIdeal.τ).loc Cert.OutFirstIdeal.main_arg2)
      ∧ m' ((c.tc : Thread Cert.OutFirstRefIdeal.nD Cert.OutFirstRefIdeal.τ).loc Cert.OutFirstRefIdeal.main_arg3) = m ((c.tc : Thread Cert.OutFirstIdeal.nD Cert.OutFirstIdeal.τ).loc Cert.OutFirstIdeal.main_arg3)
      ∧ m' ((c.tc : Thread Cert.OutFirstRefIdeal.nD Cert.OutFirstRefIdeal.τ).loc Cert.OutFirstRefIdeal.main_arg4) = m ((c.tc : Thread Cert.OutFirstIdeal.nD Cert.OutFirstIdeal.τ).loc Cert.OutFirstIdeal.main_arg4)
      ∧ m' ((c.tc : Thread Cert.OutFirstRefIdeal.nD Cert.OutFirstRefIdeal.τ).loc Cert.OutFirstRefIdeal.main_arg5) = m ((c.tc : Thread Cert.OutFirstIdeal.nD Cert.OutFirstIdeal.τ).loc Cert.OutFirstIdeal.main_arg5)
      ∧ m' ((c.tc : Thread Cert.OutFirstRefIdeal.nD Cert.OutFirstRefIdeal.τ).loc Cert.OutFirstRefIdeal.main_arg6) = m ((c.tc : Thread Cert.OutFirstIdeal.nD Cert.OutFirstIdeal.τ).loc Cert.OutFirstIdeal.main_arg6)
      ∧ m' ((c.tc : Thread Cert.OutFirstRefIdeal.nD Cert.OutFirstRefIdeal.τ).loc Cert.OutFirstRefIdeal.main_arg7) = m ((c.tc : Thread Cert.OutFirstIdeal.nD Cert.OutFirstIdeal.τ).loc Cert.OutFirstIdeal.main_arg7)
      ∧ m' ((c.tc : Thread Cert.OutFirstRefIdeal.nD Cert.OutFirstRefIdeal.τ).loc Cert.OutFirstRefIdeal.main_arg8) = m ((c.tc : Thread Cert.OutFirstIdeal.nD Cert.OutFirstIdeal.τ).loc Cert.OutFirstIdeal.main_arg8)) →
    ∃ (v0 : (c : Dev Cert.OutFirstIdeal.nD) → Buf (Elt Ideal) ((c.tc : Thread Cert.OutFirstIdeal.nD Cert.OutFirstIdeal.τ).loc Cert.OutFirstIdeal.main_v14)),
      θ_run (Cert.OutFirstIdeal.defs (F := Ideal)) (onTc (τ := Cert.OutFirstIdeal.τ) (Cert.OutFirstIdeal.main (F := Ideal))) ⟨m, fun _ => 0, g⟩ (fun r => ∀ c : Dev Cert.OutFirstIdeal.nD,
          r.2.mem ((c.tc : Thread Cert.OutFirstIdeal.nD Cert.OutFirstIdeal.τ).loc Cert.OutFirstIdeal.main_v14) = v0 c
          ∧ r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
          ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1)
          ∧ r.2.mem ((c.tc : Thread Cert.OutFirstIdeal.nD Cert.OutFirstIdeal.τ).loc Cert.OutFirstIdeal.main_arg2) = m ((c.tc : Thread Cert.OutFirstIdeal.nD Cert.OutFirstIdeal.τ).loc Cert.OutFirstIdeal.main_arg2)
          ∧ r.2.mem ((c.tc : Thread Cert.OutFirstIdeal.nD Cert.OutFirstIdeal.τ).loc Cert.OutFirstIdeal.main_arg3) = m ((c.tc : Thread Cert.OutFirstIdeal.nD Cert.OutFirstIdeal.τ).loc Cert.OutFirstIdeal.main_arg3)
          ∧ r.2.mem ((c.tc : Thread Cert.OutFirstIdeal.nD Cert.OutFirstIdeal.τ).loc Cert.OutFirstIdeal.main_arg4) = m ((c.tc : Thread Cert.OutFirstIdeal.nD Cert.OutFirstIdeal.τ).loc Cert.OutFirstIdeal.main_arg4)
          ∧ r.2.mem ((c.tc : Thread Cert.OutFirstIdeal.nD Cert.OutFirstIdeal.τ).loc Cert.OutFirstIdeal.main_arg5) = m ((c.tc : Thread Cert.OutFirstIdeal.nD Cert.OutFirstIdeal.τ).loc Cert.OutFirstIdeal.main_arg5)
          ∧ r.2.mem ((c.tc : Thread Cert.OutFirstIdeal.nD Cert.OutFirstIdeal.τ).loc Cert.OutFirstIdeal.main_arg6) = m ((c.tc : Thread Cert.OutFirstIdeal.nD Cert.OutFirstIdeal.τ).loc Cert.OutFirstIdeal.main_arg6)
          ∧ r.2.mem ((c.tc : Thread Cert.OutFirstIdeal.nD Cert.OutFirstIdeal.τ).loc Cert.OutFirstIdeal.main_arg7) = m ((c.tc : Thread Cert.OutFirstIdeal.nD Cert.OutFirstIdeal.τ).loc Cert.OutFirstIdeal.main_arg7)
          ∧ r.2.mem ((c.tc : Thread Cert.OutFirstIdeal.nD Cert.OutFirstIdeal.τ).loc Cert.OutFirstIdeal.main_arg8) = m ((c.tc : Thread Cert.OutFirstIdeal.nD Cert.OutFirstIdeal.τ).loc Cert.OutFirstIdeal.main_arg8))
      ∧ θ_run (Cert.OutFirstRefIdeal.defs (F := Ideal)) (onTc (τ := Cert.OutFirstRefIdeal.τ) (Cert.OutFirstRefIdeal.main (F := Ideal))) ⟨m', fun _ => 0, g'⟩ (fun r => ∀ c : Dev Cert.OutFirstRefIdeal.nD,
          r.2.mem ((c.tc : Thread Cert.OutFirstRefIdeal.nD Cert.OutFirstRefIdeal.τ).loc Cert.OutFirstRefIdeal.main_v85) = v0 c
          ∧ r.2.mem ((c.tc : Thread Cert.OutFirstRefIdeal.nD Cert.OutFirstRefIdeal.τ).loc Cert.OutFirstRefIdeal.main_arg0) = m' ((c.tc : Thread Cert.OutFirstRefIdeal.nD Cert.OutFirstRefIdeal.τ).loc Cert.OutFirstRefIdeal.main_arg0)
          ∧ r.2.mem ((c.tc : Thread Cert.OutFirstRefIdeal.nD Cert.OutFirstRefIdeal.τ).loc Cert.OutFirstRefIdeal.main_arg1) = m' ((c.tc : Thread Cert.OutFirstRefIdeal.nD Cert.OutFirstRefIdeal.τ).loc Cert.OutFirstRefIdeal.main_arg1)
          ∧ r.2.mem ((c.tc : Thread Cert.OutFirstRefIdeal.nD Cert.OutFirstRefIdeal.τ).loc Cert.OutFirstRefIdeal.main_arg2) = m' ((c.tc : Thread Cert.OutFirstRefIdeal.nD Cert.OutFirstRefIdeal.τ).loc Cert.OutFirstRefIdeal.main_arg2)
          ∧ r.2.mem ((c.tc : Thread Cert.OutFirstRefIdeal.nD Cert.OutFirstRefIdeal.τ).loc Cert.OutFirstRefIdeal.main_arg3) = m' ((c.tc : Thread Cert.OutFirstRefIdeal.nD Cert.OutFirstRefIdeal.τ).loc Cert.OutFirstRefIdeal.main_arg3)
          ∧ r.2.mem ((c.tc : Thread Cert.OutFirstRefIdeal.nD Cert.OutFirstRefIdeal.τ).loc Cert.OutFirstRefIdeal.main_arg4) = m' ((c.tc : Thread Cert.OutFirstRefIdeal.nD Cert.OutFirstRefIdeal.τ).loc Cert.OutFirstRefIdeal.main_arg4)
          ∧ r.2.mem ((c.tc : Thread Cert.OutFirstRefIdeal.nD Cert.OutFirstRefIdeal.τ).loc Cert.OutFirstRefIdeal.main_arg5) = m' ((c.tc : Thread Cert.OutFirstRefIdeal.nD Cert.OutFirstRefIdeal.τ).loc Cert.OutFirstRefIdeal.main_arg5)
          ∧ r.2.mem ((c.tc : Thread Cert.OutFirstRefIdeal.nD Cert.OutFirstRefIdeal.τ).loc Cert.OutFirstRefIdeal.main_arg6) = m' ((c.tc : Thread Cert.OutFirstRefIdeal.nD Cert.OutFirstRefIdeal.τ).loc Cert.OutFirstRefIdeal.main_arg6)
          ∧ r.2.mem ((c.tc : Thread Cert.OutFirstRefIdeal.nD Cert.OutFirstRefIdeal.τ).loc Cert.OutFirstRefIdeal.main_arg7) = m' ((c.tc : Thread Cert.OutFirstRefIdeal.nD Cert.OutFirstRefIdeal.τ).loc Cert.OutFirstRefIdeal.main_arg7)
          ∧ r.2.mem ((c.tc : Thread Cert.OutFirstRefIdeal.nD Cert.OutFirstRefIdeal.τ).loc Cert.OutFirstRefIdeal.main_arg8) = m' ((c.tc : Thread Cert.OutFirstRefIdeal.nD Cert.OutFirstRefIdeal.τ).loc Cert.OutFirstRefIdeal.main_arg8))

def preserves_DeltaScan_DeltaScanIdeal : Prop :=
  True

def algebraic_DeltaScanIdeal_DeltaRefIdeal [hDeltaScanIdeal : Cert.DeltaScanIdeal.Facts] [hDeltaRefIdeal : Cert.DeltaRefIdeal.Facts] : Prop :=
  ∀ (m : (ℓ : Loc Cert.DeltaScanIdeal.nD Cert.DeltaScanIdeal.τ Cert.DeltaScanIdeal.sig) → Buf (Elt Ideal) ℓ) (g : Dev Cert.DeltaScanIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaScanIdeal m →
    (∀ c : Dev Cert.DeltaScanIdeal.nD,
      m' ((c.tc : Thread Cert.DeltaRefIdeal.nD Cert.DeltaRefIdeal.τ).loc Cert.DeltaRefIdeal.main_arg0) = m ((c.tc : Thread Cert.DeltaScanIdeal.nD Cert.DeltaScanIdeal.τ).loc Cert.DeltaScanIdeal.main_arg0)
      ∧ m' ((c.tc : Thread Cert.DeltaRefIdeal.nD Cert.DeltaRefIdeal.τ).loc Cert.DeltaRefIdeal.main_arg1) = m ((c.tc : Thread Cert.DeltaScanIdeal.nD Cert.DeltaScanIdeal.τ).loc Cert.DeltaScanIdeal.main_arg1)
      ∧ m' ((c.tc : Thread Cert.DeltaRefIdeal.nD Cert.DeltaRefIdeal.τ).loc Cert.DeltaRefIdeal.main_arg2) = m ((c.tc : Thread Cert.DeltaScanIdeal.nD Cert.DeltaScanIdeal.τ).loc Cert.DeltaScanIdeal.main_arg2)
      ∧ m' ((c.tc : Thread Cert.DeltaRefIdeal.nD Cert.DeltaRefIdeal.τ).loc Cert.DeltaRefIdeal.main_arg3) = m ((c.tc : Thread Cert.DeltaScanIdeal.nD Cert.DeltaScanIdeal.τ).loc Cert.DeltaScanIdeal.main_arg3)
      ∧ m' ((c.tc : Thread Cert.DeltaRefIdeal.nD Cert.DeltaRefIdeal.τ).loc Cert.DeltaRefIdeal.main_arg4) = m ((c.tc : Thread Cert.DeltaScanIdeal.nD Cert.DeltaScanIdeal.τ).loc Cert.DeltaScanIdeal.main_arg4)
      ∧ m' ((c.tc : Thread Cert.DeltaRefIdeal.nD Cert.DeltaRefIdeal.τ).loc Cert.DeltaRefIdeal.main_arg5) = m ((c.tc : Thread Cert.DeltaScanIdeal.nD Cert.DeltaScanIdeal.τ).loc Cert.DeltaScanIdeal.main_arg5)
      ∧ m' ((c.tc : Thread Cert.DeltaRefIdeal.nD Cert.DeltaRefIdeal.τ).loc Cert.DeltaRefIdeal.main_arg6) = m ((c.tc : Thread Cert.DeltaScanIdeal.nD Cert.DeltaScanIdeal.τ).loc Cert.DeltaScanIdeal.main_arg6)
      ∧ m' ((c.tc : Thread Cert.DeltaRefIdeal.nD Cert.DeltaRefIdeal.τ).loc Cert.DeltaRefIdeal.main_arg7) = m ((c.tc : Thread Cert.DeltaScanIdeal.nD Cert.DeltaScanIdeal.τ).loc Cert.DeltaScanIdeal.main_arg7)) →
    ∃ (v0 : (c : Dev Cert.DeltaScanIdeal.nD) → Buf (Elt Ideal) ((c.tc : Thread Cert.DeltaScanIdeal.nD Cert.DeltaScanIdeal.τ).loc Cert.DeltaScanIdeal.main_v10)),
      θ_run (Cert.DeltaScanIdeal.defs (F := Ideal)) (onTc (τ := Cert.DeltaScanIdeal.τ) (Cert.DeltaScanIdeal.main (F := Ideal))) ⟨m, fun _ => 0, g⟩ (fun r => ∀ c : Dev Cert.DeltaScanIdeal.nD,
          r.2.mem ((c.tc : Thread Cert.DeltaScanIdeal.nD Cert.DeltaScanIdeal.τ).loc Cert.DeltaScanIdeal.main_v10) = v0 c
          ∧ r.2.mem ((c.tc : Thread Cert.DeltaScanIdeal.nD Cert.DeltaScanIdeal.τ).loc Cert.DeltaScanIdeal.main_arg0) = m ((c.tc : Thread Cert.DeltaScanIdeal.nD Cert.DeltaScanIdeal.τ).loc Cert.DeltaScanIdeal.main_arg0)
          ∧ r.2.mem ((c.tc : Thread Cert.DeltaScanIdeal.nD Cert.DeltaScanIdeal.τ).loc Cert.DeltaScanIdeal.main_arg1) = m ((c.tc : Thread Cert.DeltaScanIdeal.nD Cert.DeltaScanIdeal.τ).loc Cert.DeltaScanIdeal.main_arg1)
          ∧ r.2.mem ((c.tc : Thread Cert.DeltaScanIdeal.nD Cert.DeltaScanIdeal.τ).loc Cert.DeltaScanIdeal.main_arg2) = m ((c.tc : Thread Cert.DeltaScanIdeal.nD Cert.DeltaScanIdeal.τ).loc Cert.DeltaScanIdeal.main_arg2)
          ∧ r.2.mem ((c.tc : Thread Cert.DeltaScanIdeal.nD Cert.DeltaScanIdeal.τ).loc Cert.DeltaScanIdeal.main_arg3) = m ((c.tc : Thread Cert.DeltaScanIdeal.nD Cert.DeltaScanIdeal.τ).loc Cert.DeltaScanIdeal.main_arg3)
          ∧ r.2.mem ((c.tc : Thread Cert.DeltaScanIdeal.nD Cert.DeltaScanIdeal.τ).loc Cert.DeltaScanIdeal.main_arg4) = m ((c.tc : Thread Cert.DeltaScanIdeal.nD Cert.DeltaScanIdeal.τ).loc Cert.DeltaScanIdeal.main_arg4)
          ∧ r.2.mem ((c.tc : Thread Cert.DeltaScanIdeal.nD Cert.DeltaScanIdeal.τ).loc Cert.DeltaScanIdeal.main_arg5) = m ((c.tc : Thread Cert.DeltaScanIdeal.nD Cert.DeltaScanIdeal.τ).loc Cert.DeltaScanIdeal.main_arg5)
          ∧ r.2.mem ((c.tc : Thread Cert.DeltaScanIdeal.nD Cert.DeltaScanIdeal.τ).loc Cert.DeltaScanIdeal.main_arg6) = m ((c.tc : Thread Cert.DeltaScanIdeal.nD Cert.DeltaScanIdeal.τ).loc Cert.DeltaScanIdeal.main_arg6)
          ∧ r.2.mem ((c.tc : Thread Cert.DeltaScanIdeal.nD Cert.DeltaScanIdeal.τ).loc Cert.DeltaScanIdeal.main_arg7) = m ((c.tc : Thread Cert.DeltaScanIdeal.nD Cert.DeltaScanIdeal.τ).loc Cert.DeltaScanIdeal.main_arg7))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v50) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3)
          ∧ r.2.mem ((c.tc : Thread Cert.DeltaRefIdeal.nD Cert.DeltaRefIdeal.τ).loc Cert.DeltaRefIdeal.main_arg4) = m' ((c.tc : Thread Cert.DeltaRefIdeal.nD Cert.DeltaRefIdeal.τ).loc Cert.DeltaRefIdeal.main_arg4)
          ∧ r.2.mem ((c.tc : Thread Cert.DeltaRefIdeal.nD Cert.DeltaRefIdeal.τ).loc Cert.DeltaRefIdeal.main_arg5) = m' ((c.tc : Thread Cert.DeltaRefIdeal.nD Cert.DeltaRefIdeal.τ).loc Cert.DeltaRefIdeal.main_arg5)
          ∧ r.2.mem ((c.tc : Thread Cert.DeltaRefIdeal.nD Cert.DeltaRefIdeal.τ).loc Cert.DeltaRefIdeal.main_arg6) = m' ((c.tc : Thread Cert.DeltaRefIdeal.nD Cert.DeltaRefIdeal.τ).loc Cert.DeltaRefIdeal.main_arg6)
          ∧ r.2.mem ((c.tc : Thread Cert.DeltaRefIdeal.nD Cert.DeltaRefIdeal.τ).loc Cert.DeltaRefIdeal.main_arg7) = m' ((c.tc : Thread Cert.DeltaRefIdeal.nD Cert.DeltaRefIdeal.τ).loc Cert.DeltaRefIdeal.main_arg7))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInRefIdeal : Cert.InRefIdeal.Facts) (hInLast : Cert.InLast.Facts) (hInLastIdeal : Cert.InLastIdeal.Facts) (hInLastRefIdeal : Cert.InLastRefIdeal.Facts) (hOutFirst : Cert.OutFirst.Facts) (hOutFirstIdeal : Cert.OutFirstIdeal.Facts) (hOutFirstRefIdeal : Cert.OutFirstRefIdeal.Facts) (hDeltaScan : Cert.DeltaScan.Facts) (hDeltaScanIdeal : Cert.DeltaScanIdeal.Facts) (hDeltaRefIdeal : Cert.DeltaRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InRefIdeal (hInRefIdeal := hInRefIdeal)
    ∧ quiescent_InLast (hInLast := hInLast)
    ∧ quiescent_InLastIdeal (hInLastIdeal := hInLastIdeal)
    ∧ quiescent_InLastRefIdeal (hInLastRefIdeal := hInLastRefIdeal)
    ∧ quiescent_OutFirst (hOutFirst := hOutFirst)
    ∧ quiescent_OutFirstIdeal (hOutFirstIdeal := hOutFirstIdeal)
    ∧ quiescent_OutFirstRefIdeal (hOutFirstRefIdeal := hOutFirstRefIdeal)
    ∧ quiescent_DeltaScan (hDeltaScan := hDeltaScan)
    ∧ quiescent_DeltaScanIdeal (hDeltaScanIdeal := hDeltaScanIdeal)
    ∧ quiescent_DeltaRefIdeal (hDeltaRefIdeal := hDeltaRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InRefIdeal (hInProjIdeal := hInProjIdeal) (hInRefIdeal := hInRefIdeal)
    ∧ preserves_InLast_InLastIdeal
    ∧ algebraic_InLastIdeal_InLastRefIdeal (hInLastIdeal := hInLastIdeal) (hInLastRefIdeal := hInLastRefIdeal)
    ∧ preserves_OutFirst_OutFirstIdeal
    ∧ algebraic_OutFirstIdeal_OutFirstRefIdeal (hOutFirstIdeal := hOutFirstIdeal) (hOutFirstRefIdeal := hOutFirstRefIdeal)
    ∧ preserves_DeltaScan_DeltaScanIdeal
    ∧ algebraic_DeltaScanIdeal_DeltaRefIdeal (hDeltaScanIdeal := hDeltaScanIdeal) (hDeltaRefIdeal := hDeltaRefIdeal)
-- ==== Kernel.lean ====
abbrev S16896x1024 : Shape := ⟨2, ![16896, 1024]⟩
abbrev S16896x13824 : Shape := ⟨2, ![16896, 13824]⟩
abbrev S2x3x1024 : Shape := ⟨3, ![2, 3, 1024]⟩
abbrev S2x3x1024x1024 : Shape := ⟨4, ![2, 3, 1024, 1024]⟩
abbrev S2x1024x1024 : Shape := ⟨3, ![2, 1024, 1024]⟩
abbrev S2x1024 : Shape := ⟨2, ![2, 1024]⟩
abbrev S16x1024 : Shape := ⟨2, ![16, 1024]⟩
abbrev S_ : Shape := ⟨0, ![]⟩
abbrev S48x1024 : Shape := ⟨2, ![48, 1024]⟩
abbrev S64x1024 : Shape := ⟨2, ![64, 1024]⟩
abbrev S1x3x1024 : Shape := ⟨3, ![1, 3, 1024]⟩
abbrev S3x1024 : Shape := ⟨2, ![3, 1024]⟩
abbrev S1x3x1024x1024 : Shape := ⟨4, ![1, 3, 1024, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16384x1024 : Shape := ⟨2, ![16384, 1024]⟩
abbrev S512x1024 : Shape := ⟨2, ![512, 1024]⟩
abbrev S512x3072 : Shape := ⟨2, ![512, 3072]⟩
abbrev S8x1024 : Shape := ⟨2, ![8, 1024]⟩
abbrev S24x1024 : Shape := ⟨2, ![24, 1024]⟩
abbrev S504x1024 : Shape := ⟨2, ![504, 1024]⟩
abbrev S512 : Shape := ⟨1, ![512]⟩
abbrev S512x1 : Shape := ⟨2, ![512, 1]⟩

abbrev nBuf : Space → Nat
  | .hbm => 24
  | .vmem => 27
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x13824, .bf16⟩
  | .hbm, ⟨3, _⟩ => ⟨S16896x1024, .f32⟩
  | .hbm, ⟨4, _⟩ => ⟨S2x3x1024, .f32⟩
  | .hbm, ⟨5, _⟩ => ⟨S2x3x1024x1024, .f32⟩
  | .hbm, ⟨6, _⟩ => ⟨S2x1024x1024, .f32⟩
  | .hbm, ⟨7, _⟩ => ⟨S2x1024, .f32⟩
  | .hbm, ⟨8, _⟩ => ⟨S16x1024, .f32⟩
  | .hbm, ⟨9, _⟩ => ⟨S_, .f32⟩
  | .hbm, ⟨10, _⟩ => ⟨S48x1024, .f32⟩
  | .hbm, ⟨11, _⟩ => ⟨S64x1024, .f32⟩
  | .hbm, ⟨12, _⟩ => ⟨S1x3x1024, .f32⟩
  | .hbm, ⟨13, _⟩ => ⟨S3x1024, .f32⟩
  | .hbm, ⟨14, _⟩ => ⟨S1x3x1024x1024, .f32⟩
  | .hbm, ⟨15, _⟩ => ⟨S3x1024x1024, .f32⟩
  | .hbm, ⟨16, _⟩ => ⟨S3x1024x1024, .bf16⟩
  | .hbm, ⟨17, _⟩ => ⟨S1x1024x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S512x3072, .bf16⟩
  | .local _ .vmem, ⟨17, _⟩ => ⟨S512x3072, .bf16⟩
  | .local _ .vmem, ⟨18, _⟩ => ⟨S512x1024, .f32⟩
  | .local _ .vmem, ⟨19, _⟩ => ⟨S512x1024, .f32⟩
  | .local _ .vmem, ⟨20, _⟩ => ⟨S64x1024, .f32⟩
  | .local _ .vmem, ⟨21, _⟩ => ⟨S3x1024, .f32⟩
  | .local _ .vmem, ⟨22, _⟩ => ⟨S3x1024x1024, .bf16⟩
  | .local _ .vmem, ⟨23, _⟩ => ⟨S1024x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c7168_i32 : BitVec 32 := 7168#32
  let c0_i32 : BitVec 32 := 0#32
  ![v4.toNat, c7168_i32.toNat]

def cc0_transform_3 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c8192_i32 : BitVec 32 := 8192#32
  let c0_i32 : BitVec 32 := 0#32
  ![v4.toNat, c8192_i32.toNat]

def cc0_transform_4 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c1_i32 : BitVec 32 := 1#32
  let v4 : BitVec 32 := Scalar.subi v3 c1_i32
  let c16_i32 : BitVec 32 := 16#32
  let v5 : BitVec 32 := Scalar.muli v4 c16_i32
  let c8192_i32 : BitVec 32 := 8192#32
  let c0_i32 : BitVec 32 := 0#32
  ![v5.toNat, c8192_i32.toNat]

def cc0_transform_5 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c9216_i32 : BitVec 32 := 9216#32
  let c0_i32 : BitVec 32 := 0#32
  ![v4.toNat, c9216_i32.toNat]

def cc0_transform_6 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c1_i32 : BitVec 32 := 1#32
  let v4 : BitVec 32 := Scalar.subi v3 c1_i32
  let c16_i32 : BitVec 32 := 16#32
  let v5 : BitVec 32 := Scalar.muli v4 c16_i32
  let c9216_i32 : BitVec 32 := 9216#32
  let c0_i32 : BitVec 32 := 0#32
  ![v5.toNat, c9216_i32.toNat]

def cc0_transform_7 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c10240_i32 : BitVec 32 := 10240#32
  let c0_i32 : BitVec 32 := 0#32
  ![v4.toNat, c10240_i32.toNat]

def cc0_transform_8 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let c4_i32 : BitVec 32 := 4#32
  let v1 : BitVec 32 := Scalar.addi v0 c4_i32
  let c32_i32 : BitVec 32 := 32#32
  let v2 : BitVec 32 := Scalar.muli arg1 c32_i32
  let v3 : BitVec 32 := Scalar.addi v1 v2
  let c16_i32 : BitVec 32 := 16#32
  let v4 : BitVec 32 := Scalar.muli v3 c16_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S16896x1024 : Shape := ⟨2, ![16896, 1024]⟩
abbrev S16896x13824 : Shape := ⟨2, ![16896, 13824]⟩
abbrev S2x3x1024 : Shape := ⟨3, ![2, 3, 1024]⟩
abbrev S2x3x1024x1024 : Shape := ⟨4, ![2, 3, 1024, 1024]⟩
abbrev S2x1024x1024 : Shape := ⟨3, ![2, 1024, 1024]⟩
abbrev S2x1024 : Shape := ⟨2, ![2, 1024]⟩
abbrev S16x1024 : Shape := ⟨2, ![16, 1024]⟩
abbrev S8x2112x1024 : Shape := ⟨3, ![8, 2112, 1024]⟩
abbrev S8x2064x1024 : Shape := ⟨3, ![8, 2064, 1024]⟩
abbrev S8x2112x13824 : Shape := ⟨3, ![8, 2112, 13824]⟩
abbrev S8x2064x13824 : Shape := ⟨3, ![8, 2064, 13824]⟩
abbrev S8x2064x3072 : Shape := ⟨3, ![8, 2064, 3072]⟩
abbrev S8x2064x1536 : Shape := ⟨3, ![8, 2064, 1536]⟩
abbrev S1x3x1024 : Shape := ⟨3, ![1, 3, 1024]⟩
abbrev S3x1024 : Shape := ⟨2, ![3, 1024]⟩
abbrev S_ : Shape := ⟨0, ![]⟩
abbrev S8x2066x1024 : Shape := ⟨3, ![8, 2066, 1024]⟩
abbrev S1x1024 : Shape := ⟨2, ![1, 1024]⟩
abbrev S1024 : Shape := ⟨1, ![1024]⟩
abbrev S1x1x1024 : Shape := ⟨3, ![1, 1, 1024]⟩
abbrev S8x2064x1x1024 : Shape := ⟨4, ![8, 2064, 1, 1024]⟩
abbrev S8x2064x3x1024 : Shape := ⟨4, ![8, 2064, 3, 1024]⟩
abbrev S1x3x1024x1024 : Shape := ⟨4, ![1, 3, 1024, 1024]⟩
abbrev S3x1024x1024 : Shape := ⟨3, ![3, 1024, 1024]⟩
abbrev S3x1024x8x2064 : Shape := ⟨4, ![3, 1024, 8, 2064]⟩
abbrev S1x1024x1024 : Shape := ⟨3, ![1, 1024, 1024]⟩
abbrev S1024x1024 : Shape := ⟨2, ![1024, 1024]⟩
abbrev S8x2064 : Shape := ⟨2, ![8, 2064]⟩
abbrev S8x2064x1 : Shape := ⟨3, ![8, 2064, 1]⟩
abbrev S8x2048x1024 : Shape := ⟨3, ![8, 2048, 1024]⟩
abbrev S16384x1024 : Shape := ⟨2, ![16384, 1024]⟩

abbrev nBuf : Space → Nat
  | .hbm => 113
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x13824, .bf16⟩
  | .hbm, ⟨3, _⟩ => ⟨S16896x1024, .f32⟩
  | .hbm, ⟨4, _⟩ => ⟨S2x3x1024, .f32⟩
  | .hbm, ⟨5, _⟩ => ⟨S2x3x1024x1024, .f32⟩
  | .hbm, ⟨6, _⟩ => ⟨S2x1024x1024, .f32⟩
  | .hbm, ⟨7, _⟩ => ⟨S2x1024, .f32⟩
  | .hbm, ⟨8, _⟩ => ⟨S16x1024, .f32⟩
  | .hbm, ⟨9, _⟩ => ⟨S16896x1024, .f32⟩
  | .hbm, ⟨10, _⟩ => ⟨S8x2112x1024, .f32⟩
  | .hbm, ⟨11, _⟩ => ⟨S8x2064x1024, .f32⟩
  | .hbm, ⟨12, _⟩ => ⟨S16896x1024, .f32⟩
  | .hbm, ⟨13, _⟩ => ⟨S8x2112x1024, .f32⟩
  | .hbm, ⟨14, _⟩ => ⟨S8x2064x1024, .f32⟩
  | .hbm, ⟨15, _⟩ => ⟨S16896x13824, .f32⟩
  | .hbm, ⟨16, _⟩ => ⟨S8x2112x13824, .f32⟩
  | .hbm, ⟨17, _⟩ => ⟨S8x2064x13824, .f32⟩
  | .hbm, ⟨18, _⟩ => ⟨S8x2112x1024, .f32⟩
  | .hbm, ⟨19, _⟩ => ⟨S8x2064x1024, .f32⟩
  | .hbm, ⟨20, _⟩ => ⟨S8x2064x3072, .f32⟩
  | .hbm, ⟨21, _⟩ => ⟨S8x2064x3072, .f32⟩
  | .hbm, ⟨22, _⟩ => ⟨S8x2064x1024, .f32⟩
  | .hbm, ⟨23, _⟩ => ⟨S8x2064x1024, .f32⟩
  | .hbm, ⟨24, _⟩ => ⟨S8x2064x1024, .f32⟩
  | .hbm, ⟨25, _⟩ => ⟨S8x2064x1024, .f32⟩
  | .hbm, ⟨26, _⟩ => ⟨S8x2064x1024, .f32⟩
  | .hbm, ⟨27, _⟩ => ⟨S8x2064x1024, .f32⟩
  | .hbm, ⟨28, _⟩ => ⟨S8x2064x1536, .f32⟩
  | .hbm, ⟨29, _⟩ => ⟨S1x3x1024, .f32⟩
  | .hbm, ⟨30, _⟩ => ⟨S3x1024, .f32⟩
  | .hbm, ⟨31, _⟩ => ⟨S8x2064x1024, .f32⟩
  | .hbm, ⟨32, _⟩ => ⟨S_, .i32⟩
  | .hbm, ⟨33, _⟩ => ⟨S_, .f32⟩
  | .hbm, ⟨34, _⟩ => ⟨S8x2066x1024, .f32⟩
  | .hbm, ⟨35, _⟩ => ⟨S1x1024, .f32⟩
  | .hbm, ⟨36, _⟩ => ⟨S1024, .f32⟩
  | .hbm, ⟨37, _⟩ => ⟨S8x2064x1024, .f32⟩
  | .hbm, ⟨38, _⟩ => ⟨S1x1x1024, .f32⟩
  | .hbm, ⟨39, _⟩ => ⟨S8x2064x1024, .f32⟩
  | .hbm, ⟨40, _⟩ => ⟨S8x2064x1024, .f32⟩
  | .hbm, ⟨41, _⟩ => ⟨S_, .f32⟩
  | .hbm, ⟨42, _⟩ => ⟨S8x2064x1024, .f32⟩
  | .hbm, ⟨43, _⟩ => ⟨S8x2064x1024, .f32⟩
  | .hbm, ⟨44, _⟩ => ⟨S1x1024, .f32⟩
  | .hbm, ⟨45, _⟩ => ⟨S1024, .f32⟩
  | .hbm, ⟨46, _⟩ => ⟨S8x2064x1024, .f32⟩
  | .hbm, ⟨47, _⟩ => ⟨S1x1x1024, .f32⟩
  | .hbm, ⟨48, _⟩ => ⟨S8x2064x1024, .f32⟩
  | .hbm, ⟨49, _⟩ => ⟨S8x2064x1024, .f32⟩
  | .hbm, ⟨50, _⟩ => ⟨S8x2064x1024, .f32⟩
  | .hbm, ⟨51, _⟩ => ⟨S1x1024, .f32⟩
  | .hbm, ⟨52, _⟩ => ⟨S1024, .f32⟩
  | .hbm, ⟨53, _⟩ => ⟨S8x2064x1024, .f32⟩
  | .hbm, ⟨54, _⟩ => ⟨S1x1x1024, .f32⟩
  | .hbm, ⟨55, _⟩ => ⟨S8x2064x1024, .f32⟩
  | .hbm, ⟨56, _⟩ => ⟨S8x2064x1024, .f32⟩
  | .hbm, ⟨57, _⟩ => ⟨S8x2064x1024, .f32⟩
  | .hbm, ⟨58, _⟩ => ⟨S8x2064x1024, .f32⟩
  | .hbm, ⟨59, _⟩ => ⟨S8x2064x1024, .f32⟩
  | .hbm, ⟨60, _⟩ => ⟨S8x2064x1024, .f32⟩
  | .hbm, ⟨61, _⟩ => ⟨S_, .f32⟩
  | .hbm, ⟨62, _⟩ => ⟨S8x2064x1024, .f32⟩
  | .hbm, ⟨63, _⟩ => ⟨S8x2064x1024, .f32⟩
  | .hbm, ⟨64, _⟩ => ⟨S_, .f32⟩
  | .hbm, ⟨65, _⟩ => ⟨S8x2064x1024, .f32⟩
  | .hbm, ⟨66, _⟩ => ⟨S8x2064x1024, .f32⟩
  | .hbm, ⟨67, _⟩ => ⟨S8x2064x1024, .f32⟩
  | .hbm, ⟨68, _⟩ => ⟨S8x2064x1024, .f32⟩
  | .hbm, ⟨69, _⟩ => ⟨S8x2064x1x1024, .f32⟩
  | .hbm, ⟨70, _⟩ => ⟨S8x2064x1x1024, .f32⟩
  | .hbm, ⟨71, _⟩ => ⟨S8x2064x1x1024, .f32⟩
  | .hbm, ⟨72, _⟩ => ⟨S8x2064x3x1024, .f32⟩
  | .hbm, ⟨73, _⟩ => ⟨S1x3x1024x1024, .f32⟩
  | .hbm, ⟨74, _⟩ => ⟨S3x1024x1024, .f32⟩
  | .hbm, ⟨75, _⟩ => ⟨S3x1024x8x2064, .f32⟩
  | .hbm, ⟨76, _⟩ => ⟨S8x2064x3x1024, .f32⟩
  | .hbm, ⟨77, _⟩ => ⟨S8x2064x3x1024, .f32⟩
  | .hbm, ⟨78, _⟩ => ⟨S8x2064x3x1024, .f32⟩
  | .hbm, ⟨79, _⟩ => ⟨S8x2064x3x1024, .f32⟩
  | .hbm, ⟨80, _⟩ => ⟨S_, .f32⟩
  | .hbm, ⟨81, _⟩ => ⟨S8x2064x3x1024, .f32⟩
  | .hbm, ⟨82, _⟩ => ⟨S8x2064x3x1024, .f32⟩
  | .hbm, ⟨83, _⟩ => ⟨S_, .f32⟩
  | .hbm, ⟨84, _⟩ => ⟨S8x2064x3x1024, .f32⟩
  | .hbm, ⟨85, _⟩ => ⟨S8x2064x3x1024, .f32⟩
  | .hbm, ⟨86, _⟩ => ⟨S8x2064x3x1024, .f32⟩
  | .hbm, ⟨87, _⟩ => ⟨S_, .f32⟩
  | .hbm, ⟨88, _⟩ => ⟨S8x2064x1024, .f32⟩
  | .hbm, ⟨89, _⟩ => ⟨S1x1024x1024, .f32⟩
  | .hbm, ⟨90, _⟩ => ⟨S1024x1024, .f32⟩
  | .hbm, ⟨91, _⟩ => ⟨S8x2064x1024, .f32⟩
  | .hbm, ⟨92, _⟩ => ⟨S1x1024, .f32⟩
  | .hbm, ⟨93, _⟩ => ⟨S1024, .f32⟩
  | .hbm, ⟨94, _⟩ => ⟨S8x2064x1024, .f32⟩
  | .hbm, ⟨95, _⟩ => ⟨S_, .f32⟩
  | .hbm, ⟨96, _⟩ => ⟨S8x2064, .f32⟩
  | .hbm, ⟨97, _⟩ => ⟨S8x2064x1, .f32⟩
  | .hbm, ⟨98, _⟩ => ⟨S_, .f32⟩
  | .hbm, ⟨99, _⟩ => ⟨S8x2064x1, .f32⟩
  | .hbm, ⟨100, _⟩ => ⟨S8x2064x1, .f32⟩
  | .hbm, ⟨101, _⟩ => ⟨S_, .f32⟩
  | .hbm, ⟨102, _⟩ => ⟨S8x2064x1, .f32⟩
  | .hbm, ⟨103, _⟩ => ⟨S8x2064x1, .f32⟩
  | .hbm, ⟨104, _⟩ => ⟨S8x2064x1, .f32⟩
  | .hbm, ⟨105, _⟩ => ⟨S8x2064x1024, .f32⟩
  | .hbm, ⟨106, _⟩ => ⟨S8x2064x1024, .f32⟩
  | .hbm, ⟨107, _⟩ => ⟨S1x1x1024, .f32⟩
  | .hbm, ⟨108, _⟩ => ⟨S8x2064x1024, .f32⟩
  | .hbm, ⟨109, _⟩ => ⟨S8x2064x1024, .f32⟩
  | .hbm, ⟨110, _⟩ => ⟨S8x2064x1024, .f32⟩
  | .hbm, ⟨111, _⟩ => ⟨S8x2048x1024, .f32⟩
  | .hbm, ⟨112, _⟩ => ⟨S16384x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_0 : Ref sig .tc := ⟨.hbm, 80, rfl⟩
abbrev main_v60 : Ref sig .tc := ⟨.hbm, 81, rfl⟩
abbrev main_v61 : Ref sig .tc := ⟨.hbm, 82, rfl⟩
abbrev main_cst_1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_2 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_3 : Ref sig .tc := ⟨.hbm, 95, rfl⟩
abbrev main_v72 : Ref sig .tc := ⟨.hbm, 96, rfl⟩
abbrev main_v73 : Ref sig .tc := ⟨.hbm, 97, rfl⟩
abbrev main_cst_4 : Ref sig .tc := ⟨.hbm, 98, rfl⟩
abbrev main_v74 : Ref sig .tc := ⟨.hbm, 99, rfl⟩
abbrev main_v75 : Ref sig .tc := ⟨.hbm, 100, rfl⟩
abbrev main_cst_5 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== InProj.lean ====
abbrev S8x2048x1024 : Shape := ⟨3, ![8, 2048, 1024]⟩
abbrev S16x1024 : Shape := ⟨2, ![16, 1024]⟩
abbrev S2x1024 : Shape := ⟨2, ![2, 1024]⟩
abbrev S2x1024x13856 : Shape := ⟨3, ![2, 1024, 13856]⟩
abbrev S_ : Shape := ⟨0, ![]⟩
abbrev S48x1024 : Shape := ⟨2, ![48, 1024]⟩
abbrev S64x1024 : Shape := ⟨2, ![64, 1024]⟩
abbrev S16384x1024 : Shape := ⟨2, ![16384, 1024]⟩
abbrev S1x1024 : Shape := ⟨2, ![1, 1024]⟩
abbrev S1024 : Shape := ⟨1, ![1024]⟩
abbrev S1x1024x13856 : Shape := ⟨3, ![1, 1024, 13856]⟩
abbrev S1024x13856 : Shape := ⟨2, ![1024, 13856]⟩
abbrev S1024x3072 : Shape := ⟨2, ![1024, 3072]⟩
abbrev S1024x4096 : Shape := ⟨2, ![1024, 4096]⟩
abbrev S1024x2560 : Shape := ⟨2, ![1024, 2560]⟩
abbrev S1024x13824 : Shape := ⟨2, ![1024, 13824]⟩
abbrev S1x1024x128 : Shape := ⟨3, ![1, 1024, 128]⟩
abbrev S1024x128 : Shape := ⟨2, ![1024, 128]⟩
abbrev S16896x13824 : Shape := ⟨2, ![16896, 13824]⟩
abbrev S16896x128 : Shape := ⟨2, ![16896, 128]⟩
abbrev S1056x1024 : Shape := ⟨2, ![1056, 1024]⟩
abbrev S1024x2304 : Shape := ⟨2, ![1024, 2304]⟩
abbrev S1056x2304 : Shape := ⟨2, ![1056, 2304]⟩
abbrev S1056x128 : Shape := ⟨2, ![1056, 128]⟩
abbrev S992x1024 : Shape := ⟨2, ![992, 1024]⟩
abbrev S1056 : Shape := ⟨1, ![1056]⟩
abbrev S1056x1 : Shape := ⟨2, ![1056, 1]⟩

abbrev nBuf : Space → Nat
  | .hbm => 28
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S2x1024, .f32⟩
  | .hbm, ⟨3, _⟩ => ⟨S2x1024x13856, .f32⟩
  | .hbm, ⟨4, _⟩ => ⟨S_, .f32⟩
  | .hbm, ⟨5, _⟩ => ⟨S48x1024, .f32⟩
  | .hbm, ⟨6, _⟩ => ⟨S64x1024, .f32⟩
  | .hbm, ⟨7, _⟩ => ⟨S16384x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024x13856, .f32⟩
  | .hbm, ⟨12, _⟩ => ⟨S1024x13856, .f32⟩
  | .hbm, ⟨13, _⟩ => ⟨S1024x3072, .f32⟩
  | .hbm, ⟨14, _⟩ => ⟨S1024x4096, .f32⟩
  | .hbm, ⟨15, _⟩ => ⟨S1024x4096, .f32⟩
  | .hbm, ⟨16, _⟩ => ⟨S1024x2560, .f32⟩
  | .hbm, ⟨17, _⟩ => ⟨S1024x3072, .bf16⟩
  | .hbm, ⟨18, _⟩ => ⟨S1024x4096, .bf16⟩
  | .hbm, ⟨19, _⟩ => ⟨S1024x4096, .bf16⟩
  | .hbm, ⟨20, _⟩ => ⟨S1024x2560, .bf16⟩
  | .hbm, ⟨21, _⟩ => ⟨S1024x13824, .bf16⟩
  | .hbm, ⟨22, _⟩ => ⟨S1x1024x128, .f32⟩
  | .hbm, ⟨23, _⟩ => ⟨S1024x128, .f32⟩
  | .hbm, ⟨24, _⟩ => ⟨S1x1024x128, .f32⟩
  | .hbm, ⟨25, _⟩ => ⟨S1024x128, .f32⟩
  | .hbm, ⟨26, _⟩ => ⟨S16896x13824, .bf16⟩
  | .hbm, ⟨27, _⟩ => ⟨S16896x128, .f32⟩
  | .local _ .vmem, ⟨0, _⟩ => ⟨S1056x1024, .f32⟩
  | .local _ .vmem, ⟨1, _⟩ => ⟨S1056x1024, .f32⟩
  | .local _ .vmem, ⟨2, _⟩ => ⟨S64x1024, .f32⟩
  | .local _ .vmem, ⟨3, _⟩ => ⟨S1x1024, .f32⟩
  | .local _ .vmem, ⟨4, _⟩ => ⟨S1024x2304, .bf16⟩
  | .local _ .vmem, ⟨5, _⟩ => ⟨S1024x2304, .bf16⟩
  | .local _ .vmem, ⟨6, _⟩ => ⟨S1024x128, .f32⟩
  | .local _ .vmem, ⟨7, _⟩ => ⟨S1024x128, .f32⟩
  | .local _ .vmem, ⟨8, _⟩ => ⟨S1056x2304, .bf16⟩
  | .local _ .vmem, ⟨9, _⟩ => ⟨S1056x2304, .bf16⟩
  | .local _ .vmem, ⟨10, _⟩ => ⟨S1056x128, .f32⟩
  | .local _ .vmem, ⟨11, _⟩ => ⟨S1056x128, .f32⟩
  | .local _ .vmem, ⟨12, _⟩ => ⟨S1056x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c128_i32 : BitVec 32 := 128#32
  let v27 : BitVec 32 := Scalar.muli v16 c128_i32
  let c66_i32 : BitVec 32 := 66#32
  let v28 : BitVec 32 := Scalar.muli v26 c66_i32
  let c4_i32 : BitVec 32 := 4#32
  let v29 : BitVec 32 := Scalar.subi v28 c4_i32
  let c0_i32_10 : BitVec 32 := 0#32
  let v30 : BitVec 32 := Scalar.maxsi v29 c0_i32_10
  let v31 : BitVec 32 := Scalar.addi v27 v30
  let c16_i32 : BitVec 32 := 16#32
  let v32 : BitVec 32 := Scalar.muli v31 c16_i32
  let c0_i32_11 : BitVec 32 := 0#32
  let c0_i32_12 : BitVec 32 := 0#32
  ![v32.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1056x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InRefIdeal.lean ====
abbrev S8x2048x1024 : Shape := ⟨3, ![8, 2048, 1024]⟩
abbrev S16x1024 : Shape := ⟨2, ![16, 1024]⟩
abbrev S2x1024 : Shape := ⟨2, ![2, 1024]⟩
abbrev S2x1024x13856 : Shape := ⟨3, ![2, 1024, 13856]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S1x1024 : Shape := ⟨2, ![1, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x13856 : Shape := ⟨3, ![1, 1024, 13856]⟩
abbrev S1024x13856 : Shape := ⟨2, ![1024, 13856]⟩
abbrev S8x2064x13856 : Shape := ⟨3, ![8, 2064, 13856]⟩
abbrev S8x2064x1536 : Shape := ⟨3, ![8, 2064, 1536]⟩
abbrev S8x2064x16 : Shape := ⟨3, ![8, 2064, 16]⟩
abbrev S8x2064x3072 : Shape := ⟨3, ![8, 2064, 3072]⟩
abbrev S8x2064x8 : Shape := ⟨3, ![8, 2064, 8]⟩
abbrev S8x2064x13824 : Shape := ⟨3, ![8, 2064, 13824]⟩
abbrev S8x2112x13824 : Shape := ⟨3, ![8, 2112, 13824]⟩
abbrev S16896x13824 : Shape := ⟨2, ![16896, 13824]⟩
abbrev S8x2064x96 : Shape := ⟨3, ![8, 2064, 96]⟩
abbrev S8x2064x128 : Shape := ⟨3, ![8, 2064, 128]⟩
abbrev S8x2112x128 : Shape := ⟨3, ![8, 2112, 128]⟩
abbrev S16896x128 : Shape := ⟨2, ![16896, 128]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S2x1024, .f32⟩
  | .hbm, ⟨3, _⟩ => ⟨S2x1024x13856, .f32⟩
  | .hbm, ⟨4, _⟩ => ⟨S1x16x1024, .f32⟩
  | .hbm, ⟨5, _⟩ => ⟨S8x16x1024, .f32⟩
  | .hbm, ⟨6, _⟩ => ⟨S8x2064x1024, .f32⟩
  | .hbm, ⟨7, _⟩ => ⟨S1x1024, .f32⟩
  | .hbm, ⟨8, _⟩ => ⟨S1024, .f32⟩
  | .hbm, ⟨9, _⟩ => ⟨S8x2064x1024, .f32⟩
  | .hbm, ⟨10, _⟩ => ⟨S_, .f32⟩
  | .hbm, ⟨11, _⟩ => ⟨S8x2064, .f32⟩
  | .hbm, ⟨12, _⟩ => ⟨S8x2064x1, .f32⟩
  | .hbm, ⟨13, _⟩ => ⟨S_, .f32⟩
  | .hbm, ⟨14, _⟩ => ⟨S8x2064x1, .f32⟩
  | .hbm, ⟨15, _⟩ => ⟨S8x2064x1, .f32⟩
  | .hbm, ⟨16, _⟩ => ⟨S_, .f32⟩
  | .hbm, ⟨17, _⟩ => ⟨S8x2064x1, .f32⟩
  | .hbm, ⟨18, _⟩ => ⟨S8x2064x1, .f32⟩
  | .hbm, ⟨19, _⟩ => ⟨S8x2064x1, .f32⟩
  | .hbm, ⟨20, _⟩ => ⟨S8x2064x1024, .f32⟩
  | .hbm, ⟨21, _⟩ => ⟨S8x2064x1024, .f32⟩
  | .hbm, ⟨22, _⟩ => ⟨S1x1x1024, .f32⟩
  | .hbm, ⟨23, _⟩ => ⟨S8x2064x1024, .f32⟩
  | .hbm, ⟨24, _⟩ => ⟨S8x2064x1024, .f32⟩
  | .hbm, ⟨25, _⟩ => ⟨S1x1024x13856, .f32⟩
  | .hbm, ⟨26, _⟩ => ⟨S1024x13856, .f32⟩
  | .hbm, ⟨27, _⟩ => ⟨S8x2064x13856, .f32⟩
  | .hbm, ⟨28, _⟩ => ⟨S8x2064x1024, .f32⟩
  | .hbm, ⟨29, _⟩ => ⟨S8x2064x1536, .f32⟩
  | .hbm, ⟨30, _⟩ => ⟨S8x2064x16, .f32⟩
  | .hbm, ⟨31, _⟩ => ⟨S8x2064x1024, .f32⟩
  | .hbm, ⟨32, _⟩ => ⟨S8x2064x1024, .f32⟩
  | .hbm, ⟨33, _⟩ => ⟨S8x2064x1024, .f32⟩
  | .hbm, ⟨34, _⟩ => ⟨S8x2064x1024, .f32⟩
  | .hbm, ⟨35, _⟩ => ⟨S8x2064x3072, .f32⟩
  | .hbm, ⟨36, _⟩ => ⟨S8x2064x1024, .f32⟩
  | .hbm, ⟨37, _⟩ => ⟨S8x2064x8, .f32⟩
  | .hbm, ⟨38, _⟩ => ⟨S8x2064x8, .f32⟩
  | .hbm, ⟨39, _⟩ => ⟨S8x2064x3072, .f32⟩
  | .hbm, ⟨40, _⟩ => ⟨S8x2064x13824, .f32⟩
  | .hbm, ⟨41, _⟩ => ⟨S_, .i32⟩
  | .hbm, ⟨42, _⟩ => ⟨S_, .f32⟩
  | .hbm, ⟨43, _⟩ => ⟨S8x2112x13824, .f32⟩
  | .hbm, ⟨44, _⟩ => ⟨S16896x13824, .f32⟩
  | .hbm, ⟨45, _⟩ => ⟨S16896x13824, .bf16⟩
  | .hbm, ⟨46, _⟩ => ⟨S_, .f32⟩
  | .hbm, ⟨47, _⟩ => ⟨S8x2064x96, .f32⟩
  | .hbm, ⟨48, _⟩ => ⟨S8x2064x128, .f32⟩
  | .hbm, ⟨49, _⟩ => ⟨S_, .i32⟩
  | .hbm, ⟨50, _⟩ => ⟨S_, .f32⟩
  | .hbm, ⟨51, _⟩ => ⟨S8x2112x128, .f32⟩
  | .hbm, ⟨52, _⟩ => ⟨S16896x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_call1_v0 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== InLast.lean ====
abbrev S16896x1024 : Shape := ⟨2, ![16896, 1024]⟩
abbrev S16x1024 : Shape := ⟨2, ![16, 1024]⟩
abbrev S2x1024 : Shape := ⟨2, ![2, 1024]⟩
abbrev S2x1024x13856 : Shape := ⟨3, ![2, 1024, 13856]⟩
abbrev S_ : Shape := ⟨0, ![]⟩
abbrev S48x1024 : Shape := ⟨2, ![48, 1024]⟩
abbrev S64x1024 : Shape := ⟨2, ![64, 1024]⟩
abbrev S1x1024 : Shape := ⟨2, ![1, 1024]⟩
abbrev S1024 : Shape := ⟨1, ![1024]⟩
abbrev S1x1024x13856 : Shape := ⟨3, ![1, 1024, 13856]⟩
abbrev S1024x13856 : Shape := ⟨2, ![1024, 13856]⟩
abbrev S1024x3072 : Shape := ⟨2, ![1024, 3072]⟩
abbrev S1024x4096 : Shape := ⟨2, ![1024, 4096]⟩
abbrev S1024x2560 : Shape := ⟨2, ![1024, 2560]⟩
abbrev S1024x13824 : Shape := ⟨2, ![1024, 13824]⟩
abbrev S1x1024x128 : Shape := ⟨3, ![1, 1024, 128]⟩
abbrev S1024x128 : Shape := ⟨2, ![1024, 128]⟩
abbrev S16896x13824 : Shape := ⟨2, ![16896, 13824]⟩
abbrev S16896x128 : Shape := ⟨2, ![16896, 128]⟩
abbrev S1056x1024 : Shape := ⟨2, ![1056, 1024]⟩
abbrev S1024x2304 : Shape := ⟨2, ![1024, 2304]⟩
abbrev S1056x2304 : Shape := ⟨2, ![1056, 2304]⟩
abbrev S1056x128 : Shape := ⟨2, ![1056, 128]⟩
abbrev S1056 : Shape := ⟨1, ![1056]⟩
abbrev S1056x1 : Shape := ⟨2, ![1056, 1]⟩

abbrev nBuf : Space → Nat
  | .hbm => 27
  | .vmem => 13
  | .smem => 0
  | _ => 0

abbrev bufTy : (tb : Table) → Fin (tcTables nBuf tb) → BufTy
  | .hbm, ⟨0, _⟩ => ⟨S16896x1024, .f32⟩
  | .hbm, ⟨1, _⟩ => ⟨S16x1024, .f32⟩
  | .hbm, ⟨2, _⟩ => ⟨S2x1024, .f32⟩
  | .hbm, ⟨3, _⟩ => ⟨S2x1024x13856, .f32⟩
  | .hbm, ⟨4, _⟩ => ⟨S_, .f32⟩
  | .hbm, ⟨5, _⟩ => ⟨S48x1024, .f32⟩
  | .hbm, ⟨6, _⟩ => ⟨S64x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024x13856, .f32⟩
  | .hbm, ⟨11, _⟩ => ⟨S1024x13856, .f32⟩
  | .hbm, ⟨12, _⟩ => ⟨S1024x3072, .f32⟩
  | .hbm, ⟨13, _⟩ => ⟨S1024x4096, .f32⟩
  | .hbm, ⟨14, _⟩ => ⟨S1024x4096, .f32⟩
  | .hbm, ⟨15, _⟩ => ⟨S1024x2560, .f32⟩
  | .hbm, ⟨16, _⟩ => ⟨S1024x3072, .bf16⟩
  | .hbm, ⟨17, _⟩ => ⟨S1024x4096, .bf16⟩
  | .hbm, ⟨18, _⟩ => ⟨S1024x4096, .bf16⟩
  | .hbm, ⟨19, _⟩ => ⟨S1024x2560, .bf16⟩
  | .hbm, ⟨20, _⟩ => ⟨S1024x13824, .bf16⟩
  | .hbm, ⟨21, _⟩ => ⟨S1x1024x128, .f32⟩
  | .hbm, ⟨22, _⟩ => ⟨S1024x128, .f32⟩
  | .hbm, ⟨23, _⟩ => ⟨S1x1024x128, .f32⟩
  | .hbm, ⟨24, _⟩ => ⟨S1024x128, .f32⟩
  | .hbm, ⟨25, _⟩ => ⟨S16896x13824, .bf16⟩
  | .hbm, ⟨26, _⟩ => ⟨S16896x128, .f32⟩
  | .local _ .vmem, ⟨0, _⟩ => ⟨S1056x1024, .f32⟩
  | .local _ .vmem, ⟨1, _⟩ => ⟨S1056x1024, .f32⟩
  | .local _ .vmem, ⟨2, _⟩ => ⟨S64x1024, .f32⟩
  | .local _ .vmem, ⟨3, _⟩ => ⟨S1x1024, .f32⟩
  | .local _ .vmem, ⟨4, _⟩ => ⟨S1024x2304, .bf16⟩
  | .local _ .vmem, ⟨5, _⟩ => ⟨S1024x2304, .bf16⟩
  | .local _ .vmem, ⟨6, _⟩ => ⟨S1024x128, .f32⟩
  | .local _ .vmem, ⟨7, _⟩ => ⟨S1024x128, .f32⟩
  | .local _ .vmem, ⟨8, _⟩ => ⟨S1056x2304, .bf16⟩
  | .local _ .vmem, ⟨9, _⟩ => ⟨S1056x2304, .bf16⟩
  | .local _ .vmem, ⟨10, _⟩ => ⟨S1056x128, .f32⟩
  | .local _ .vmem, ⟨11, _⟩ => ⟨S1056x128, .f32⟩
  | .local _ .vmem, ⟨12, _⟩ => ⟨S1056x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1056x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InLastRefIdeal.lean ====
abbrev S16896x1024 : Shape := ⟨2, ![16896, 1024]⟩
abbrev S16x1024 : Shape := ⟨2, ![16, 1024]⟩
abbrev S2x1024 : Shape := ⟨2, ![2, 1024]⟩
abbrev S2x1024x13856 : Shape := ⟨3, ![2, 1024, 13856]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024x13856 : Shape := ⟨3, ![1, 1024, 13856]⟩
abbrev S1024x13856 : Shape := ⟨2, ![1024, 13856]⟩
abbrev S16896x13856 : Shape := ⟨2, ![16896, 13856]⟩
abbrev S16896x1536 : Shape := ⟨2, ![16896, 1536]⟩
abbrev S16896x16 : Shape := ⟨2, ![16896, 16]⟩
abbrev S16896x3072 : Shape := ⟨2, ![16896, 3072]⟩
abbrev S16896x8 : Shape := ⟨2, ![16896, 8]⟩
abbrev S16896x13824 : Shape := ⟨2, ![16896, 13824]⟩
abbrev S16896x96 : Shape := ⟨2, ![16896, 96]⟩
abbrev S16896x128 : Shape := ⟨2, ![16896, 128]⟩

abbrev nBuf : Space → Nat
  | .hbm => 42
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16x1024, .f32⟩
  | .hbm, ⟨2, _⟩ => ⟨S2x1024, .f32⟩
  | .hbm, ⟨3, _⟩ => ⟨S2x1024x13856, .f32⟩
  | .hbm, ⟨4, _⟩ => ⟨S1x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S1x1024x13856, .f32⟩
  | .hbm, ⟨23, _⟩ => ⟨S1024x13856, .f32⟩
  | .hbm, ⟨24, _⟩ => ⟨S16896x13856, .f32⟩
  | .hbm, ⟨25, _⟩ => ⟨S16896x1024, .f32⟩
  | .hbm, ⟨26, _⟩ => ⟨S16896x1536, .f32⟩
  | .hbm, ⟨27, _⟩ => ⟨S16896x16, .f32⟩
  | .hbm, ⟨28, _⟩ => ⟨S16896x1024, .f32⟩
  | .hbm, ⟨29, _⟩ => ⟨S16896x1024, .f32⟩
  | .hbm, ⟨30, _⟩ => ⟨S16896x1024, .f32⟩
  | .hbm, ⟨31, _⟩ => ⟨S16896x1024, .f32⟩
  | .hbm, ⟨32, _⟩ => ⟨S16896x3072, .f32⟩
  | .hbm, ⟨33, _⟩ => ⟨S16896x1024, .f32⟩
  | .hbm, ⟨34, _⟩ => ⟨S16896x8, .f32⟩
  | .hbm, ⟨35, _⟩ => ⟨S16896x8, .f32⟩
  | .hbm, ⟨36, _⟩ => ⟨S16896x3072, .f32⟩
  | .hbm, ⟨37, _⟩ => ⟨S16896x13824, .f32⟩
  | .hbm, ⟨38, _⟩ => ⟨S16896x13824, .bf16⟩
  | .hbm, ⟨39, _⟩ => ⟨S_, .f32⟩
  | .hbm, ⟨40, _⟩ => ⟨S16896x96, .f32⟩
  | .hbm, ⟨41, _⟩ => ⟨S16896x128, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== OutFirst.lean ====
abbrev S16896x1024 : Shape := ⟨2, ![16896, 1024]⟩
abbrev S16896x13824 : Shape := ⟨2, ![16896, 13824]⟩
abbrev S8x2048x1024 : Shape := ⟨3, ![8, 2048, 1024]⟩
abbrev S2x3x1024 : Shape := ⟨3, ![2, 3, 1024]⟩
abbrev S2x3x1024x1024 : Shape := ⟨4, ![2, 3, 1024, 1024]⟩
abbrev S2x1024x1024 : Shape := ⟨3, ![2, 1024, 1024]⟩
abbrev S2x1024 : Shape := ⟨2, ![2, 1024]⟩
abbrev S16x1024 : Shape := ⟨2, ![16, 1024]⟩
abbrev S_ : Shape := ⟨0, ![]⟩
abbrev S48x1024 : Shape := ⟨2, ![48, 1024]⟩
abbrev S64x1024 : Shape := ⟨2, ![64, 1024]⟩
abbrev S16384x1024 : Shape := ⟨2, ![16384, 1024]⟩
abbrev S1x3x1024 : Shape := ⟨3, ![1, 3, 1024]⟩
abbrev S3x1024 : Shape := ⟨2, ![3, 1024]⟩
abbrev S1x3x1024x1024 : Shape := ⟨4, ![1, 3, 1024, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S528x1024 : Shape := ⟨2, ![528, 1024]⟩
abbrev S528x3072 : Shape := ⟨2, ![528, 3072]⟩
abbrev S8x1024 : Shape := ⟨2, ![8, 1024]⟩
abbrev S24x1024 : Shape := ⟨2, ![24, 1024]⟩
abbrev S520x1024 : Shape := ⟨2, ![520, 1024]⟩
abbrev S528 : Shape := ⟨1, ![528]⟩
abbrev S528x1 : Shape := ⟨2, ![528, 1]⟩
abbrev S464x1024 : Shape := ⟨2, ![464, 1024]⟩

abbrev nBuf : Space → Nat
  | .hbm => 25
  | .vmem => 27
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x13824, .bf16⟩
  | .hbm, ⟨3, _⟩ => ⟨S8x2048x1024, .f32⟩
  | .hbm, ⟨4, _⟩ => ⟨S2x3x1024, .f32⟩
  | .hbm, ⟨5, _⟩ => ⟨S2x3x1024x1024, .f32⟩
  | .hbm, ⟨6, _⟩ => ⟨S2x1024x1024, .f32⟩
  | .hbm, ⟨7, _⟩ => ⟨S2x1024, .f32⟩
  | .hbm, ⟨8, _⟩ => ⟨S16x1024, .f32⟩
  | .hbm, ⟨9, _⟩ => ⟨S_, .f32⟩
  | .hbm, ⟨10, _⟩ => ⟨S48x1024, .f32⟩
  | .hbm, ⟨11, _⟩ => ⟨S64x1024, .f32⟩
  | .hbm, ⟨12, _⟩ => ⟨S16384x1024, .f32⟩
  | .hbm, ⟨13, _⟩ => ⟨S1x3x1024, .f32⟩
  | .hbm, ⟨14, _⟩ => ⟨S3x1024, .f32⟩
  | .hbm, ⟨15, _⟩ => ⟨S1x3x1024x1024, .f32⟩
  | .hbm, ⟨16, _⟩ => ⟨S3x1024x1024, .f32⟩
  | .hbm, ⟨17, _⟩ => ⟨S3x1024x1024, .bf16⟩
  | .hbm, ⟨18, _⟩ => ⟨S1x1024x1024, .f32⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S16896x1024, .f32⟩
  | .local _ .vmem, ⟨0, _⟩ => ⟨S528x1024, .bf16⟩
  | .local _ .vmem, ⟨1, _⟩ => ⟨S528x1024, .bf16⟩
  | .local _ .vmem, ⟨2, _⟩ => ⟨S528x1024, .bf16⟩
  | .local _ .vmem, ⟨3, _⟩ => ⟨S528x1024, .bf16⟩
  | .local _ .vmem, ⟨4, _⟩ => ⟨S528x1024, .bf16⟩
  | .local _ .vmem, ⟨5, _⟩ => ⟨S528x1024, .bf16⟩
  | .local _ .vmem, ⟨6, _⟩ => ⟨S528x1024, .bf16⟩
  | .local _ .vmem, ⟨7, _⟩ => ⟨S528x1024, .bf16⟩
  | .local _ .vmem, ⟨8, _⟩ => ⟨S16x1024, .bf16⟩
  | .local _ .vmem, ⟨9, _⟩ => ⟨S16x1024, .bf16⟩
  | .local _ .vmem, ⟨10, _⟩ => ⟨S528x1024, .bf16⟩
  | .local _ .vmem, ⟨11, _⟩ => ⟨S528x1024, .bf16⟩
  | .local _ .vmem, ⟨12, _⟩ => ⟨S16x1024, .bf16⟩
  | .local _ .vmem, ⟨13, _⟩ => ⟨S16x1024, .bf16⟩
  | .local _ .vmem, ⟨14, _⟩ => ⟨S528x1024, .bf16⟩
  | .local _ .vmem, ⟨15, _⟩ => ⟨S528x1024, .bf16⟩
  | .local _ .vmem, ⟨16, _⟩ => ⟨S528x3072, .bf16⟩
  | .local _ .vmem, ⟨17, _⟩ => ⟨S528x3072, .bf16⟩
  | .local _ .vmem, ⟨18, _⟩ => ⟨S528x1024, .f32⟩
  | .local _ .vmem, ⟨19, _⟩ => ⟨S528x1024, .f32⟩
  | .local _ .vmem, ⟨20, _⟩ => ⟨S64x1024, .f32⟩
  | .local _ .vmem, ⟨21, _⟩ => ⟨S3x1024, .f32⟩
  | .local _ .vmem, ⟨22, _⟩ => ⟨S3x1024x1024, .bf16⟩
  | .local _ .vmem, ⟨23, _⟩ => ⟨S1024x1024, .bf16⟩
  | .local _ .vmem, ⟨24, _⟩ => ⟨S1x1024, .f32⟩
  | .local _ .vmem, ⟨25, _⟩ => ⟨S528x1024, .f32⟩
  | .local _ .vmem, ⟨26, _⟩ => ⟨S528x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c33_i32 : BitVec 32 := 33#32
  let v2 : BitVec 32 := Scalar.muli v1 c33_i32
  let c1_i32 : BitVec 32 := 1#32
  let v3 : BitVec 32 := Scalar.subi v2 c1_i32
  let c0_i32 : BitVec 32 := 0#32
  let v4 : BitVec 32 := Scalar.maxsi v3 c0_i32
  let c8_i32 : BitVec 32 := 8#32
  let c0_i32_0 : BitVec 32 := 0#32
  ![v4.toNat, c8_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c33_i32 : BitVec 32 := 33#32
  let v2 : BitVec 32 := Scalar.muli v1 c33_i32
  let c1_i32 : BitVec 32 := 1#32
  let v3 : BitVec 32 := Scalar.subi v2 c1_i32
  let c0_i32 : BitVec 32 := 0#32
  let v4 : BitVec 32 := Scalar.maxsi v3 c0_i32
  let c9_i32 : BitVec 32 := 9#32
  let c0_i32_0 : BitVec 32 := 0#32
  ![v4.toNat, c9_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c10_i32 : BitVec 32 := 10#32
  let c0_i32 : BitVec 32 := 0#32
  ![v1.toNat, c10_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c33_i32 : BitVec 32 := 33#32
  let v1 : BitVec 32 := Scalar.muli arg1 c33_i32
  let c4_i32 : BitVec 32 := 4#32
  let v2 : BitVec 32 := Scalar.subi v1 c4_i32
  let c0_i32 : BitVec 32 := 0#32
  let v3 : BitVec 32 := Scalar.maxsi v2 c0_i32
  let v4 : BitVec 32 := Scalar.addi v0 v3
  let c16_i32 : BitVec 32 := 16#32
  let v5 : BitVec 32 := Scalar.muli v4 c16_i32
  let c0_i32_0 : BitVec 32 := 0#32
  let c0_i32_1 : BitVec 32 := 0#32
  ![v5.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S528x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S528x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S528x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S528x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S528x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== OutFirstRefIdeal.lean ====
abbrev S16896x1024 : Shape := ⟨2, ![16896, 1024]⟩
abbrev S16896x13824 : Shape := ⟨2, ![16896, 13824]⟩
abbrev S8x2048x1024 : Shape := ⟨3, ![8, 2048, 1024]⟩
abbrev S2x3x1024 : Shape := ⟨3, ![2, 3, 1024]⟩
abbrev S2x3x1024x1024 : Shape := ⟨4, ![2, 3, 1024, 1024]⟩
abbrev S2x1024x1024 : Shape := ⟨3, ![2, 1024, 1024]⟩
abbrev S2x1024 : Shape := ⟨2, ![2, 1024]⟩
abbrev S16x1024 : Shape := ⟨2, ![16, 1024]⟩
abbrev S8x2112x1024 : Shape := ⟨3, ![8, 2112, 1024]⟩
abbrev S8x2112x13824 : Shape := ⟨3, ![8, 2112, 13824]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S8x2112x3072 : Shape := ⟨3, ![8, 2112, 3072]⟩
abbrev S8x2112x1536 : Shape := ⟨3, ![8, 2112, 1536]⟩
abbrev S1x3x1024 : Shape := ⟨3, ![1, 3, 1024]⟩
abbrev S3x1024 : Shape := ⟨2, ![3, 1024]⟩
abbrev S_ : Shape := ⟨0, ![]⟩
abbrev S8x2114x1024 : Shape := ⟨3, ![8, 2114, 1024]⟩
abbrev S1x1024 : Shape := ⟨2, ![1, 1024]⟩
abbrev S1024 : Shape := ⟨1, ![1024]⟩
abbrev S1x1x1024 : Shape := ⟨3, ![1, 1, 1024]⟩
abbrev S8x2112x1x1024 : Shape := ⟨4, ![8, 2112, 1, 1024]⟩
abbrev S8x2112x3x1024 : Shape := ⟨4, ![8, 2112, 3, 1024]⟩
abbrev S1x3x1024x1024 : Shape := ⟨4, ![1, 3, 1024, 1024]⟩
abbrev S3x1024x1024 : Shape := ⟨3, ![3, 1024, 1024]⟩
abbrev S3x1024x8x2112 : Shape := ⟨4, ![3, 1024, 8, 2112]⟩
abbrev S1x1024x1024 : Shape := ⟨3, ![1, 1024, 1024]⟩
abbrev S1024x1024 : Shape := ⟨2, ![1024, 1024]⟩
abbrev S8x2064 : Shape := ⟨2, ![8, 2064]⟩
abbrev S8x2064x1 : Shape := ⟨3, ![8, 2064, 1]⟩

abbrev nBuf : Space → Nat
  | .hbm => 114
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x13824, .bf16⟩
  | .hbm, ⟨3, _⟩ => ⟨S8x2048x1024, .f32⟩
  | .hbm, ⟨4, _⟩ => ⟨S2x3x1024, .f32⟩
  | .hbm, ⟨5, _⟩ => ⟨S2x3x1024x1024, .f32⟩
  | .hbm, ⟨6, _⟩ => ⟨S2x1024x1024, .f32⟩
  | .hbm, ⟨7, _⟩ => ⟨S2x1024, .f32⟩
  | .hbm, ⟨8, _⟩ => ⟨S16x1024, .f32⟩
  | .hbm, ⟨9, _⟩ => ⟨S16896x1024, .f32⟩
  | .hbm, ⟨10, _⟩ => ⟨S8x2112x1024, .f32⟩
  | .hbm, ⟨11, _⟩ => ⟨S16896x1024, .f32⟩
  | .hbm, ⟨12, _⟩ => ⟨S8x2112x1024, .f32⟩
  | .hbm, ⟨13, _⟩ => ⟨S16896x13824, .f32⟩
  | .hbm, ⟨14, _⟩ => ⟨S8x2112x13824, .f32⟩
  | .hbm, ⟨15, _⟩ => ⟨S1x16x1024, .f32⟩
  | .hbm, ⟨16, _⟩ => ⟨S8x16x1024, .f32⟩
  | .hbm, ⟨17, _⟩ => ⟨S8x2064x1024, .f32⟩
  | .hbm, ⟨18, _⟩ => ⟨S8x2112x3072, .f32⟩
  | .hbm, ⟨19, _⟩ => ⟨S8x2112x3072, .f32⟩
  | .hbm, ⟨20, _⟩ => ⟨S8x2112x1024, .f32⟩
  | .hbm, ⟨21, _⟩ => ⟨S8x2112x1024, .f32⟩
  | .hbm, ⟨22, _⟩ => ⟨S8x2112x1024, .f32⟩
  | .hbm, ⟨23, _⟩ => ⟨S8x2112x1024, .f32⟩
  | .hbm, ⟨24, _⟩ => ⟨S8x2112x1024, .f32⟩
  | .hbm, ⟨25, _⟩ => ⟨S8x2112x1024, .f32⟩
  | .hbm, ⟨26, _⟩ => ⟨S8x2112x1536, .f32⟩
  | .hbm, ⟨27, _⟩ => ⟨S1x3x1024, .f32⟩
  | .hbm, ⟨28, _⟩ => ⟨S3x1024, .f32⟩
  | .hbm, ⟨29, _⟩ => ⟨S8x2112x1024, .f32⟩
  | .hbm, ⟨30, _⟩ => ⟨S_, .i32⟩
  | .hbm, ⟨31, _⟩ => ⟨S_, .f32⟩
  | .hbm, ⟨32, _⟩ => ⟨S8x2114x1024, .f32⟩
  | .hbm, ⟨33, _⟩ => ⟨S1x1024, .f32⟩
  | .hbm, ⟨34, _⟩ => ⟨S1024, .f32⟩
  | .hbm, ⟨35, _⟩ => ⟨S8x2112x1024, .f32⟩
  | .hbm, ⟨36, _⟩ => ⟨S1x1x1024, .f32⟩
  | .hbm, ⟨37, _⟩ => ⟨S8x2112x1024, .f32⟩
  | .hbm, ⟨38, _⟩ => ⟨S8x2112x1024, .f32⟩
  | .hbm, ⟨39, _⟩ => ⟨S_, .f32⟩
  | .hbm, ⟨40, _⟩ => ⟨S8x2112x1024, .f32⟩
  | .hbm, ⟨41, _⟩ => ⟨S8x2112x1024, .f32⟩
  | .hbm, ⟨42, _⟩ => ⟨S1x1024, .f32⟩
  | .hbm, ⟨43, _⟩ => ⟨S1024, .f32⟩
  | .hbm, ⟨44, _⟩ => ⟨S8x2112x1024, .f32⟩
  | .hbm, ⟨45, _⟩ => ⟨S1x1x1024, .f32⟩
  | .hbm, ⟨46, _⟩ => ⟨S8x2112x1024, .f32⟩
  | .hbm, ⟨47, _⟩ => ⟨S8x2112x1024, .f32⟩
  | .hbm, ⟨48, _⟩ => ⟨S8x2112x1024, .f32⟩
  | .hbm, ⟨49, _⟩ => ⟨S1x1024, .f32⟩
  | .hbm, ⟨50, _⟩ => ⟨S1024, .f32⟩
  | .hbm, ⟨51, _⟩ => ⟨S8x2112x1024, .f32⟩
  | .hbm, ⟨52, _⟩ => ⟨S1x1x1024, .f32⟩
  | .hbm, ⟨53, _⟩ => ⟨S8x2112x1024, .f32⟩
  | .hbm, ⟨54, _⟩ => ⟨S8x2112x1024, .f32⟩
  | .hbm, ⟨55, _⟩ => ⟨S8x2112x1024, .f32⟩
  | .hbm, ⟨56, _⟩ => ⟨S8x2112x1024, .f32⟩
  | .hbm, ⟨57, _⟩ => ⟨S8x2112x1024, .f32⟩
  | .hbm, ⟨58, _⟩ => ⟨S8x2112x1024, .f32⟩
  | .hbm, ⟨59, _⟩ => ⟨S_, .f32⟩
  | .hbm, ⟨60, _⟩ => ⟨S8x2112x1024, .f32⟩
  | .hbm, ⟨61, _⟩ => ⟨S8x2112x1024, .f32⟩
  | .hbm, ⟨62, _⟩ => ⟨S_, .f32⟩
  | .hbm, ⟨63, _⟩ => ⟨S8x2112x1024, .f32⟩
  | .hbm, ⟨64, _⟩ => ⟨S8x2112x1024, .f32⟩
  | .hbm, ⟨65, _⟩ => ⟨S8x2112x1024, .f32⟩
  | .hbm, ⟨66, _⟩ => ⟨S8x2112x1024, .f32⟩
  | .hbm, ⟨67, _⟩ => ⟨S8x2112x1x1024, .f32⟩
  | .hbm, ⟨68, _⟩ => ⟨S8x2112x1x1024, .f32⟩
  | .hbm, ⟨69, _⟩ => ⟨S8x2112x1x1024, .f32⟩
  | .hbm, ⟨70, _⟩ => ⟨S8x2112x3x1024, .f32⟩
  | .hbm, ⟨71, _⟩ => ⟨S1x3x1024x1024, .f32⟩
  | .hbm, ⟨72, _⟩ => ⟨S3x1024x1024, .f32⟩
  | .hbm, ⟨73, _⟩ => ⟨S3x1024x8x2112, .f32⟩
  | .hbm, ⟨74, _⟩ => ⟨S8x2112x3x1024, .f32⟩
  | .hbm, ⟨75, _⟩ => ⟨S8x2112x3x1024, .f32⟩
  | .hbm, ⟨76, _⟩ => ⟨S8x2112x3x1024, .f32⟩
  | .hbm, ⟨77, _⟩ => ⟨S8x2112x3x1024, .f32⟩
  | .hbm, ⟨78, _⟩ => ⟨S_, .f32⟩
  | .hbm, ⟨79, _⟩ => ⟨S8x2112x3x1024, .f32⟩
  | .hbm, ⟨80, _⟩ => ⟨S8x2112x3x1024, .f32⟩
  | .hbm, ⟨81, _⟩ => ⟨S_, .f32⟩
  | .hbm, ⟨82, _⟩ => ⟨S8x2112x3x1024, .f32⟩
  | .hbm, ⟨83, _⟩ => ⟨S8x2112x3x1024, .f32⟩
  | .hbm, ⟨84, _⟩ => ⟨S8x2112x3x1024, .f32⟩
  | .hbm, ⟨85, _⟩ => ⟨S_, .f32⟩
  | .hbm, ⟨86, _⟩ => ⟨S8x2112x1024, .f32⟩
  | .hbm, ⟨87, _⟩ => ⟨S1x1024x1024, .f32⟩
  | .hbm, ⟨88, _⟩ => ⟨S1024x1024, .f32⟩
  | .hbm, ⟨89, _⟩ => ⟨S8x2112x1024, .f32⟩
  | .hbm, ⟨90, _⟩ => ⟨S8x2064x1024, .f32⟩
  | .hbm, ⟨91, _⟩ => ⟨S1x1024, .f32⟩
  | .hbm, ⟨92, _⟩ => ⟨S1024, .f32⟩
  | .hbm, ⟨93, _⟩ => ⟨S8x2064x1024, .f32⟩
  | .hbm, ⟨94, _⟩ => ⟨S_, .f32⟩
  | .hbm, ⟨95, _⟩ => ⟨S8x2064, .f32⟩
  | .hbm, ⟨96, _⟩ => ⟨S8x2064x1, .f32⟩
  | .hbm, ⟨97, _⟩ => ⟨S_, .f32⟩
  | .hbm, ⟨98, _⟩ => ⟨S8x2064x1, .f32⟩
  | .hbm, ⟨99, _⟩ => ⟨S8x2064x1, .f32⟩
  | .hbm, ⟨100, _⟩ => ⟨S_, .f32⟩
  | .hbm, ⟨101, _⟩ => ⟨S8x2064x1, .f32⟩
  | .hbm, ⟨102, _⟩ => ⟨S8x2064x1, .f32⟩
  | .hbm, ⟨103, _⟩ => ⟨S8x2064x1, .f32⟩
  | .hbm, ⟨104, _⟩ => ⟨S8x2064x1024, .f32⟩
  | .hbm, ⟨105, _⟩ => ⟨S8x2064x1024, .f32⟩
  | .hbm, ⟨106, _⟩ => ⟨S1x1x1024, .f32⟩
  | .hbm, ⟨107, _⟩ => ⟨S8x2064x1024, .f32⟩
  | .hbm, ⟨108, _⟩ => ⟨S8x2064x1024, .f32⟩
  | .hbm, ⟨109, _⟩ => ⟨S8x2064x1024, .f32⟩
  | .hbm, ⟨110, _⟩ => ⟨S_, .i32⟩
  | .hbm, ⟨111, _⟩ => ⟨S_, .f32⟩
  | .hbm, ⟨112, _⟩ => ⟨S8x2112x1024, .f32⟩
  | .hbm, ⟨113, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_0 : Ref sig .tc := ⟨.hbm, 78, rfl⟩
abbrev main_v58 : Ref sig .tc := ⟨.hbm, 79, rfl⟩
abbrev main_v59 : Ref sig .tc := ⟨.hbm, 80, rfl⟩
abbrev main_cst_1 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_2 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_3 : Ref sig .tc := ⟨.hbm, 94, rfl⟩
abbrev main_v71 : Ref sig .tc := ⟨.hbm, 95, rfl⟩
abbrev main_v72 : Ref sig .tc := ⟨.hbm, 96, rfl⟩
abbrev main_cst_4 : Ref sig .tc := ⟨.hbm, 97, rfl⟩
abbrev main_v73 : Ref sig .tc := ⟨.hbm, 98, rfl⟩
abbrev main_v74 : Ref sig .tc := ⟨.hbm, 99, rfl⟩
abbrev main_cst_5 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_6 : Ref sig .tc := ⟨.hbm, 110, rfl⟩
abbrev main_call2_v0 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== DeltaScan.lean ====
abbrev S16896x1024 : Shape := ⟨2, ![16896, 1024]⟩
abbrev S16896x2048 : Shape := ⟨2, ![16896, 2048]⟩
abbrev S264x8x64x64 : Shape := ⟨4, ![264, 8, 64, 64]⟩
abbrev S264x8x128 : Shape := ⟨3, ![264, 8, 128]⟩
abbrev S16896x13824 : Shape := ⟨2, ![16896, 13824]⟩
abbrev S2x128 : Shape := ⟨2, ![2, 128]⟩
abbrev S1x128 : Shape := ⟨2, ![1, 128]⟩
abbrev S128 : Shape := ⟨1, ![128]⟩
abbrev S8x2112x1024 : Shape := ⟨3, ![8, 2112, 1024]⟩
abbrev S8x2112x2048 : Shape := ⟨3, ![8, 2112, 2048]⟩
abbrev S8x33x8x64x64 : Shape := ⟨5, ![8, 33, 8, 64, 64]⟩
abbrev S8x33x8x128 : Shape := ⟨4, ![8, 33, 8, 128]⟩
abbrev S8x2112x13824 : Shape := ⟨3, ![8, 2112, 13824]⟩
abbrev S2x192x1024 : Shape := ⟨3, ![2, 192, 1024]⟩
abbrev S2x192x2048 : Shape := ⟨3, ![2, 192, 2048]⟩
abbrev S2x3x8x64x64 : Shape := ⟨5, ![2, 3, 8, 64, 64]⟩
abbrev S2x3x8x128 : Shape := ⟨4, ![2, 3, 8, 128]⟩
abbrev S16x128x128 : Shape := ⟨3, ![16, 128, 128]⟩
abbrev S1x1x1x64x64 : Shape := ⟨5, ![1, 1, 1, 64, 64]⟩
abbrev S64x64 : Shape := ⟨2, ![64, 64]⟩
abbrev S1x64x256 : Shape := ⟨3, ![1, 64, 256]⟩
abbrev S64x256 : Shape := ⟨2, ![64, 256]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S1x1x1x128 : Shape := ⟨4, ![1, 1, 1, 128]⟩
abbrev S64 : Shape := ⟨1, ![64]⟩
abbrev S64x1 : Shape := ⟨2, ![64, 1]⟩

abbrev nBuf : Space → Nat
  | .hbm => 19
  | .vmem => 18
  | .smem => 0
  | _ => 0

abbrev bufTy : (tb : Table) → Fin (tcTables nBuf tb) → BufTy
  | .hbm, ⟨0, _⟩ => ⟨S16896x1024, .bf16⟩
  | .hbm, ⟨1, _⟩ => ⟨S16896x2048, .bf16⟩
  | .hbm, ⟨2, _⟩ => ⟨S16896x1024, .bf16⟩
  | .hbm, ⟨3, _⟩ => ⟨S264x8x64x64, .bf16⟩
  | .hbm, ⟨4, _⟩ => ⟨S264x8x64x64, .bf16⟩
  | .hbm, ⟨5, _⟩ => ⟨S264x8x128, .f32⟩
  | .hbm, ⟨6, _⟩ => ⟨S16896x13824, .bf16⟩
  | .hbm, ⟨7, _⟩ => ⟨S2x128, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S8x2112x1024, .bf16⟩
  | .hbm, ⟨12, _⟩ => ⟨S8x2112x2048, .bf16⟩
  | .hbm, ⟨13, _⟩ => ⟨S8x2112x1024, .bf16⟩
  | .hbm, ⟨14, _⟩ => ⟨S8x33x8x64x64, .bf16⟩
  | .hbm, ⟨15, _⟩ => ⟨S8x33x8x64x64, .bf16⟩
  | .hbm, ⟨16, _⟩ => ⟨S8x33x8x128, .f32⟩
  | .hbm, ⟨17, _⟩ => ⟨S8x2112x13824, .bf16⟩
  | .hbm, ⟨18, _⟩ => ⟨S8x2112x1024, .bf16⟩
  | .local _ .vmem, ⟨0, _⟩ => ⟨S2x192x1024, .bf16⟩
  | .local _ .vmem, ⟨1, _⟩ => ⟨S2x192x1024, .bf16⟩
  | .local _ .vmem, ⟨2, _⟩ => ⟨S2x192x2048, .bf16⟩
  | .local _ .vmem, ⟨3, _⟩ => ⟨S2x192x2048, .bf16⟩
  | .local _ .vmem, ⟨4, _⟩ => ⟨S2x192x1024, .bf16⟩
  | .local _ .vmem, ⟨5, _⟩ => ⟨S2x192x1024, .bf16⟩
  | .local _ .vmem, ⟨6, _⟩ => ⟨S2x3x8x64x64, .bf16⟩
  | .local _ .vmem, ⟨7, _⟩ => ⟨S2x3x8x64x64, .bf16⟩
  | .local _ .vmem, ⟨8, _⟩ => ⟨S2x3x8x64x64, .bf16⟩
  | .local _ .vmem, ⟨9, _⟩ => ⟨S2x3x8x64x64, .bf16⟩
  | .local _ .vmem, ⟨10, _⟩ => ⟨S2x3x8x128, .f32⟩
  | .local _ .vmem, ⟨11, _⟩ => ⟨S2x3x8x128, .f32⟩
  | .local _ .vmem, ⟨12, _⟩ => ⟨S2x192x1024, .bf16⟩
  | .local _ .vmem, ⟨13, _⟩ => ⟨S2x192x1024, .bf16⟩
  | .local _ .vmem, ⟨14, _⟩ => ⟨S1x128, .f32⟩
  | .local _ .vmem, ⟨15, _⟩ => ⟨S2x192x1024, .bf16⟩
  | .local _ .vmem, ⟨16, _⟩ => ⟨S2x192x1024, .bf16⟩
  | .local _ .vmem, ⟨17, _⟩ => ⟨S16x128x128, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x192x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x8x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x3x8x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x3x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x192x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x192x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DeltaRefIdeal.lean ====
abbrev S16896x1024 : Shape := ⟨2, ![16896, 1024]⟩
abbrev S16896x2048 : Shape := ⟨2, ![16896, 2048]⟩
abbrev S264x8x64x64 : Shape := ⟨4, ![264, 8, 64, 64]⟩
abbrev S264x8x128 : Shape := ⟨3, ![264, 8, 128]⟩
abbrev S16896x13824 : Shape := ⟨2, ![16896, 13824]⟩
abbrev S2x128 : Shape := ⟨2, ![2, 128]⟩
abbrev S8x33x64x8x128 : Shape := ⟨5, ![8, 33, 64, 8, 128]⟩
abbrev S8x33x8x64x128 : Shape := ⟨5, ![8, 33, 8, 64, 128]⟩
abbrev S8x33x64x8x256 : Shape := ⟨5, ![8, 33, 64, 8, 256]⟩
abbrev S8x33x8x64x256 : Shape := ⟨5, ![8, 33, 8, 64, 256]⟩
abbrev S8x33x8x64x64 : Shape := ⟨5, ![8, 33, 8, 64, 64]⟩
abbrev S8x33x8x128 : Shape := ⟨4, ![8, 33, 8, 128]⟩
abbrev S33x8x8x64x128 : Shape := ⟨5, ![33, 8, 8, 64, 128]⟩
abbrev S33x8x8x64x64 : Shape := ⟨5, ![33, 8, 8, 64, 64]⟩
abbrev S33x8x8x128 : Shape := ⟨4, ![33, 8, 8, 128]⟩
abbrev S_ : Shape := ⟨0, ![]⟩
abbrev S8x8x128x128 : Shape := ⟨4, ![8, 8, 128, 128]⟩
abbrev S1x8x8x64x128 : Shape := ⟨5, ![1, 8, 8, 64, 128]⟩
abbrev S8x8x64x128 : Shape := ⟨4, ![8, 8, 64, 128]⟩
abbrev S1x8x8x64x64 : Shape := ⟨5, ![1, 8, 8, 64, 64]⟩
abbrev S8x8x64x64 : Shape := ⟨4, ![8, 8, 64, 64]⟩
abbrev S1x8x8x128 : Shape := ⟨4, ![1, 8, 8, 128]⟩
abbrev S8x8x128 : Shape := ⟨3, ![8, 8, 128]⟩
abbrev S8x8x1x128 : Shape := ⟨4, ![8, 8, 1, 128]⟩
abbrev S1x128 : Shape := ⟨2, ![1, 128]⟩
abbrev S128 : Shape := ⟨1, ![128]⟩
abbrev S8x33x8x64 : Shape := ⟨4, ![8, 33, 8, 64]⟩
abbrev S8x33x8x64x1 : Shape := ⟨5, ![8, 33, 8, 64, 1]⟩
abbrev S1x1x1x1x128 : Shape := ⟨5, ![1, 1, 1, 1, 128]⟩
abbrev S8x2112x1024 : Shape := ⟨3, ![8, 2112, 1024]⟩

abbrev nBuf : Space → Nat
  | .hbm => 136
  | .vmem => 0
  | .smem => 0
  | _ => 0

abbrev hbmTy0_0 (i : Nat) : BufTy := match i % 128 with
  | 0 => ⟨S16896x1024, .bf16⟩
  | 1 => ⟨S16896x2048, .bf16⟩
  | 2 => ⟨S16896x1024, .bf16⟩
  | 3 => ⟨S264x8x64x64, .bf16⟩
  | 4 => ⟨S264x8x64x64, .bf16⟩
  | 5 => ⟨S264x8x128, .f32⟩
  | 6 => ⟨S16896x13824, .bf16⟩
  | 7 => ⟨S2x128, .f32⟩
  | 8 => ⟨S16896x1024, .f32⟩
  | 9 => ⟨S8x33x64x8x128, .f32⟩
  | 10 => ⟨S8x33x8x64x128, .f32⟩
  | 11 => ⟨S16896x2048, .f32⟩
  | 12 => ⟨S8x33x64x8x256, .f32⟩
  | 13 => ⟨S8x33x8x64x256, .f32⟩
  | 14 => ⟨S16896x1024, .f32⟩
  | 15 => ⟨S8x33x64x8x128, .f32⟩
  | 16 => ⟨S8x33x8x64x128, .f32⟩
  | 17 => ⟨S264x8x64x64, .f32⟩
  | 18 => ⟨S8x33x8x64x64, .f32⟩
  | 19 => ⟨S264x8x64x64, .f32⟩
  | 20 => ⟨S8x33x8x64x64, .f32⟩
  | 21 => ⟨S8x33x8x64x256, .f32⟩
  | 22 => ⟨S8x33x8x64x128, .f32⟩
  | 23 => ⟨S8x33x8x64x128, .f32⟩
  | 24 => ⟨S8x33x8x128, .f32⟩
  | 25 => ⟨S33x8x8x64x128, .f32⟩
  | 26 => ⟨S33x8x8x64x128, .f32⟩
  | 27 => ⟨S33x8x8x64x128, .f32⟩
  | 28 => ⟨S33x8x8x64x128, .f32⟩
  | 29 => ⟨S33x8x8x64x64, .f32⟩
  | 30 => ⟨S33x8x8x128, .f32⟩
  | 31 => ⟨S_, .f32⟩
  | 32 => ⟨S8x8x128x128, .f32⟩
  | 33 => ⟨S_, .f32⟩
  | 34 => ⟨S33x8x8x64x128, .f32⟩
  | 35 => ⟨S_, .i32⟩
  | 36 => ⟨S33x8x8x64x128, .f32⟩
  | 37 => ⟨S33x8x8x64x128, .f32⟩
  | 38 => ⟨S33x8x8x64x128, .f32⟩
  | 39 => ⟨S33x8x8x64x128, .f32⟩
  | 40 => ⟨S33x8x8x64x64, .f32⟩
  | 41 => ⟨S33x8x8x128, .f32⟩
  | 42 => ⟨S_, .i32⟩
  | 43 => ⟨S8x8x128x128, .f32⟩
  | 44 => ⟨S33x8x8x64x128, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S1x8x8x64x128, .f32⟩
  | 52 => ⟨S8x8x64x128, .f32⟩
  | 53 => ⟨S_, .i32⟩
  | 54 => ⟨S_, .i32⟩
  | 55 => ⟨S_, .i32⟩
  | 56 => ⟨S_, .i32⟩
  | 57 => ⟨S1x8x8x64x128, .f32⟩
  | 58 => ⟨S8x8x64x128, .f32⟩
  | 59 => ⟨S_, .i32⟩
  | 60 => ⟨S_, .i32⟩
  | 61 => ⟨S_, .i32⟩
  | 62 => ⟨S_, .i32⟩
  | 63 => ⟨S1x8x8x64x128, .f32⟩
  | 64 => ⟨S8x8x64x128, .f32⟩
  | 65 => ⟨S_, .i32⟩
  | 66 => ⟨S_, .i32⟩
  | 67 => ⟨S_, .i32⟩
  | 68 => ⟨S_, .i32⟩
  | 69 => ⟨S1x8x8x64x128, .f32⟩
  | 70 => ⟨S8x8x64x128, .f32⟩
  | 71 => ⟨S_, .i32⟩
  | 72 => ⟨S_, .i32⟩
  | 73 => ⟨S_, .i32⟩
  | 74 => ⟨S_, .i32⟩
  | 75 => ⟨S1x8x8x64x64, .f32⟩
  | 76 => ⟨S8x8x64x64, .f32⟩
  | 77 => ⟨S_, .i32⟩
  | 78 => ⟨S_, .i32⟩
  | 79 => ⟨S_, .i32⟩
  | 80 => ⟨S1x8x8x128, .f32⟩
  | 81 => ⟨S8x8x128, .f32⟩
  | 82 => ⟨S8x8x64x128, .f32⟩
  | 83 => ⟨S8x8x64x128, .f32⟩
  | 84 => ⟨S8x8x64x128, .f32⟩
  | 85 => ⟨S8x8x64x128, .f32⟩
  | 86 => ⟨S8x8x64x128, .f32⟩
  | 87 => ⟨S8x8x1x128, .f32⟩
  | 88 => ⟨S8x8x128x128, .f32⟩
  | 89 => ⟨S8x8x128x128, .f32⟩
  | 90 => ⟨S8x8x128x128, .f32⟩
  | 91 => ⟨S8x8x128x128, .f32⟩
  | 92 => ⟨S1x8x8x64x128, .f32⟩
  | 93 => ⟨S_, .i32⟩
  | 94 => ⟨S_, .i32⟩
  | 95 => ⟨S_, .i32⟩
  | 96 => ⟨S_, .i32⟩
  | 97 => ⟨S33x8x8x64x128, .f32⟩
  | 98 => ⟨S_, .i32⟩
  | 99 => ⟨S_, .i32⟩
  | 100 => ⟨S16896x1024, .bf16⟩
  | 101 => ⟨S16896x1024, .f32⟩
  | 102 => ⟨S8x33x64x8x128, .f32⟩
  | 103 => ⟨S8x33x8x64x128, .f32⟩
  | 104 => ⟨S8x33x8x64x128, .f32⟩
  | 105 => ⟨S1x128, .f32⟩
  | 106 => ⟨S128, .f32⟩
  | 107 => ⟨S8x33x8x64x128, .f32⟩
  | 108 => ⟨S_, .f32⟩
  | 109 => ⟨S8x33x8x64, .f32⟩
  | 110 => ⟨S8x33x8x64x1, .f32⟩
  | 111 => ⟨S_, .f32⟩
  | 112 => ⟨S8x33x8x64x1, .f32⟩
  | 113 => ⟨S8x33x8x64x1, .f32⟩
  | 114 => ⟨S_, .f32⟩
  | 115 => ⟨S8x33x8x64x1, .f32⟩
  | 116 => ⟨S8x33x8x64x1, .f32⟩
  | 117 => ⟨S8x33x8x64x1, .f32⟩
  | 118 => ⟨S8x33x8x64x128, .f32⟩
  | 119 => ⟨S8x33x8x64x128, .f32⟩
  | 120 => ⟨S1x1x1x1x128, .f32⟩
  | 121 => ⟨S8x33x8x64x128, .f32⟩
  | 122 => ⟨S8x33x8x64x128, .f32⟩
  | 123 => ⟨S8x33x8x64x128, .f32⟩
  | 124 => ⟨S8x33x8x64x128, .f32⟩
  | 125 => ⟨S_, .f32⟩
  | 126 => ⟨S8x33x8x64x128, .f32⟩
  | 127 => ⟨S8x33x8x64x128, .f32⟩
  | _ => ⟨S16896x1024, .bf16⟩

abbrev hbmTy0_1 (i : Nat) : BufTy := match i % 128 with
  | 0 => ⟨S_, .f32⟩
  | 1 => ⟨S8x33x8x64x128, .f32⟩
  | 2 => ⟨S8x33x8x64x128, .f32⟩
  | 3 => ⟨S8x33x8x64x128, .f32⟩
  | 4 => ⟨S8x33x8x64x128, .f32⟩
  | 5 => ⟨S8x33x64x8x128, .f32⟩
  | 6 => ⟨S8x2112x1024, .f32⟩
  | 7 => ⟨S8x2112x1024, .bf16⟩
  | _ => ⟨S16896x1024, .bf16⟩

abbrev hbmTy (i : Nat) : BufTy := match i / 128 with
  | 0 => hbmTy0_0 i
  | 1 => hbmTy0_1 i
  | _ => ⟨S16896x1024, .bf16⟩

abbrev bufTy : (tb : Table) → Fin (tcTables nBuf tb) → BufTy
  | .hbm, ⟨i, _⟩ => hbmTy i
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_c : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev main_v25_8 : Ref sig .tc := ⟨.hbm, 44, rfl⟩
abbrev main_while0c_c_12 : Ref sig .tc := ⟨.hbm, 45, rfl⟩
abbrev main_while0c_v51 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_c_2 : Ref sig .tc := ⟨.hbm, 50, rfl⟩
abbrev main_while0b_call0_v0 : Ref sig .tc := ⟨.hbm, 51, rfl⟩
abbrev main_while0b_v51 : Ref sig .tc := ⟨.hbm, 52, rfl⟩
abbrev main_while0b_call1_c : Ref sig .tc := ⟨.hbm, 53, rfl⟩
abbrev main_while0b_call1_c_0 : Ref sig .tc := ⟨.hbm, 54, rfl⟩
abbrev main_while0b_call1_c_1 : Ref sig .tc := ⟨.hbm, 55, rfl⟩
abbrev main_while0b_call1_c_2 : Ref sig .tc := ⟨.hbm, 56, rfl⟩
abbrev main_while0b_call1_v0 : Ref sig .tc := ⟨.hbm, 57, rfl⟩
abbrev main_while0b_v52 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_c_1 : Ref sig .tc := ⟨.hbm, 61, rfl⟩
abbrev main_while0b_call2_c_2 : Ref sig .tc := ⟨.hbm, 62, rfl⟩
abbrev main_while0b_call2_v0 : Ref sig .tc := ⟨.hbm, 63, rfl⟩
abbrev main_while0b_v53 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_c_2 : Ref sig .tc := ⟨.hbm, 68, rfl⟩
abbrev main_while0b_call3_v0 : Ref sig .tc := ⟨.hbm, 69, rfl⟩
abbrev main_while0b_v54 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_c_2 : Ref sig .tc := ⟨.hbm, 74, rfl⟩
abbrev main_while0b_call4_v0 : Ref sig .tc := ⟨.hbm, 75, rfl⟩
abbrev main_while0b_v55 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_c_1 : Ref sig .tc := ⟨.hbm, 79, rfl⟩
abbrev main_while0b_call5_v0 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_v66 : Ref sig .tc := ⟨.hbm, 91, rfl⟩
abbrev main_while0b_call6_v0 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_c_2 : Ref sig .tc := ⟨.hbm, 96, rfl⟩
abbrev main_while0b_v67 : Ref sig .tc := ⟨.hbm, 97, rfl⟩
abbrev main_while0b_c_12 : Ref sig .tc := ⟨.hbm, 98, rfl⟩
abbrev main_while0b_v68 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_cst_1 : Ref sig .tc := ⟨.hbm, 108, rfl⟩
abbrev main_v34 : Ref sig .tc := ⟨.hbm, 109, rfl⟩
abbrev main_v35 : Ref sig .tc := ⟨.hbm, 110, rfl⟩
abbrev main_cst_2 : Ref sig .tc := ⟨.hbm, 111, rfl⟩
abbrev main_v36 : Ref sig .tc := ⟨.hbm, 112, rfl⟩
abbrev main_v37 : Ref sig .tc := ⟨.hbm, 113, rfl⟩
abbrev main_cst_3 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_call7_v0 : Ref sig .tc := ⟨.hbm, 123, rfl⟩
abbrev main_call7_v1 : Ref sig .tc := ⟨.hbm, 124, rfl⟩
abbrev main_call7_cst : Ref sig .tc := ⟨.hbm, 125, rfl⟩
abbrev main_call7_v2 : Ref sig .tc := ⟨.hbm, 126, rfl⟩
abbrev main_call7_v3 : Ref sig .tc := ⟨.hbm, 127, rfl⟩
abbrev main_call7_cst_0 : Ref sig .tc := ⟨.hbm, 128, rfl⟩
abbrev main_call7_v4 : Ref sig .tc := ⟨.hbm, 129, rfl⟩
abbrev main_call7_v5 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩

abbrev nD : Nat := 1
abbrev τ : Topo := Topo.v7x

variable {F : FTy → Type} [FloatOps F]

abbrev main_while0_count : Scf.Loop 32 := ⟨0#32, 33#32, 1#32⟩
-- ==== Proof.Plain.lean ====
/- The layer's two calls as plain functions of the argument arrays, every entry read at natural-number positions:
   what both the kernels and the references are shown equal to. -/
module

public import Idealize.ShloMosaic.Lib.Pipeline.ValueKit
public import Idealize.ShloMosaic.Lib.Pointwise

@[expose] public section

noncomputable section

namespace Cert.Plain

open Idealize.ShloMosaic Idealize.ShloMosaic.TcCoe Idealize.SL.Sem

/-- A matrix read at two natural numbers (zero outside). -/
def at2 {a b : ℕ} (p : (⟨2, ![a, b]⟩ : Shape).Idx → EReal) (i j : ℕ) : EReal :=
  if h : i < a ∧ j < b then p (ix2 ⟨i, h.1⟩ ⟨j, h.2⟩) else 0

/-- A rank-3 array read at three natural numbers (zero outside). -/
def at3 {a b c : ℕ} (p : (⟨3, ![a, b, c]⟩ : Shape).Idx → EReal) (i j k : ℕ) : EReal :=
  if h : i < a ∧ j < b ∧ k < c then p (ix3 ⟨i, h.1⟩ ⟨j, h.2.1⟩ ⟨k, h.2.2⟩) else 0

/-- A rank-4 array read at four natural numbers (zero outside). -/
def at4 {a b c d : ℕ} (p : (⟨4, ![a, b, c, d]⟩ : Shape).Idx → EReal) (i j k l : ℕ) : EReal :=
  if h : i < a ∧ j < b ∧ k < c ∧ l < d then p (ix4 ⟨i, h.1⟩ ⟨j, h.2.1⟩ ⟨k, h.2.2.1⟩ ⟨l, h.2.2.2⟩) else 0

theorem at2_ix {a b : ℕ} (p : (⟨2, ![a, b]⟩ : Shape).Idx → EReal) (i : Fin a) (j : Fin b) :
    p (ix2 i j) = at2 p i.val j.val := by simp [at2, i.isLt, j.isLt]

theorem at3_ix {a b c : ℕ} (p : (⟨3, ![a, b, c]⟩ : Shape).Idx → EReal) (i : Fin a) (j : Fin b) (k : Fin c) :
    p (ix3 i j k) = at3 p i.val j.val k.val := by simp [at3, i.isLt, j.isLt, k.isLt]

theorem at4_ix {a b c d : ℕ} (p : (⟨4, ![a, b, c, d]⟩ : Shape).Idx → EReal) (i : Fin a) (j : Fin b) (k : Fin c) (l : Fin d) :
    p (ix4 i j k l) = at4 p i.val j.val k.val l.val := by simp [at4, i.isLt, j.isLt, k.isLt, l.isLt]

/-- The entry at any multi-index whose coordinates are these numbers. -/
theorem at2_of {a b : ℕ} (p : (⟨2, ![a, b]⟩ : Shape).Idx → EReal) (y : (⟨2, ![a, b]⟩ : Shape).Idx) (i j : ℕ)
    (h0 : (y 0).val = i) (h1 : (y 1).val = j) : p y = at2 p i j := by
  subst h0 h1; rw [eq_ix2 y]; exact at2_ix p (y 0) (y 1)

theorem at3_of {a b c : ℕ} (p : (⟨3, ![a, b, c]⟩ : Shape).Idx → EReal) (y : (⟨3, ![a, b, c]⟩ : Shape).Idx) (i j k : ℕ)
    (h0 : (y 0).val = i) (h1 : (y 1).val = j) (h2 : (y 2).val = k) : p y = at3 p i j k := by
  subst h0 h1 h2; rw [eq_ix3 y]; exact at3_ix p (y 0) (y 1) (y 2)

theorem at4_of {a b c d : ℕ} (p : (⟨4, ![a, b, c, d]⟩ : Shape).Idx → EReal) (y : (⟨4, ![a, b, c, d]⟩ : Shape).Idx) (i j k l : ℕ)
    (h0 : (y 0).val = i) (h1 : (y 1).val = j) (h2 : (y 2).val = k) (h3 : (y 3).val = l) : p y = at4 p i j k l := by
  subst h0 h1 h2 h3; rw [eq_ix4 y]; exact at4_ix p (y 0) (y 1) (y 2) (y 3)

/-- The logistic function. -/
def sg (x : EReal) : EReal := Ideal.div 1 (1 + Ideal.exp (0 - x))

/-! ## The output call -/

section Output
variable (ys yd : (⟨2, ![16896, 1024]⟩ : Shape).Idx → EReal) (P : (⟨2, ![16896, 13824]⟩ : Shape).Idx → EReal)
  (X : (⟨2, ![16896, 1024]⟩ : Shape).Idx → EReal) (W : (⟨3, ![2, 3, 1024]⟩ : Shape).Idx → EReal)
  (WB : (⟨4, ![2, 3, 1024, 1024]⟩ : Shape).Idx → EReal) (WO : (⟨3, ![2, 1024, 1024]⟩ : Shape).Idx → EReal)
  (NP : (⟨2, ![2, 1024]⟩ : Shape).Idx → EReal)

/-- The gate of branch `w`. -/
def gate (w r k : ℕ) : EReal := sg (at2 P r (w * 1024 + k))

/-- What the short convolution runs over. -/
def uu (r d : ℕ) : EReal := at2 P r (8192 + d) * at2 P r (9216 + d)

/-- The three-tap causal convolution of the second layer's short-convolution mixer. -/
def conv (r d : ℕ) : EReal :=
  (at3 W 1 2 d * uu P r d + at3 W 1 1 d * uu P (r - 1) d) + at3 W 1 0 d * uu P (r - 2) d

/-- The short-convolution mixer. -/
def ysc (r d : ℕ) : EReal :=
  (at2 P r (7168 + d) * conv P W r d) * (at2 P r (10240 + d) * sg (at2 P r (10240 + d)))

/-- Branch `w`'s product with its matrix. -/
def br (y : ℕ → ℕ → EReal) (w r k : ℕ) : EReal := ∑ d : Fin 1024, y r d.val * at4 WB 1 w d.val k

/-- The gated sum of the branches. -/
def mg (r k : ℕ) : EReal :=
  (gate P 0 r k * br WB (at2 ys) 0 r k + gate P 1 r k * br WB (ysc P W) 1 r k) + gate P 2 r k * br WB (at2 yd) 2 r k

/-- The output projection. -/
def pr (r n : ℕ) : EReal := ∑ k : Fin 1024, mg ys yd P W WB r k.val * at3 WO 1 k.val n

/-- The result's row, before it is placed. -/
def fin (r n : ℕ) : EReal :=
  at2 X r n + (pr ys yd P W WB WO r n *
    Ideal.rsqrt (Ideal.div (∑ k : Fin 1024, pr ys yd P W WB WO r k.val * pr ys yd P W WB WO r k.val) (Ideal.ofBits .f32 0x44800000#32)
      + Ideal.ofBits .f32 0x358637BD#32)) * at2 NP 1 n

/-- The padded row that result row `i` is of. -/
def rowOf (i : ℕ) : ℕ := i / 2048 * 2112 + (64 + i % 2048)

/-- The output call's result. -/
def outG (i : (⟨2, ![16384, 1024]⟩ : Shape).Idx) : EReal := fin ys yd P X W WB WO NP (rowOf (i 0).val) (i 1).val

end Output

end Cert.Plain

end
-- ==== Proof.OutPay.lean ====
/- The output call's body at an entry of a block: what it stores, as the plain functions of the arrays its blocks are cut from. -/
module

public import proofs.«01_k».proof.Proof.Gen.KernelIdeal.Skeleton
public import proofs.«01_k».proof.Proof.Plain

@[expose] public section

set_option maxRecDepth 16384

noncomputable section

namespace Cert.OutPay

open Idealize.ShloMosaic Idealize.ShloMosaic.TcCoe Idealize.SL.Sem
open Cert.KernelIdeal Cert.KernelIdeal.Gen Cert.Plain

/-- The convolution's rows: a block's own row, and the two before it, from the block or from the sixteen rows above it. -/
theorem conv_at (c h : FVec Ideal S512x1024 .bf16) (ch hh : FVec Ideal S16x1024 .bf16) (w0 w1 w2 : FVec Ideal S1x1024 .f32)
    (u : ℕ → ℕ → EReal) (hu : ∀ (r : Fin 512) (d : Fin 1024), c (ix2 r d) * h (ix2 r d) = u (r.val + 16) d.val)
    (hv : ∀ (r : Fin 16) (d : Fin 1024), ch (ix2 r d) * hh (ix2 r d) = u r.val d.val) (r : Fin 512) (d : Fin 1024) :
    k0_pay2 (F := Ideal) c h ch hh w0 w1 w2 (ix2 r d)
      = (w2 (ix2 0 d) * u (r.val + 16) d.val + w1 (ix2 0 d) * u (r.val + 15) d.val) + w0 (ix2 0 d) * u (r.val + 14) d.val := by
  pointwise [k0_pay2]
  have below : ∀ (q : ℕ) (hq : q < 512), c (ix2 ⟨q, hq⟩ d) * h (ix2 ⟨q, hq⟩ d) = u (q + 16) d.val := fun q hq => hu ⟨q, hq⟩ d
  have above : ∀ (q : ℕ) (hq : q < 16), ch (ix2 ⟨q, hq⟩ d) * hh (ix2 ⟨q, hq⟩ d) = u q d.val := fun q hq => hv ⟨q, hq⟩ d
  have hr := r.isLt
  simp only [below, above, hu]
  by_cases h8 : (r : ℕ) < 8
  · rw [dif_pos h8]
    congr 2
    · congr 1
      by_cases h1 : 15 + (r : ℕ) < 16
      · rw [dif_pos h1]; congr 1; omega
      · rw [dif_neg h1]; congr 1; omega
    · by_cases h2 : 14 + (r : ℕ) < 16
      · rw [dif_pos h2]; congr 1; omega
      · rw [dif_neg h2]; congr 1; omega
  · rw [dif_neg h8]
    rw [show 8 + ((r : ℕ) - 8) + 16 = r + 16 by omega, show (8 + ((r : ℕ) - 8) + 512 - 1) % 512 + 16 = r + 15 by omega,
      show (8 + ((r : ℕ) - 8) + 512 - 2) % 512 + 16 = r + 14 by omega]

theorem sc_at (cv : FVec Ideal S512x1024 .f32) (b g : FVec Ideal S512x1024 .bf16) (r : Fin 512) (d : Fin 1024) :
    k0_pay3 (F := Ideal) cv b g (ix2 r d) = (b (ix2 r d) * cv (ix2 r d)) * (g (ix2 r d) * sg (g (ix2 r d))) := by
  pointwise [k0_pay3, sg]

theorem first_at (y g : FVec Ideal S512x1024 .bf16) (w : FVec Ideal S1x1024x1024 .bf16) (r : Fin 512) (k : Fin 1024) :
    k0_pay4 (F := Ideal) y g w (ix2 r k) = sg (g (ix2 r k)) * ∑ d : Fin 1024, y (ix2 r d) * w (ix3 0 d k) := by
  pointwise [k0_pay4, sg]

theorem last_at (y1 y2 : FVec Ideal S512x1024 .bf16) (m1 : FVec Ideal S512x1024 .f32) (g1 : FVec Ideal S512x1024 .bf16) (w1 : FVec Ideal S1x1024x1024 .bf16)
    (g2 : FVec Ideal S512x1024 .bf16) (w2 : FVec Ideal S1x1024x1024 .bf16) (wo : FVec Ideal S1024x1024 .bf16)
    (x : FVec Ideal S512x1024 .f32) (np : FVec Ideal S1x1024 .f32) (mg : ℕ → ℕ → EReal) (r : Fin 512) (n : Fin 1024)
    (hm : ∀ k : Fin 1024, m1 (ix2 r k) + sg (g1 (ix2 r k)) * (∑ d : Fin 1024, y1 (ix2 r d) * w1 (ix3 0 d k))
      + sg (g2 (ix2 r k)) * (∑ d : Fin 1024, y2 (ix2 r d) * w2 (ix3 0 d k)) = mg r.val k.val) :
    k0_pay1 (F := Ideal) x (k0_pay6 y1 y2 m1 (k0_pay5 g1) w1 g2 w2 wo) np (ix2 r n)
      = x (ix2 r n) + ((∑ k : Fin 1024, mg r.val k.val * wo (ix2 k n)) *
          Ideal.rsqrt (Ideal.div (∑ l : Fin 1024, (∑ k : Fin 1024, mg r.val k.val * wo (ix2 k l)) * (∑ k : Fin 1024, mg r.val k.val * wo (ix2 k l)))
            (Ideal.ofBits .f32 0x44800000#32) + Ideal.ofBits .f32 0x358637BD#32)) * np (ix2 0 n) := by
  simp only [← hm]
  pointwise [k0_pay1, k0_pay5, k0_pay6, sg]

end Cert.OutPay

end
-- ==== Proof.OutBlocks.lean ====
/- The output call's result array: the blocks its points leave, entry by entry the plain function of the argument arrays. -/
module

public import proofs.«01_k».proof.Proof.Gen.KernelIdeal.Value
public import proofs.«01_k».proof.Proof.OutPay
public import Idealize.ShloMosaic.Lib.Claim

@[expose] public section

set_option maxRecDepth 16384

noncomputable section

namespace Cert.OutBlocks

open Idealize.ShloMosaic Idealize.ShloMosaic.TcCoe Idealize.SL.Sem
open Idealize.ShloMosaic.Pipeline (Dat)
open Cert.KernelIdeal Cert.KernelIdeal.Gen Cert.Plain

variable (m : (ℓ : Loc nD τ sig) → Buf (Elt Ideal) ℓ)

/-- The padded row at which point `t`'s rows begin. -/
abbrev base (t : ℕ) : ℕ := t / 4 * 2112 + 64 + t % 4 * 512

theorem index_rows : ∀ t : Fin cfg0.N, win0_0.index t = ![base t.val, 0] ∧ win0_1.index t = ![base t.val, 0]
    ∧ win0_2.index t = ![base t.val, 7168] ∧ win0_3.index t = ![base t.val, 8192] ∧ win0_4.index t = ![base t.val - 16, 8192]
    ∧ win0_5.index t = ![base t.val, 9216] ∧ win0_6.index t = ![base t.val - 16, 9216] ∧ win0_7.index t = ![base t.val, 10240]
    ∧ win0_8.index t = ![base t.val, 0] ∧ win0_9.index t = ![base t.val, 0] :=
  (by decide +kernel : ∀ t : Fin grid0.N, _)

theorem index_whole : ∀ t : Fin cfg0.N, win0_11.index t = ![0, 0] ∧ win0_12.index t = ![0, 0, 0]
    ∧ win0_13.index t = ![0, 0] ∧ win0_14.index t = ![0, 0] ∧ win0_15.index t = ![t.val, 0] :=
  (by decide +kernel : ∀ t : Fin grid0.N, _)

theorem ys_at (c : Dev nD) (t : Fin cfg0.N) (r : Fin 512) (d : Fin 1024) :
    iblk m c 0 t (ix2 r d) = at2 (m ((c : Thread nD τ).loc main_arg0)) (base t.val + r.val) d.val := by
  have e : iblk m c 0 t (ix2 r d) = V m c main_arg0 ((win0_0.rect t).emb (ix2 r d)) := rfl
  rw [e, V_main_arg0 m c]
  refine at2_of (a := 16896) (b := 1024) _ _ _ _ ?_ ?_
  · refine (win0_0.rect_emb_val_off t (ix2 r d) 0).trans ?_
    rw [(index_rows t).1]; rfl
  · refine (win0_0.rect_emb_val_off t (ix2 r d) 1).trans ?_
    rw [(index_rows t).1]; exact Nat.zero_add _

theorem yd_at (c : Dev nD) (t : Fin cfg0.N) (r : Fin 512) (d : Fin 1024) :
    iblk m c 1 t (ix2 r d) = at2 (m ((c : Thread nD τ).loc main_arg1)) (base t.val + r.val) d.val := by
  have e : iblk m c 1 t (ix2 r d) = V m c main_arg1 ((win0_1.rect t).emb (ix2 r d)) := rfl
  rw [e, V_main_arg1 m c]
  refine at2_of (a := 16896) (b := 1024) _ _ _ _ ?_ ?_
  · refine (win0_1.rect_emb_val_off t (ix2 r d) 0).trans ?_
    rw [(index_rows t).2.1]; rfl
  · refine (win0_1.rect_emb_val_off t (ix2 r d) 1).trans ?_
    rw [(index_rows t).2.1]; exact Nat.zero_add _

theorem scb_at (c : Dev nD) (t : Fin cfg0.N) (r : Fin 512) (d : Fin 1024) :
    iblk m c 2 t (ix2 r d) = at2 (m ((c : Thread nD τ).loc main_arg2)) (base t.val + r.val) (7168 + d.val) := by
  have e : iblk m c 2 t (ix2 r d) = V m c main_arg2 ((win0_2.rect t).emb (ix2 r d)) := rfl
  rw [e, V_main_arg2 m c]
  refine at2_of (a := 16896) (b := 13824) _ _ _ _ ?_ ?_
  · refine (win0_2.rect_emb_val_off t (ix2 r d) 0).trans ?_
    rw [(index_rows t).2.2.1]; rfl
  · refine (win0_2.rect_emb_val_off t (ix2 r d) 1).trans ?_
    rw [(index_rows t).2.2.1]; rfl

theorem scc_at (c : Dev nD) (t : Fin cfg0.N) (r : Fin 512) (d : Fin 1024) :
    iblk m c 3 t (ix2 r d) = at2 (m ((c : Thread nD τ).loc main_arg2)) (base t.val + r.val) (8192 + d.val) := by
  have e : iblk m c 3 t (ix2 r d) = V m c main_arg2 ((win0_3.rect t).emb (ix2 r d)) := rfl
  rw [e, V_main_arg2 m c]
  refine at2_of (a := 16896) (b := 13824) _ _ _ _ ?_ ?_
  · refine (win0_3.rect_emb_val_off t (ix2 r d) 0).trans ?_
    rw [(index_rows t).2.2.2.1]; rfl
  · refine (win0_3.rect_emb_val_off t (ix2 r d) 1).trans ?_
    rw [(index_rows t).2.2.2.1]; rfl

theorem scc_above (c : Dev nD) (t : Fin cfg0.N) (r : Fin 16) (d : Fin 1024) :
    iblk m c 4 t (ix2 r d) = at2 (m ((c : Thread nD τ).loc main_arg2)) (base t.val - 16 + r.val) (8192 + d.val) := by
  have e : iblk m c 4 t (ix2 r d) = V m c main_arg2 ((win0_4.rect t).emb (ix2 r d)) := rfl
  rw [e, V_main_arg2 m c]
  refine at2_of (a := 16896) (b := 13824) _ _ _ _ ?_ ?_
  · refine (win0_4.rect_emb_val_off t (ix2 r d) 0).trans ?_
    rw [(index_rows t).2.2.2.2.1]; rfl
  · refine (win0_4.rect_emb_val_off t (ix2 r d) 1).trans ?_
    rw [(index_rows t).2.2.2.2.1]; rfl

theorem sch_at (c : Dev nD) (t : Fin cfg0.N) (r : Fin 512) (d : Fin 1024) :
    iblk m c 5 t (ix2 r d) = at2 (m ((c : Thread nD τ).loc main_arg2)) (base t.val + r.val) (9216 + d.val) := by
  have e : iblk m c 5 t (ix2 r d) = V m c main_arg2 ((win0_5.rect t).emb (ix2 r d)) := rfl
  rw [e, V_main_arg2 m c]
  refine at2_of (a := 16896) (b := 13824) _ _ _ _ ?_ ?_
  · refine (win0_5.rect_emb_val_off t (ix2 r d) 0).trans ?_
    rw [(index_rows t).2.2.2.2.2.1]; rfl
  · refine (win0_5.rect_emb_val_off t (ix2 r d) 1).trans ?_
    rw [(index_rows t).2.2.2.2.2.1]; rfl

theorem sch_above (c : Dev nD) (t : Fin cfg0.N) (r : Fin 16) (d : Fin 1024) :
    iblk m c 6 t (ix2 r d) = at2 (m ((c : Thread nD τ).loc main_arg2)) (base t.val - 16 + r.val) (9216 + d.val) := by
  have e : iblk m c 6 t (ix2 r d) = V m c main_arg2 ((win0_6.rect t).emb (ix2 r d)) := rfl
  rw [e, V_main_arg2 m c]
  refine at2_of (a := 16896) (b := 13824) _ _ _ _ ?_ ?_
  · refine (win0_6.rect_emb_val_off t (ix2 r d) 0).trans ?_
    rw [(index_rows t).2.2.2.2.2.2.1]; rfl
  · refine (win0_6.rect_emb_val_off t (ix2 r d) 1).trans ?_
    rw [(index_rows t).2.2.2.2.2.2.1]; rfl

theorem scg_at (c : Dev nD) (t : Fin cfg0.N) (r : Fin 512) (d : Fin 1024) :
    iblk m c 7 t (ix2 r d) = at2 (m ((c : Thread nD τ).loc main_arg2)) (base t.val + r.val) (10240 + d.val) := by
  have e : iblk m c 7 t (ix2 r d) = V m c main_arg2 ((win0_7.rect t).emb (ix2 r d)) := rfl
  rw [e, V_main_arg2 m c]
  refine at2_of (a := 16896) (b := 13824) _ _ _ _ ?_ ?_
  · refine (win0_7.rect_emb_val_off t (ix2 r d) 0).trans ?_
    rw [(index_rows t).2.2.2.2.2.2.2.1]; rfl
  · refine (win0_7.rect_emb_val_off t (ix2 r d) 1).trans ?_
    rw [(index_rows t).2.2.2.2.2.2.2.1]; rfl

theorem gates_at (c : Dev nD) (t : Fin cfg0.N) (r : Fin 512) (d : Fin 3072) :
    iblk m c 8 t (ix2 r d) = at2 (m ((c : Thread nD τ).loc main_arg2)) (base t.val + r.val) d.val := by
  have e : iblk m c 8 t (ix2 r d) = V m c main_arg2 ((win0_8.rect t).emb (ix2 r d)) := rfl
  rw [e, V_main_arg2 m c]
  refine at2_of (a := 16896) (b := 13824) _ _ _ _ ?_ ?_
  · refine (win0_8.rect_emb_val_off t (ix2 r d) 0).trans ?_
    rw [(index_rows t).2.2.2.2.2.2.2.2.1]; rfl
  · refine (win0_8.rect_emb_val_off t (ix2 r d) 1).trans ?_
    rw [(index_rows t).2.2.2.2.2.2.2.2.1]; exact Nat.zero_add _

theorem x_at (c : Dev nD) (t : Fin cfg0.N) (r : Fin 512) (d : Fin 1024) :
    iblk m c 9 t (ix2 r d) = at2 (m ((c : Thread nD τ).loc main_arg3)) (base t.val + r.val) d.val := by
  have e : iblk m c 9 t (ix2 r d) = V m c main_arg3 ((win0_9.rect t).emb (ix2 r d)) := rfl
  rw [e, V_main_arg3 m c]
  refine at2_of (a := 16896) (b := 1024) _ _ _ _ ?_ ?_
  · refine (win0_9.rect_emb_val_off t (ix2 r d) 0).trans ?_
    rw [(index_rows t).2.2.2.2.2.2.2.2.2]; rfl
  · refine (win0_9.rect_emb_val_off t (ix2 r d) 1).trans ?_
    rw [(index_rows t).2.2.2.2.2.2.2.2.2]; exact Nat.zero_add _

theorem scw_at (c : Dev nD) (t : Fin cfg0.N) (j : Fin 3) (d : Fin 1024) :
    iblk m c 11 t (ix2 j d) = at3 (m ((c : Thread nD τ).loc main_arg4)) 1 j.val d.val := by
  have e : ((win0_11.rect t).emb (ix2 j d)) = ix2 j d := by
    blk_ext [index_whole t] <;> exact Nat.zero_add _
  have e' : iblk m c 11 t (ix2 j d) = V m c main_v3 ((win0_11.rect t).emb (ix2 j d)) := rfl
  rw [e', e]
  entry_read
  pointwise
  exact at3_of (a := 2) (b := 3) (c := 1024) _ _ _ _ _ rfl rfl rfl

theorem wb_at (c : Dev nD) (t : Fin cfg0.N) (w : Fin 3) (d k : Fin 1024) :
    iblk m c 12 t (ix3 w d k) = at4 (m ((c : Thread nD τ).loc main_arg5)) 1 w.val d.val k.val := by
  have e : ((win0_12.rect t).emb (ix3 w d k)) = ix3 w d k := by
    blk_ext [index_whole t] <;> exact Nat.zero_add _
  have e' : iblk m c 12 t (ix3 w d k) = V m c main_v6 ((win0_12.rect t).emb (ix3 w d k)) := rfl
  rw [e', e]
  entry_read
  pointwise
  exact at4_of (a := 2) (b := 3) (c := 1024) (d := 1024) _ _ _ _ _ _ rfl rfl rfl rfl

theorem wo_at (c : Dev nD) (t : Fin cfg0.N) (k n : Fin 1024) :
    iblk m c 13 t (ix2 k n) = at3 (m ((c : Thread nD τ).loc main_arg6)) 1 k.val n.val := by
  have e : ((win0_13.rect t).emb (ix2 k n)) = ix2 k n := by
    blk_ext [index_whole t] <;> exact Nat.zero_add _
  have e' : iblk m c 13 t (ix2 k n) = V m c main_v9 ((win0_13.rect t).emb (ix2 k n)) := rfl
  rw [e', e]
  entry_read
  pointwise
  exact at3_of (a := 2) (b := 1024) (c := 1024) _ _ _ _ _ rfl rfl rfl

theorem np_at (c : Dev nD) (t : Fin cfg0.N) (n : Fin 1024) :
    iblk m c 14 t (ix2 0 n) = at2 (m ((c : Thread nD τ).loc main_arg7)) 1 n.val := by
  have e : ((win0_14.rect t).emb (ix2 0 n)) = ix2 0 n := by
    blk_ext [index_whole t] <;> exact Nat.zero_add _
  have e' : iblk m c 14 t (ix2 0 n) = V m c main_v12 ((win0_14.rect t).emb (ix2 0 n)) := rfl
  rw [e', e]
  entry_read
  pointwise
  exact at2_of (a := 2) (b := 1024) _ _ _ _ rfl rfl

/-- The result as the plain function of the arrays as launched. -/
abbrev G (c : Dev nD) : (⟨2, ![16384, 1024]⟩ : Shape).Idx → EReal :=
  outG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem G_at (c : Dev nD) (y : (⟨2, ![16384, 1024]⟩ : Shape).Idx) (i j : ℕ) (h0 : (y 0).val = i) (h1 : (y 1).val = j) :
    G m c y = fin (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (rowOf i) j := by
  subst h0 h1; rfl

theorem stored (c : Dev nD) (t : Fin cfg0.N) (r : Fin 512) (n : Fin 1024) :
    (dats m 0 c).after 15 t (ix2 r n) = fin (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (base t.val + r.val) n.val := by
  rw [after0_15]; frame_out
  refine (OutPay.last_at _ _ _ _ _ _ _ _ _ _ (fun r k => mg (m ((c : Thread nD τ).loc main_arg0)) (m ((c : Thread nD τ).loc main_arg1)) (m ((c : Thread nD τ).loc main_arg2))
    (m ((c : Thread nD τ).loc main_arg4)) (m ((c : Thread nD τ).loc main_arg5)) (base t.val + r) k) r n ?_).trans ?_
  · intro k
    rw [OutPay.first_at]
    pointwise
    have hb : 16 ≤ base t.val := by simp only [base]; omega
    simp only [OutPay.sc_at, ys_at, yd_at, scb_at, scg_at, gates_at, wb_at]
    have hc : ∀ d : Fin 1024, k0_pay2 (F := Ideal) (iblk m c 3 t) (iblk m c 5 t) (iblk m c 4 t) (iblk m c 6 t) (View.ld (iblk m c 11 t) r0_2)
        (View.ld (iblk m c 11 t) r0_3) (View.ld (iblk m c 11 t) r0_4) (ix2 r d)
        = conv (m ((c : Thread nD τ).loc main_arg2)) (m ((c : Thread nD τ).loc main_arg4)) (base t.val + r.val) d.val := by
      intro d
      refine (OutPay.conv_at _ _ _ _ _ _ _ (fun q e => uu (m ((c : Thread nD τ).loc main_arg2)) (base t.val - 16 + q) e) ?_ ?_ r d).trans ?_
      · intro q e
        rw [scc_at, sch_at, show base t.val - 16 + (q.val + 16) = base t.val + q.val by omega]; rfl
      · intro q e
        rw [scc_above, sch_above]; rfl
      · pointwise
        simp only [scw_at]
        rw [show base t.val - 16 + (r.val + 16) = base t.val + r.val by omega, show base t.val - 16 + (r.val + 15) = base t.val + r.val - 1 by omega,
          show base t.val - 16 + (r.val + 14) = base t.val + r.val - 2 by omega]
        rfl
    unfold mg gate br ysc
    rw [show 0 * 1024 + k.val = k.val by omega]
    refine congrArg₂ (· + ·) (congrArg₂ (· + ·) rfl ?_) rfl
    exact congrArg₂ (· * ·) rfl (Finset.sum_congr rfl fun d _ => congrArg₂ (· * ·) (congrArg₂ (· * ·) (congrArg₂ (· * ·) rfl (hc d)) rfl) rfl)
  · simp only [x_at, wo_at, np_at]
    rfl

theorem final (c : Dev nD) : (dats m 0 c).arrAt 15 cfg0.N = G m c := by
  refine (dats m 0 c).arrAt_eq_of_covers 15 _ (by decide +kernel) fun t hf y => ?_
  blk_simp
  idx_vars y
  have ht : t.val < 32 := t.isLt
  have hy := y0.isLt
  have hrow : rowOf (t.val * 512 + y0.val) = base t.val + y0.val := by
    simp only [rowOf, base]; omega
  refine (stored m c t y0 y1).trans ?_
  rw [← hrow]
  refine (G_at m c _ _ _ ?_ ?_).symm
  · refine (win0_15.rect_emb_val_off t (ix2 y0 y1) 0).trans ?_
    rw [(index_whole t).2.2.2.2]; rfl
  · refine (win0_15.rect_emb_val_off t (ix2 y0 y1) 1).trans ?_
    rw [(index_whole t).2.2.2.2]; exact Nat.zero_add _

end Cert.OutBlocks

end
-- ==== Proof.OutRef.lean ====
/- The output call's reference: its stages, entry by entry the plain functions of the argument arrays. -/
module

public import proofs.«01_k».proof.Proof.Gen.ReferenceIdeal.Read
public import proofs.«01_k».proof.Proof.Plain

@[expose] public section

set_option maxRecDepth 16384

noncomputable section

namespace Cert.OutRef

open Idealize.ShloMosaic Idealize.ShloMosaic.TcCoe Idealize.SL.Sem
open Cert.ReferenceIdeal Cert.ReferenceIdeal.Read Cert.Plain

variable (x0 x1 : FVec Ideal S16896x1024 .bf16) (x2 : FVec Ideal S16896x13824 .bf16) (x3 : FVec Ideal S16896x1024 .f32)
  (x4 : FVec Ideal S2x3x1024 .f32) (x5 : FVec Ideal S2x3x1024x1024 .f32) (x6 : FVec Ideal S2x1024x1024 .f32) (x7 : FVec Ideal S2x1024 .f32)

theorem ys_at (b : Fin 8) (t : Fin 2064) (d : Fin 1024) :
    val_main_v2 (F := Ideal) x0 (ix3 b t d) = at2 x0 (b.val * 2112 + (48 + t.val)) d.val := by
  pointwise [val_main_v2, val_main_v1, val_main_v0]
  exact at2_of (a := 16896) (b := 1024) _ _ _ _ rfl rfl

theorem yd_at (b : Fin 8) (t : Fin 2064) (d : Fin 1024) :
    val_main_v5 (F := Ideal) x1 (ix3 b t d) = at2 x1 (b.val * 2112 + (48 + t.val)) d.val := by
  pointwise [val_main_v5, val_main_v4, val_main_v3]
  exact at2_of (a := 16896) (b := 1024) _ _ _ _ rfl rfl

theorem x_at (b : Fin 8) (t : Fin 2064) (d : Fin 1024) :
    val_main_v10 (F := Ideal) x3 (ix3 b t d) = at2 x3 (b.val * 2112 + (48 + t.val)) d.val := by
  pointwise [val_main_v10, val_main_v9]
  exact at2_of (a := 16896) (b := 1024) _ _ _ _ rfl rfl

theorem proj_at (b : Fin 8) (t : Fin 2064) (d : Fin 13824) :
    val_main_v8 (F := Ideal) x2 (ix3 b t d) = at2 x2 (b.val * 2112 + (48 + t.val)) d.val := by
  pointwise [val_main_v8, val_main_v7, val_main_v6]
  exact at2_of (a := 16896) (b := 13824) _ _ _ _ rfl rfl

theorem u_at (b : Fin 8) (t : Fin 2064) (d : Fin 1024) :
    val_main_v22 (F := Ideal) x2 (ix3 b t d) = uu x2 (b.val * 2112 + (48 + t.val)) d.val := by
  pointwise [val_main_v22, val_main_v15, val_main_v16]
  simp only [proj_at]
  rfl

theorem tap_at (j : Fin 3) (d : Fin 1024) : val_main_v21 (F := Ideal) x4 (ix2 j d) = at3 x4 1 j.val d.val := by
  pointwise [val_main_v21, val_main_v20]
  exact at3_of (a := 2) (b := 3) (c := 1024) _ _ _ _ _ rfl rfl rfl

theorem neg_eq_zero_sub (x : EReal) : -x = 0 - x := by
  rw [sub_eq_add_neg, zero_add]

theorem conv_at (b : Fin 8) (t : Fin 2064) (h : 2 ≤ t.val) (d : Fin 1024) :
    val_main_v45 (F := Ideal) x2 x4 (ix3 b t d) = conv x2 x4 (b.val * 2112 + (48 + t.val)) d.val := by
  pointwise [val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27,
    val_main_v26, val_main_v25, val_main_v24, val_main_v23, val_main_cst]
  simp only [tap_at, u_at]
  rw [dif_pos (show 2 ≤ t.val ∧ t.val - 2 < 2064 by omega), dif_pos (show 2 ≤ 1 + t.val ∧ 1 + t.val - 2 < 2064 by omega),
    show b.val * 2112 + (48 + (t.val - 2)) = b.val * 2112 + (48 + t.val) - 2 by omega,
    show b.val * 2112 + (48 + (1 + t.val - 2)) = b.val * 2112 + (48 + t.val) - 1 by omega]
  unfold conv
  refine (add_comm _ _).trans ?_
  refine (congrArg₂ (· + ·) rfl (add_comm _ _)).trans ?_
  exact (add_assoc _ _ _).symm

theorem sc_at (b : Fin 8) (t : Fin 2064) (h : 2 ≤ t.val) (d : Fin 1024) :
    val_main_v48 (F := Ideal) x2 x4 (ix3 b t d) = ysc x2 x4 (b.val * 2112 + (48 + t.val)) d.val := by
  pointwise [val_main_v48, val_main_v47, val_main_v46, val_main_v14, val_main_v17, val_main_call1_v0, val_main_call1_v1, val_main_call1_v2, val_main_call1_v3, val_main_call1_v4, val_main_call1_v5, val_main_call1_cst, val_main_call1_cst_0]
  simp only [proj_at, conv_at x2 x4 b t h, neg_eq_zero_sub]
  rfl

/-- The three branches' inputs, by the branch's number. -/
def yy (x0 x1 : FVec Ideal S16896x1024 .bf16) (x2 : FVec Ideal S16896x13824 .bf16) (x4 : FVec Ideal S2x3x1024 .f32) (w r d : ℕ) : EReal :=
  if w < 1 then at2 x0 r d else if w - 1 < 1 then ysc x2 x4 r d else at2 x1 r d

theorem stack_at (b : Fin 8) (t : Fin 2064) (h : 2 ≤ t.val) (d : Fin 1024) (w : Fin 3) :
    val_main_v52 (F := Ideal) x0 x1 x2 x4 (ix4 b t w d) = yy x0 x1 x2 x4 w.val (b.val * 2112 + (48 + t.val)) d.val := by
  pointwise [val_main_v52, val_main_v51, val_main_v50, val_main_v49]
  simp only [ys_at, yd_at, sc_at x2 x4 b t h]
  rfl

theorem br_at (b : Fin 8) (t : Fin 2064) (h : 2 ≤ t.val) (k : Fin 1024) (w : Fin 3) :
    val_main_v56 (F := Ideal) x0 x1 x2 x4 x5 (ix4 b t w k)
      = br x5 (yy x0 x1 x2 x4 w.val) w.val (b.val * 2112 + (48 + t.val)) k.val := by
  pointwise [val_main_v56, val_main_v55, val_main_v54, val_main_v53]
  refine Finset.sum_congr rfl fun d _ => ?_
  rw [stack_at x0 x1 x2 x4 b t h, mul_comm]
  exact congrArg₂ (· * ·) rfl (at4_of (a := 2) (b := 3) (c := 1024) (d := 1024) _ _ _ _ _ _ rfl rfl rfl rfl)

theorem mg_at (b : Fin 8) (t : Fin 2064) (h : 2 ≤ t.val) (k : Fin 1024) :
    val_main_v65 (F := Ideal) x0 x1 x2 x4 x5 (ix3 b t k) = mg x0 x1 x2 x4 x5 (b.val * 2112 + (48 + t.val)) k.val := by
  pointwise [val_main_v65, val_main_v64, val_main_v63, val_main_v62, val_main_v61, val_main_v60, val_main_v59, val_main_v58, val_main_v57, val_main_v11, val_main_cst_0, val_main_cst_1, val_main_cst_2]
  simp only [proj_at, br_at x0 x1 x2 x4 x5 b t h, neg_eq_zero_sub]
  rw [Fin.sum_univ_three]
  rfl

theorem fin_at (i : Fin 16384) (n : Fin 1024) :
    val_main_v86 (F := Ideal) x0 x1 x2 x3 x4 x5 x6 x7 (ix2 i n) = outG x0 x1 x2 x3 x4 x5 x6 x7 (ix2 i n) := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_cst_3, val_main_cst_4, val_main_cst_5]
  simp only [x_at]
  have hm : ∀ (p : i.val / 2048 < 8) (q : 16 + i.val % 2048 < 2064) (k : Fin 1024), val_main_v65 (F := Ideal) x0 x1 x2 x4 x5 (ix3 ⟨i.val / 2048, p⟩ ⟨16 + i.val % 2048, q⟩ k)
      = mg x0 x1 x2 x4 x5 (rowOf i.val) k.val := by
    intro p q k
    rw [mg_at x0 x1 x2 x4 x5 _ _ (by show 2 ≤ 16 + i.val % 2048; omega)]
    rw [show i.val / 2048 * 2112 + (48 + (16 + i.val % 2048)) = rowOf i.val by unfold rowOf; omega]
  simp only [hm]
  rw [at2_ix x7 1 n]
  simp only [at3_ix x6]
  rw [show i.val / 2048 * 2112 + (48 + (16 + i.val % 2048)) = rowOf i.val by unfold rowOf; omega]
  rfl

/-- The reference's result is the plain function of its arguments. -/
theorem result (i : (⟨2, ![16384, 1024]⟩ : Shape).Idx) :
    val_main_v86 (F := Ideal) x0 x1 x2 x3 x4 x5 x6 x7 i = outG x0 x1 x2 x3 x4 x5 x6 x7 i := by
  rw [eq_ix2 i]; exact fin_at x0 x1 x2 x3 x4 x5 x6 x7 (i 0) (i 1)

end Cert.OutRef

end
-- ==== Proof.Out.lean ====
/- The claims about the output call: its frame at both instances, the reference's, and the value claim. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.OutBlocks
public import proofs.«01_k».proof.Proof.OutRef
public import Idealize.ShloMosaic.Adequacy
public import Idealize.ShloMosaic.Lib.Quiescent
public import Idealize.ShloMosaic.Init

@[expose] public section

set_option maxRecDepth 16384

noncomputable section

namespace Cert.OutClaims

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run m ρ)

/-- The array the call's output window ends with is the plain function of the arguments, and so is the
    reference's result. -/
theorem value : Cert.algebraic_KernelIdeal_ReferenceIdeal := by
  pair_intro
  · run_from Cert.KernelIdeal.Value.run_blocks m g
  · run_from Cert.ReferenceIdeal.Value.run m' g'
    rw [Cert.ReferenceIdeal.Read.val_main_v86_eq m' c, Cert.OutBlocks.final m c]
    obtain ⟨h0, h1, h2, h3, h4, h5, h6, h7, -⟩ := hagree c
    rw [h0, h1, h2, h3, h4, h5, h6, h7]
    funext i
    exact Cert.OutRef.result _ _ _ _ _ _ _ _ i

end Cert.OutClaims

end
-- ==== Proof.InRun.lean ====
/- One call of the input projection's body, run once on any whole memrefs and for any float model: what it leaves in its
   two output buffers and in the scratch, at the first column block of a row tile and at a later one. -/
module

public import proofs.«01_k».proof.Proof.Gen.InProjIdeal.Frame
public import proofs.«01_k».proof.Proof.Gen.InProjIdeal.Skeleton
public import Idealize.ShloMosaic.Lib.Claim
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.InRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The branch is taken at the first column block of a row tile: every sixth point. -/
theorem first_iff (t : Fin cfg0.N) : k0_cond1 (grid0.coords t) = 1#1 ↔ t.val % 6 = 0 := by
  have ht : t.val < 96 := Nat.lt_of_lt_of_eq t.isLt N_0
  have e1 : (grid0.coords t 1).val = t.val / 1 % 6 := Pipeline.Grid.coords_val t 1 (by decide) rfl
  simp only [k0_cond1, e1]
  word_cmp

/-- The normalized rows of a tile, as the first column block leaves them in the scratch. -/
def normed (i : grid0.Coords) (x0 : Vec F S1056x1024 .f32) (x1 : Vec F S64x1024 .f32) (x2 : Vec F S1x1024 .f32) :
    Vec F S1056x1024 .bf16 := k0_pay4 (BitVec.ofNat 32 (i 0).val) x0 x1 x2

/-- The small projections of a tile, as the first column block leaves them in the second output's buffer. -/
def small (i : grid0.Coords) (x0 : Vec F S1056x1024 .f32) (x1 : Vec F S64x1024 .f32) (x2 : Vec F S1x1024 .f32)
    (x4 x5 : Vec F S1024x128 .f32) : Vec F S1056x128 .f32 :=
  k0_pay1 (k0_pay3 (BitVec.ofNat 32 (i 0).val) x0 x1 x2) (iota .tc S1024x128 32 [1] iota_S1024x128_d1_w32) k0_pay5 x4 x5

/-- A load of a whole memref's own sizes reads its contents. -/
theorem load_all {s : Shape} {e : EltTy} (a : Memref sig .tc .vmem s e) (ha : a.IsWhole) (x : Vec F s e) {off : Fin s.rank → ℕ}
    (inb : ∀ k, off k + s.size k ≤ s.size k) :
    a.view.readAt (Elt F) (Rect.unit off s.size inb).toLoadRect (ha.unread x) = x :=
  (View.readAt_full a.view _ inb).trans (ha.read_unread x)

section Body

variable (c : Dev nD) (i : grid0.Coords)
  (arg2 : Memref sig .tc .vmem S1056x1024 .f32) (harg2 : arg2.IsWhole) (arg3 : Memref sig .tc .vmem S64x1024 .f32) (harg3 : arg3.IsWhole)
  (arg4 : Memref sig .tc .vmem S1x1024 .f32) (harg4 : arg4.IsWhole) (arg5 : Memref sig .tc .vmem S1024x2304 .bf16) (harg5 : arg5.IsWhole)
  (arg6 : Memref sig .tc .vmem S1024x128 .f32) (harg6 : arg6.IsWhole) (arg7 : Memref sig .tc .vmem S1024x128 .f32) (harg7 : arg7.IsWhole)
  (arg8 : Memref sig .tc .vmem S1056x2304 .bf16) (harg8 : arg8.IsWhole) (arg9 : Memref sig .tc .vmem S1056x128 .f32) (harg9 : arg9.IsWhole)
  (arg10 : Memref sig .tc .vmem S1056x1024 .bf16) (harg10 : arg10.IsWhole)
  (x0 : Vec F S1056x1024 .f32) (x1 : Vec F S64x1024 .f32) (x2 : Vec F S1x1024 .f32) (x3 : Vec F S1024x2304 .bf16)
  (x4 x5 : Vec F S1024x128 .f32)

/-- The six input buffers at their contents. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The two output buffers and the scratch at given contents. -/
abbrev outs (y6 : Vec F S1056x2304 .bf16) (y7 : Vec F S1056x128 .f32) (ys : Vec F S1056x1024 .bf16) : sProp 𝕄 :=
  iprop(owns (c : Thread nD τ) arg8 fullShare y6 ∗ owns (c : Thread nD τ) arg9 fullShare y7 ∗ owns (c : Thread nD τ) arg10 fullShare ys)

set_option maxHeartbeats 1000000 in
/-- At a later column block only the main output is written, from the scratch as it was found. -/
theorem run_later (hc : ¬ k0_cond1 i = 1#1) (y7 : Vec F S1056x128 .f32) (ys : Vec F S1056x1024 .bf16) (E : Set ℕ) (K : PUnit → sProp 𝕄) :
    iprop(ins c arg2 arg3 arg4 arg5 arg6 arg7 x0 x1 x2 x3 x4 x5 ∗ (∃ d, outs c arg8 arg9 arg10 d y7 ys)
        ∗ (iprop(ins c arg2 arg3 arg4 arg5 arg6 arg7 x0 x1 x2 x3 x4 x5 ∗ outs c arg8 arg9 arg10 (k0_pay2 ys x3) y7 ys) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold ins outs owns
  iintro ⟨⟨H0, H1, H2, ⟨%f3, %hf3, H3⟩, H4, H5⟩, ⟨%d6, ⟨%f6, -, H6⟩, H7, ⟨%fs, %hfs, HS⟩⟩, Hk⟩
  obtain rfl := harg5.eq_unread hf3; obtain rfl := harg10.eq_unread hfs
  sl_exec (disch := first | sl_exact hc)
  sl_step
  iapply Hk
  isplitl [H0 H1 H2 H3 H4 H5]
  · iframe H0 H1 H2 H4 H5
    iexists _; isplitr; · ipureintro; exact harg5.read_unread _
    iexact H3
  iframe H7
  isplitl [H6]
  · iexists _; isplitr; swap
    · iexact H6
    ipureintro
    refine (View.read_writes_full _ _ _ _ _).trans ?_
    exact congrArg₂ k0_pay2 (load_all arg10 harg10 ys _) (load_all arg5 harg5 x3 _)
  iexists _; isplitr; · ipureintro; exact harg10.read_unread _
  iexact HS

set_option maxHeartbeats 1000000 in
/-- At the first column block the scratch, the second output and the main output are all written, from the inputs. -/
theorem run_first (hc : k0_cond1 i = 1#1) (E : Set ℕ) (K : PUnit → sProp 𝕄) :
    iprop(ins c arg2 arg3 arg4 arg5 arg6 arg7 x0 x1 x2 x3 x4 x5 ∗ (∃ d, owns (c : Thread nD τ) arg8 fullShare d)
        ∗ (∃ d, owns (c : Thread nD τ) arg9 fullShare d) ∗ (∃ d, owns (c : Thread nD τ) arg10 fullShare d)
        ∗ (iprop(ins c arg2 arg3 arg4 arg5 arg6 arg7 x0 x1 x2 x3 x4 x5
            ∗ outs c arg8 arg9 arg10 (k0_pay2 (normed i x0 x1 x2) x3) (small i x0 x1 x2 x4 x5) (normed i x0 x1 x2)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr; swap
    · iexact H6
    ipureintro
    refine (View.read_writes_full _ _ _ _ _).trans ?_
    sl_unfold_run_names
    refine congrArg₂ k0_pay2 ((View.readCov_full _ _ _ _ _).trans ?_) (load_all arg5 harg5 x3 _)
    exact congr (congrArg₂ (k0_pay4 _) (load_all arg2 harg2 x0 _) (load_all arg3 harg3 x1 _)) (load_all arg4 harg4 x2 _)
  isplitl [H7]
  · iexists _; isplitr; swap
    · iexact H7
    ipureintro
    refine (View.read_writes_full _ _ _ _ _).trans ?_
    sl_unfold_run_names
    exact congr (congrArg₂ (fun v => k0_pay1 v _ _) (congr (congrArg₂ (k0_pay3 _) (load_all arg2 harg2 x0 _) (load_all arg3 harg3 x1 _)) (load_all arg4 harg4 x2 _)) (load_all arg6 harg6 x4 _)) (load_all arg7 harg7 x5 _)
  iexists _; isplitr; swap
  · iexact HS
  ipureintro
  sl_unfold_run_names
  refine (View.read_writes_full _ _ _ _ _).trans ?_
  exact congr (congrArg₂ (k0_pay4 _) (load_all arg2 harg2 x0 _) (load_all arg3 harg3 x1 _)) (load_all arg4 harg4 x2 _)

end Body

end Cert.InRun

end
-- ==== Proof.InFrame.lean ====
/- The input projection's whole run, for any float model: the contents of every buffer point by point in closed form, the body's
   obligation at each point, and the launch. -/
module

public import proofs.«01_k».proof.Proof.InRun

@[expose] public section

set_option maxRecDepth 16384

noncomputable section

namespace Cert.InRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, point by point -/

/-- The first point of a point's row tile. -/
def base (t : Fin cfg0.N) : Fin cfg0.N := ⟨t.val / 6 * 6, Nat.lt_of_le_of_lt (Nat.div_mul_le_self _ _) t.isLt⟩

/-- The point before. -/
def prev (t : Fin cfg0.N) : Fin cfg0.N := ⟨t.val - 1, Nat.lt_of_le_of_lt (Nat.sub_le _ _) t.isLt⟩

theorem base_first (t : Fin cfg0.N) (h : t.val % 6 = 0) : base t = t := Fin.ext (by simp only [base]; omega)

theorem base_prev (t : Fin cfg0.N) (h : ¬ t.val % 6 = 0) : base (prev t) = base t := Fin.ext (by simp only [base, prev]; omega)

/-- The scratch after point `t`: the normalized rows of the tile. -/
def xs (c : Dev nD) (t : Fin cfg0.N) : Vec F S1056x1024 .bf16 :=
  normed (grid0.coords (base t)) (iblk m c 0 (base t)) (iblk m c 1 (base t)) (iblk m c 2 (base t))

/-- The second output's buffer after point `t`: the small projections of the tile. -/
def y7 (c : Dev nD) (t : Fin cfg0.N) : Vec F S1056x128 .f32 :=
  small (grid0.coords (base t)) (iblk m c 0 (base t)) (iblk m c 1 (base t)) (iblk m c 2 (base t)) (iblk m c 4 (base t)) (iblk m c 5 (base t))

/-- The main output's buffer after point `t`: the tile's rows through the point's column block of weights. -/
def y6 (c : Dev nD) (t : Fin cfg0.N) : Vec F S1056x2304 .bf16 := k0_pay2 (xs m c t) (iblk m c 3 t)

theorem xs_first (c : Dev nD) (t : Fin cfg0.N) (h : t.val % 6 = 0) :
    xs m c t = normed (grid0.coords t) (iblk m c 0 t) (iblk m c 1 t) (iblk m c 2 t) := by unfold xs; rw [base_first t h]

theorem y7_first (c : Dev nD) (t : Fin cfg0.N) (h : t.val % 6 = 0) :
    y7 m c t = small (grid0.coords t) (iblk m c 0 t) (iblk m c 1 t) (iblk m c 2 t) (iblk m c 4 t) (iblk m c 5 t) := by
  unfold y7; rw [base_first t h]

theorem xs_later (c : Dev nD) (t : Fin cfg0.N) (h : ¬ t.val % 6 = 0) : xs m c (prev t) = xs m c t := by
  unfold xs; rw [base_prev t h]

theorem y7_later (c : Dev nD) (t : Fin cfg0.N) (h : ¬ t.val % 6 = 0) : y7 m c (prev t) = y7 m c t := by
  unfold y7; rw [base_prev t h]

/-- The scratch as a whole memref. -/
abbrev scr : Memref sig .tc .vmem S1056x1024 .bf16 := Memref.whole cc0_scratch0

/-- What the run keeps between points: the scratch at anything before the first point, at the last tile's rows after. -/
def held (c : Dev nD) : (n : ℕ) → n ≤ cfg0.N → sProp 𝕄
  | 0, _ => Pipeline.ΦA spec0 c
  | n + 1, h => iprop(owns (c : Thread nD τ) scr fullShare (xs m c ⟨n, h⟩) ∗ (∃ r, prngReg c r))

/-- The library's resource between points, in the form the body wants it. -/
theorem anything_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- What is kept can always be forgotten. -/
theorem held_forget (c : Dev nD) : ∀ (n : ℕ) (h : n ≤ cfg0.N), held m c n h ⊢ Pipeline.ΦA spec0 c
  | 0, _ => .rfl
  | n + 1, h => by
    rw [anything_eq]; unfold held
    iintro ⟨HS, Hg⟩
    isplitl [HS]
    · iexists _; iexact HS
    iexact Hg

theorem held_any (c : Dev nD) (n : ℕ) (h : n ≤ cfg0.N) :
    held m c n h ⊢ (iprop((∃ d, owns (c : Thread nD τ) scr fullShare d) ∗ (∃ r, prngReg c r)) : sProp 𝕄) := by
  have e := held_forget m c n h
  rwa [anything_eq] at e

theorem held_pos (c : Dev nD) (t : Fin cfg0.N) (hz : ¬ t.val = 0) :
    held m c t.val (Nat.le_of_lt t.isLt) = iprop(owns (c : Thread nD τ) scr fullShare (xs m c (prev t)) ∗ (∃ r, prngReg c r)) := by
  obtain ⟨n, hn⟩ := t
  cases n with
  | zero => exact absurd rfl hz
  | succ n => rfl

/-- The proof data: the arrays as the region finds them, and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => y6 m c t
    | ⟨7, _⟩ => y7 m c t
  Φ t := held m c t.val (Nat.le_of_lt_succ t.isLt)
  q _ := fullShare
  owed _ := 0

theorem arrays (c : Dev nD) (w : Fin cfg0.W) : (dats m 0 c).A w = V m c (Pipeline.arrRef spec0 w) := by dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = y6 m c t := by dsimp only [dats]
theorem left_7 (c : Dev nD) (t : Fin cfg0.N) : (dats m 0 c).after 7 t = y7 m c t := by dsimp only [dats]

theorem held_at (c : Dev nD) (t : Fin cfg0.N) : (dats m 0 c).Φ t.castSucc = held m c t.val (Nat.le_of_lt t.isLt) := by
  dsimp only [dats]; exact Pipeline.Dat.Φ_castSucc (held m c) t

/-- The body stores nothing into the second output's buffer at a later column block. -/
theorem idle_later (t : Fin cfg0.N) (h : ¬ t.val % 6 = 0) : cfg0.idle 7 (cfg0.grid.coords t) = true := by
  show (!(k0_cond1 (grid0.coords t) == 1#1)) = true
  rw [Bool.not_eq_true', beq_eq_false_iff_ne]; exact fun e => h ((first_iff t).mp e)

theorem idle_first (t : Fin cfg0.N) (h : t.val % 6 = 0) : cfg0.idle 7 (cfg0.grid.coords t) = false := by
  show (!(k0_cond1 (grid0.coords t) == 1#1)) = false
  rw [(first_iff t).mpr h]; rfl

/-- At a later column block the second output's buffer still holds the tile's small projections: it was not written back since. -/
theorem found_7 (c : Dev nD) : ∀ (n : ℕ) (t : Fin cfg0.N), t.val = n → ¬ t.val % 6 = 0 → ∀ d, (dats m 0 c).before 7 t d = y7 m c t
  | 0, t, hn, h, d => absurd (by rw [hn]) h
  | n + 1, t, hn, h, d => by
    have hf : (cfg0.win 7).flush (prev t) = false := by
      rw [← Bool.not_eq_true, flush0_7]; simp only [prev]; omega
    rw [(dats m 0 c).before_of_pos 7 t (by omega) ((cfg0.win 7).fetch_out rfl t) d]
    refine (if_neg (by rw [show (⟨t.val - 1, _⟩ : Fin cfg0.N) = prev t from rfl, hf]; exact Bool.false_ne_true)).trans ?_
    refine Eq.trans ?_ (y7_later m c t h)
    show (dats m 0 c).left 7 (prev t) d = _
    unfold Dat.left
    by_cases hp : (prev t).val % 6 = 0
    · rw [idle_first _ hp]; dsimp only
      unfold Dat.kept
      rw [Pipeline.fill_of_clip_none 7 _ (fun _ => rfl) d ((dats m 0 c).after 7 (prev t)), Window.fill_cut]
      exact left_7 m c (prev t)
    · rw [idle_later _ hp]; dsimp only
      exact found_7 c n (prev t) (by simp only [prev]; omega) hp d

/-! ## The body's obligation -/

/-- What the body is entered with at a point. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body gives back at a point. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 6400000 in
/-- The body takes the one to the other, at the first column block of a tile and at a later one. -/
theorem body_ok (c : Dev nD) (t : Fin cfg0.N) :
    given m c t ⊢ wp frame (wpE (defs₀ (F := F)) Variants.none c none) Set.univ (bodyAt0 t) (fun _ => returned m c t) := by
  unfold given returned bodyAt0
  simp only [before0_0_of m (dats m 0 c) (arrays m c 0) (left_0 m c), before0_1_of m (dats m 0 c) (arrays m c 1) (left_1 m c),
    before0_2_of m (dats m 0 c) (arrays m c 2) (left_2 m c), before0_3_of m (dats m 0 c) (arrays m c 3) (left_3 m c),
    before0_4_of m (dats m 0 c) (arrays m c 4) (left_4 m c), before0_5_of m (dats m 0 c) (arrays m c 5) (left_5 m c)]
  rw [show (dats m 0 c).owesAt () t.succ = (dats m 0 c).owesAt () t.castSucc from rfl,
    left_0, left_1, left_2, left_3, left_4, left_5, left_6, left_7, held_at,
    show (dats m 0 c).Φ t.succ = iprop(owns (c : Thread nD τ) scr fullShare (xs m c t) ∗ (∃ r, prngReg c r)) from rfl]
  by_cases h : t.val % 6 = 0
  · unfold y6; rw [y7_first m c t h, xs_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HA := (held_any m c _ _) $$ HΦ
    icases HA with ⟨HS, Hg⟩
    iapply (run_first c (grid0.coords t) _ _ _ _ _ _ _ _ _ _ _ _ _ _ _ _ _ _ (iblk m c 0 t) (iblk m c 1 t) (iblk m c 2 t)
      (iblk m c 3 t) (iblk m c 4 t) (iblk m c 5 t) ((first_iff t).mpr h) Set.univ _)
    isplitl [H0 H1 H2 H3 H4 H5]
    · iframe H0 H1 H2 H3 H4 H5
    isplitl [H6]; · iexists _; iexact H6
    isplitl [H7]; · iexists _; iexact H7
    isplitl [HS]; · iexact HS
    iintro ⟨⟨H0, H1, H2, H3, H4, H5⟩, H6, H7, HS⟩
    iframe HS Hg Ho H0 H1 H2 H3 H4 H5 H6 H7
  · rw [held_pos m c t fun e => h (by rw [e]), xs_later m c t h]
    simp only [found_7 m c _ t rfl h]
    unfold y6
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (iblk m c 0 t) (iblk m c 1 t) (iblk m c 2 t)
      (iblk m c 3 t) (iblk m c 4 t) (iblk m c 5 t) (fun e => h ((first_iff t).mp e)) (y7 m c t) (xs m c t) Set.univ _)
    isplitl [H0 H1 H2 H3 H4 H5]
    · iframe H0 H1 H2 H3 H4 H5
    isplitl [H6 H7 HS]
    · iexists _; iframe H6 H7 HS
    iintro ⟨⟨H0, H1, H2, H3, H4, H5⟩, H6, H7, HS⟩
    iframe HS Hg Ho H0 H1 H2 H3 H4 H5 H6 H7

/-- What is given back is what the library asks: at a later column block that is not written back, the second output's buffer as it was found. -/
theorem giveback (c : Dev nD) (t : Fin cfg0.N) :
    returned m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (match cfg0.idle 7 (cfg0.grid.coords t) with
      | true =>
        match (cfg0.win 7).flush t with
        | false => iprop(∃ d, owns (c : Thread nD τ) (st0_7 t) fullShare ((dats m 0 c).before 7 t d))
        | true => owns (c : Thread nD τ) (st0_7 t) fullShare ((dats m 0 c).after 7 t)
      | false => owns (c : Thread nD τ) (st0_7 t) fullShare ((dats m 0 c).after 7 t))) := by
  unfold returned
  by_cases h : t.val % 6 = 0
  · rw [idle_first t h]
  · rw [idle_later t h]
    cases (cfg0.win 7).flush t
    · dsimp only
      simp only [found_7 m c _ t rfl h, left_7 m c t]
      iintro ⟨HΦ, Ho, H0, H1, H2, H3, H4, H5, H6, H7⟩
      iframe HΦ Ho H0 H1 H2 H3 H4 H5 H6
      iexists (y7 m c t)
      iexact H7
    · exact .rfl

/-- The same as the library asks it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_ok m c t) rfl .rfl fun _ => giveback m c t

/-! ## The launch -/

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = held m c cfg0.N (Nat.le_refl _) from rfl]; exact held_forget m c _ _

-- the launch theorem's implicit arguments are found by unfolding plain definitions in their types
set_option backward.isDefEq.respectTransparency.types false in
/-- Every run ends with each window's array at what the points wrote back, every other buffer as it was, and the counters at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := enter m) (hout := leave m)

theorem run_main : θ_run defs (onTc (τ := τ) (main (F := F))) (s₀ m ρ) (Pipeline.FramePost cfgs (dats m) 0 (V m)) :=
  (θ_run defs _ _).mono (fun _ h => h.1) (run_all m ρ)

/-- The arguments end as they began and the counters end at zero. -/
theorem unchanged_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays m) (run_main m ρ)) ((θ_run defs _ _).mono (fun _ h => h.2) (run_all m ρ))

end Cert.InRun

end
-- ==== Proof.InPlain.lean ====
/- The input projection as plain functions of rows, gains and columns of weights. -/
module

public import proofs.«01_k».proof.Proof.Plain

@[expose] public section

noncomputable section

namespace Cert.InPlain

open Idealize.ShloMosaic Idealize.ShloMosaic.TcCoe Idealize.SL.Sem
open Cert.Plain

/-- A choice both of whose branches are `c` is `c`. -/
theorem either {α : Sort*} {p : Prop} [Decidable p] {a : p → α} {b : ¬ p → α} {c : α} (h1 : ∀ h, a h = c) (h2 : ∀ h, b h = c) :
    dite p a b = c := by
  by_cases h : p
  · exact (dif_pos h).trans (h1 h)
  · exact (dif_neg h).trans (h2 h)

/-- A row divided by its root mean square, with its gain. -/
def nr (h : ℕ → EReal) (g : ℕ → EReal) (d : ℕ) : EReal :=
  h d * Ideal.rsqrt (Ideal.div (∑ k : Fin 1024, h k.val * h k.val) (Ideal.ofBits .f32 0x44800000#32) + Ideal.ofBits .f32 0x358637BD#32) * g d

/-- A normalized row through a column of weights. -/
def pj (h g w : ℕ → EReal) : EReal := ∑ d : Fin 1024, nr h g d.val * w d.val

/-- The row of zeros projects to zero, whatever the gain and the weights. -/
theorem pj_zero (g w : ℕ → EReal) : pj (fun _ => 0) g w = 0 := by
  unfold pj nr; simp only [zero_mul, Finset.sum_const_zero]

/-- The column of zeros projects everything to zero. -/
theorem pj_none (h g : ℕ → EReal) : pj h g (fun _ => 0) = 0 := by
  unfold pj; simp only [mul_zero, Finset.sum_const_zero]

/-- The column of the combined weights that column `n` of the main output reads. -/
def colM (n : ℕ) : ℕ :=
  if n < 3072 then 10784 + n else if n < 7168 then 6672 + (n - 3072) else if n < 11264 then 2576 + (n - 7168) else n - 11264

section Input
variable (X : (⟨3, ![8, 2048, 1024]⟩ : Shape).Idx → EReal) (M : (⟨2, ![16, 1024]⟩ : Shape).Idx → EReal)
  (G : (⟨2, ![2, 1024]⟩ : Shape).Idx → EReal) (W : (⟨3, ![2, 1024, 13856]⟩ : Shape).Idx → EReal)

/-- The first layer's padded rows: 48 rows of zeros, the meta tokens, the sequence. -/
def hp (R d : ℕ) : EReal :=
  if R % 2112 < 48 then 0 else if R % 2112 < 64 then at2 M (R % 2112 - 48) d else at3 X (R / 2112) (R % 2112 - 64) d

theorem hp_pad {R : ℕ} (h : R % 2112 < 48) (d : ℕ) : hp X M R d = 0 := if_pos h

theorem hp_meta {R : ℕ} (a : 48 ≤ R % 2112) (h : R % 2112 < 64) (d : ℕ) : hp X M R d = at2 M (R % 2112 - 48) d :=
  (if_neg (by omega)).trans (if_pos h)

theorem hp_seq {R : ℕ} (a : 64 ≤ R % 2112) (d : ℕ) : hp X M R d = at3 X (R / 2112) (R % 2112 - 64) d :=
  (if_neg (by omega)).trans (if_neg (by omega))

/-- The rows of padding project to zero. -/
theorem pj_pad {R : ℕ} (h : R % 2112 < 48) (g w : ℕ → EReal) : pj (hp X M R) g w = 0 :=
  (congrArg (fun z => pj z g w) (funext fun d => hp_pad X M h d)).trans (pj_zero g w)

/-- Column `n` of the small output's weights in layer `l`: time steps, then beta and decay, then nothing. -/
def wS (l n d : ℕ) : EReal :=
  if n < 16 then at3 W l d (2560 + n) else if n < 32 then at3 W l d (10752 + n) else 0

/-- The main output of the first layer's input projection. -/
def mainG (i : (⟨2, ![16896, 13824]⟩ : Shape).Idx) : EReal :=
  pj (hp X M (i 0).val) (at2 G 0) (fun d => at3 W 0 d (colM (i 1).val))

/-- Its small output. -/
def smallG (i : (⟨2, ![16896, 128]⟩ : Shape).Idx) : EReal :=
  pj (hp X M (i 0).val) (at2 G 0) (wS W 0 (i 1).val)

variable (H : (⟨2, ![16896, 1024]⟩ : Shape).Idx → EReal)

/-- The main output of the second layer's input projection, of the padded rows it is given. -/
def mainH (i : (⟨2, ![16896, 13824]⟩ : Shape).Idx) : EReal :=
  pj (at2 H (i 0).val) (at2 G 1) (fun d => at3 W 1 d (colM (i 1).val))

/-- Its small output. -/
def smallH (i : (⟨2, ![16896, 128]⟩ : Shape).Idx) : EReal :=
  pj (at2 H (i 0).val) (at2 G 1) (wS W 1 (i 1).val)

end Input

end Cert.InPlain

end
-- ==== Proof.InPay.lean ====
/- The input projection's body at an entry of a block: the normalized rows, and the products with the blocks of weights. -/
module

public import proofs.«01_k».proof.Proof.Gen.InProjIdeal.Skeleton
public import proofs.«01_k».proof.Proof.InPlain

@[expose] public section

set_option maxRecDepth 16384

noncomputable section

namespace Cert.InPay

open Idealize.ShloMosaic Idealize.ShloMosaic.TcCoe Idealize.SL.Sem
open Cert.InProjIdeal Cert.InProjIdeal.Gen Cert.Plain Cert.InPlain

/-- The body's test that a row tile is the first of its sequence. -/
theorem even_word : ∀ i : Fin 16,
    Scalar.cmpi CmpIPredicate.eq
      (Scalar.select
        (Scalar.andi
          (Scalar.xori
            (Scalar.cmpi CmpIPredicate.slt (Scalar.remsi (BitVec.ofNat 32 i.val) (Scalar.select (Scalar.cmpi CmpIPredicate.eq 2#32 0#32) 1#32 2#32)) 0#32)
            (Scalar.cmpi CmpIPredicate.slt (Scalar.select (Scalar.cmpi CmpIPredicate.eq 2#32 0#32) 1#32 2#32) 0#32))
          (Scalar.cmpi CmpIPredicate.ne (Scalar.remsi (BitVec.ofNat 32 i.val) (Scalar.select (Scalar.cmpi CmpIPredicate.eq 2#32 0#32) 1#32 2#32)) 0#32))
        (Scalar.addi (Scalar.remsi (BitVec.ofNat 32 i.val) (Scalar.select (Scalar.cmpi CmpIPredicate.eq 2#32 0#32) 1#32 2#32))
          (Scalar.select (Scalar.cmpi CmpIPredicate.eq 2#32 0#32) 1#32 2#32))
        (Scalar.remsi (BitVec.ofNat 32 i.val) (Scalar.select (Scalar.cmpi CmpIPredicate.eq 2#32 0#32) 1#32 2#32)))
      0#32 = if i.val % 2 = 0 then 1#1 else 0#1 := by decide +kernel

/-- The normalized rows: of the front rows and the block's first rows in the first tile of a sequence, of the block's in the other. -/
theorem norm_at (i : Fin 16) (x0 : FVec Ideal S1056x1024 .f32) (x1 : FVec Ideal S64x1024 .f32) (x2 : FVec Ideal S1x1024 .f32)
    (h g : ℕ → EReal) (r : Fin 1056)
    (he : i.val % 2 = 0 → ∀ d : Fin 1024, (if p : r.val < 64 then x1 (ix2 ⟨r.val, p⟩ d) else x0 (ix2 ⟨r.val - 64, by omega⟩ d)) = h d.val)
    (ho : ¬ i.val % 2 = 0 → ∀ d : Fin 1024, x0 (ix2 r d) = h d.val)
    (hg : ∀ d : Fin 1024, x2 (ix2 0 d) = g d.val) (d : Fin 1024) :
    k0_pay3 (F := Ideal) (BitVec.ofNat 32 i.val) x0 x1 x2 (ix2 r d) = nr h g d.val := by
  pointwise [k0_pay3]
  simp only [even_word i, hg]
  by_cases e : i.val % 2 = 0
  · simp only [if_pos e, Scalar.select, if_true, he e]
    rfl
  · simp only [if_neg e, Scalar.select, ho e]
    rfl

theorem scratch_at (a : BitVec 32) (x0 : FVec Ideal S1056x1024 .f32) (x1 : FVec Ideal S64x1024 .f32) (x2 : FVec Ideal S1x1024 .f32) :
    k0_pay4 (F := Ideal) a x0 x1 x2 = k0_pay3 a x0 x1 x2 := by
  funext y; rw [eq_ix2 y]; pointwise [k0_pay4]

theorem main_at (v3 : FVec Ideal S1056x1024 .bf16) (v4 : FVec Ideal S1024x2304 .bf16) (r : Fin 1056) (n : Fin 2304) :
    k0_pay2 (F := Ideal) v3 v4 (ix2 r n) = ∑ d : Fin 1024, v3 (ix2 r d) * v4 (ix2 d n) := by
  pointwise [k0_pay2]

/-- The lanes of the small weights: sixteen from the first block, sixteen from the second, nothing. -/
theorem lane_word : ∀ n : Fin 128, IntOp.cmpi CmpIPredicate.slt (BitVec.ofNat 32 n.val) 16#32 = (if n.val < 16 then 1#1 else 0#1)
    ∧ IntOp.andi (IntOp.cmpi CmpIPredicate.sge (BitVec.ofNat 32 n.val) 16#32) (IntOp.cmpi CmpIPredicate.slt (BitVec.ofNat 32 n.val) 32#32)
      = (if 16 ≤ n.val ∧ n.val < 32 then 1#1 else 0#1) := by decide +kernel

theorem small_at (v3 : FVec Ideal S1056x1024 .bf16) (v4 v5 : FVec Ideal S1024x128 .f32) (r : Fin 1056) (n : Fin 128) (w : ℕ → EReal)
    (hw : ∀ d : Fin 1024, (if n.val < 16 then v4 (ix2 d n) else if n.val < 32 then v5 (ix2 d n) else 0) = w d.val) :
    k0_pay1 (F := Ideal) v3 (iota .tc S1024x128 32 [1] iota_S1024x128_d1_w32) k0_pay5 v4 v5 (ix2 r n)
      = ∑ d : Fin 1024, v3 (ix2 r d) * w d.val := by
  pointwise [k0_pay1, k0_pay5]
  refine Finset.sum_congr rfl fun d _ => congrArg _ ?_
  rw [(lane_word n).1, (lane_word n).2, ← hw d]
  by_cases h1 : n.val < 16
  · rw [if_pos h1, if_pos h1]; rfl
  · rw [if_neg h1, if_neg h1]
    by_cases h2 : n.val < 32
    · rw [if_pos h2, if_pos ⟨by omega, h2⟩]; rfl
    · rw [if_neg h2, if_neg fun h => h2 h.2]; rfl

end Cert.InPay

end
-- ==== Proof.InBlocks.lean ====
/- The input projection's two result arrays: the blocks its points leave, entry by entry the plain functions of the argument arrays. -/
module

public import proofs.«01_k».proof.Proof.InFrame
public import proofs.«01_k».proof.Proof.InPay
public import Idealize.ShloMosaic.Lib.Claim

@[expose] public section

set_option maxRecDepth 16384

noncomputable section

namespace Cert.InBlocks

open Idealize.ShloMosaic Idealize.ShloMosaic.TcCoe Idealize.SL.Sem
open Idealize.ShloMosaic.Pipeline (Dat)
open Cert.InProjIdeal Cert.InProjIdeal.Gen Cert.Plain Cert.InPlain Cert.InRun

variable (m : (ℓ : Loc nD τ sig) → Buf (Elt Ideal) ℓ)

/-- The row of the sequences at which point `t`'s block of rows begins. -/
abbrev off (t : ℕ) : ℕ := t / 12 * 2048 + (t / 6 % 2 * 1056 - 64)

theorem index_all : ∀ t : Fin cfg0.N, win0_0.index t = ![off t.val, 0] ∧ win0_1.index t = ![0, 0] ∧ win0_2.index t = ![0, 0]
    ∧ win0_3.index t = ![0, t.val % 6] ∧ win0_4.index t = ![0, 0] ∧ win0_5.index t = ![0, 0]
    ∧ win0_6.index t = ![t.val / 6, t.val % 6] ∧ win0_7.index t = ![t.val / 6, 0] :=
  (by decide +kernel : ∀ t : Fin grid0.N, _)

theorem tile_of : ∀ t : Fin cfg0.N, (grid0.coords t 0).val = t.val / 6 :=
  (by decide +kernel : ∀ t : Fin grid0.N, _)

/-- The arguments as launched. -/
abbrev X (c : Dev nD) : (⟨3, ![8, 2048, 1024]⟩ : Shape).Idx → EReal := m ((c : Thread nD τ).loc main_arg0)
abbrev M (c : Dev nD) : (⟨2, ![16, 1024]⟩ : Shape).Idx → EReal := m ((c : Thread nD τ).loc main_arg1)
abbrev G (c : Dev nD) : (⟨2, ![2, 1024]⟩ : Shape).Idx → EReal := m ((c : Thread nD τ).loc main_arg2)
abbrev W (c : Dev nD) : (⟨3, ![2, 1024, 13856]⟩ : Shape).Idx → EReal := m ((c : Thread nD τ).loc main_arg3)

theorem x_at (c : Dev nD) (t : Fin cfg0.N) (r : Fin 1056) (d : Fin 1024) :
    iblk m c 0 t (ix2 r d) = at3 (X m c) ((off t.val + r.val) / 2048) ((off t.val + r.val) % 2048) d.val := by
  have ht : t.val < 96 := t.isLt
  have hr := r.isLt
  have e : (win0_0.rect t).emb (ix2 r d) = ix2 ⟨off t.val + r.val, by simp only [off]; omega⟩ d := by
    refine funext fun a => Fin.ext ?_
    match a with
    | ⟨0, _⟩ =>
      refine (win0_0.rect_emb_val_off t (ix2 r d) 0).trans ?_
      rw [(index_all t).1]; rfl
    | ⟨1, _⟩ =>
      refine (win0_0.rect_emb_val_off t (ix2 r d) 1).trans ?_
      rw [(index_all t).1]; exact Nat.zero_add _
  have e' : iblk m c 0 t (ix2 r d) = V m c main_v2 ((win0_0.rect t).emb (ix2 r d)) := rfl
  rw [e', e]
  entry_read
  pointwise
  exact at3_of (a := 8) (b := 2048) (c := 1024) _ _ _ _ _ rfl rfl rfl

theorem front_at (c : Dev nD) (t : Fin cfg0.N) (r : Fin 64) (d : Fin 1024) :
    iblk m c 1 t (ix2 r d) = if r.val < 48 then 0 else at2 (M m c) (r.val - 48) d.val := by
  have e : ((win0_1.rect t).emb (ix2 r d)) = ix2 r d := by
    blk_ext [index_all t] <;> exact Nat.zero_add _
  have e' : iblk m c 1 t (ix2 r d) = V m c main_v1 ((win0_1.rect t).emb (ix2 r d)) := rfl
  rw [e', e]
  entry_read
  pointwise
  refine either (fun h => ?_) fun h => ?_
  · rw [if_pos h]
  · rw [if_neg h]
    exact at2_of (a := 16) (b := 1024) _ _ _ _ rfl rfl

theorem gain_at (c : Dev nD) (t : Fin cfg0.N) (d : Fin 1024) : iblk m c 2 t (ix2 0 d) = at2 (G m c) 0 d.val := by
  have e : ((win0_2.rect t).emb (ix2 0 d)) = ix2 0 d := by
    blk_ext [index_all t] <;> exact Nat.zero_add _
  have e' : iblk m c 2 t (ix2 0 d) = V m c main_v5 ((win0_2.rect t).emb (ix2 0 d)) := rfl
  rw [e', e]
  entry_read
  pointwise
  exact at2_of (a := 2) (b := 1024) _ _ _ _ rfl rfl

/-- The block of all columns, from its four pieces. -/
theorem wcat (c : Dev nD) : V m c main_v16 = concatenate S1024x13824 1 [⟨S1024x3072, V m c main_v12⟩, ⟨S1024x4096, V m c main_v13⟩,
    ⟨S1024x4096, V m c main_v14⟩, ⟨S1024x2560, V m c main_v15⟩] concatenates_S1024x3072_S1024x4096_S1024x4096_S1024x2560_S1024x13824_d1 := rfl

/-- Four blocks of columns side by side, each a stretch of columns of the same function. -/
theorem cat_at (x : FVec Ideal S1024x3072 .bf16) (y z : FVec Ideal S1024x4096 .bf16) (u : FVec Ideal S1024x2560 .bf16) (w : ℕ → EReal) (d : Fin 1024)
    (hx : ∀ k : Fin 3072, x (ix2 d k) = w (10784 + k.val)) (hy : ∀ k : Fin 4096, y (ix2 d k) = w (6672 + k.val))
    (hz : ∀ k : Fin 4096, z (ix2 d k) = w (2576 + k.val)) (hu : ∀ k : Fin 2560, u (ix2 d k) = w k.val) (n : Fin 13824) :
    concatenate S1024x13824 1 [⟨S1024x3072, x⟩, ⟨S1024x4096, y⟩, ⟨S1024x4096, z⟩, ⟨S1024x2560, u⟩]
      concatenates_S1024x3072_S1024x4096_S1024x4096_S1024x2560_S1024x13824_d1 (ix2 d n) = w (colM n.val) := by
  pointwise
  simp only [hx, hy, hz, hu]
  refine either (fun h => ?_) fun h => either (fun h => ?_) fun h => either (fun h => ?_) fun h => ?_
  all_goals
    refine congrArg w ?_
    unfold colM
    (repeat' split) <;> omega

theorem wcat_at (c : Dev nD) (d : Fin 1024) (n : Fin 13824) : V m c main_v16 (ix2 d n) = at3 (W m c) 0 d.val (colM n.val) := by
  refine (congrFun (wcat m c) _).trans (cat_at _ _ _ _ (at3 (W m c) 0 d.val) d ?_ ?_ ?_ ?_ n)
  all_goals
    intro k
    entry_read
    pointwise
    exact at3_of (a := 2) (b := 1024) (c := 13856) _ _ _ _ _ rfl rfl rfl

theorem w_at (c : Dev nD) (t : Fin cfg0.N) (d : Fin 1024) (n : Fin 2304) :
    iblk m c 3 t (ix2 d n) = at3 (W m c) 0 d.val (colM (t.val % 6 * 2304 + n.val)) := by
  have hn := n.isLt
  have e : (win0_3.rect t).emb (ix2 d n) = ix2 d ⟨t.val % 6 * 2304 + n.val, by omega⟩ := by
    refine funext fun a => Fin.ext ?_
    match a with
    | ⟨0, _⟩ =>
      refine (win0_3.rect_emb_val_off t (ix2 d n) 0).trans ?_
      rw [(index_all t).2.2.2.1]; exact Nat.zero_add _
    | ⟨1, _⟩ =>
      refine (win0_3.rect_emb_val_off t (ix2 d n) 1).trans ?_
      rw [(index_all t).2.2.2.1]; rfl
  have e' : iblk m c 3 t (ix2 d n) = V m c main_v16 ((win0_3.rect t).emb (ix2 d n)) := rfl
  rw [e', e]
  exact wcat_at m c d _

theorem wdt_at (c : Dev nD) (t : Fin cfg0.N) (d : Fin 1024) (n : Fin 128) :
    iblk m c 4 t (ix2 d n) = at3 (W m c) 0 d.val (2560 + n.val) := by
  have e : ((win0_4.rect t).emb (ix2 d n)) = ix2 d n := by
    blk_ext [index_all t] <;> exact Nat.zero_add _
  have e' : iblk m c 4 t (ix2 d n) = V m c main_v18 ((win0_4.rect t).emb (ix2 d n)) := rfl
  rw [e', e]
  entry_read
  pointwise
  exact at3_of (a := 2) (b := 1024) (c := 13856) _ _ _ _ _ rfl rfl rfl

theorem wba_at (c : Dev nD) (t : Fin cfg0.N) (d : Fin 1024) (n : Fin 128) :
    iblk m c 5 t (ix2 d n) = at3 (W m c) 0 d.val (10752 + n.val) := by
  have e : ((win0_5.rect t).emb (ix2 d n)) = ix2 d n := by
    blk_ext [index_all t] <;> exact Nat.zero_add _
  have e' : iblk m c 5 t (ix2 d n) = V m c main_v20 ((win0_5.rect t).emb (ix2 d n)) := rfl
  rw [e', e]
  entry_read
  pointwise
  exact at3_of (a := 2) (b := 1024) (c := 13856) _ _ _ _ _ rfl rfl rfl

/-- The normalized rows of a point's tile. -/
theorem normed_at (c : Dev nD) (t : Fin cfg0.N) (r : Fin 1056) (d : Fin 1024) :
    k0_pay3 (F := Ideal) (BitVec.ofNat 32 (grid0.coords t 0).val) (iblk m c 0 t) (iblk m c 1 t) (iblk m c 2 t) (ix2 r d)
      = nr (hp (X m c) (M m c) (t.val / 6 * 1056 + r.val)) (at2 (G m c) 0) d.val := by
  have ht : t.val < 96 := t.isLt
  have hr := r.isLt
  rw [tile_of t]
  refine InPay.norm_at ⟨t.val / 6, by omega⟩ _ _ _ _ _ r ?_ ?_ (gain_at m c t) d
  · intro he d
    replace he : t.val / 6 % 2 = 0 := he
    refine either (fun h => ?_) fun h => ?_
    · rw [front_at]
      by_cases h' : r.val < 48
      · rw [hp_pad _ _ (by omega)]; exact if_pos h'
      · rw [hp_meta _ _ (by omega) (by omega)]
        refine (if_neg h').trans (congrArg (fun z => at2 (M m c) z d.val) ?_)
        show r.val - 48 = _; omega
    · rw [x_at, hp_seq _ _ (by omega)]
      refine congrArg₂ (fun y z => at3 (X m c) y z d.val) ?_ ?_
      · show (off t.val + (r.val - 64)) / 2048 = _; simp only [off]; omega
      · show (off t.val + (r.val - 64)) % 2048 = _; simp only [off]; omega
  · intro ho d
    replace ho : ¬ t.val / 6 % 2 = 0 := ho
    rw [x_at, hp_seq _ _ (by omega)]
    refine congrArg₂ (fun y z => at3 (X m c) y z d.val) ?_ ?_
    · simp only [off]; omega
    · simp only [off]; omega

theorem base_tile (t : Fin cfg0.N) : (base t).val / 6 = t.val / 6 := by simp only [base]; omega

theorem xs_at (c : Dev nD) (t : Fin cfg0.N) (r : Fin 1056) (d : Fin 1024) :
    xs m c t (ix2 r d) = nr (hp (X m c) (M m c) (t.val / 6 * 1056 + r.val)) (at2 (G m c) 0) d.val := by
  rw [← base_tile t]
  exact (congrFun (InPay.scratch_at _ _ _ _) _).trans (normed_at m c (base t) r d)

/-- What a point leaves in the main output's block. -/
theorem main_left (c : Dev nD) (t : Fin cfg0.N) (r : Fin 1056) (n : Fin 2304) :
    (dats m 0 c).after 6 t (ix2 r n) = pj (hp (X m c) (M m c) (t.val / 6 * 1056 + r.val)) (at2 (G m c) 0)
      (fun d => at3 (W m c) 0 d (colM (t.val % 6 * 2304 + n.val))) := by
  rw [left_6]
  refine (InPay.main_at _ _ r n).trans ?_
  exact Finset.sum_congr rfl fun d _ => congrArg₂ (· * ·) (xs_at m c t r d) (w_at m c t d n)

/-- What a point leaves in the small output's. -/
theorem small_left (c : Dev nD) (t : Fin cfg0.N) (r : Fin 1056) (n : Fin 128) :
    (dats m 0 c).after 7 t (ix2 r n) = pj (hp (X m c) (M m c) (t.val / 6 * 1056 + r.val)) (at2 (G m c) 0) (wS (W m c) 0 n.val) := by
  rw [left_7, ← base_tile t]
  refine (InPay.small_at _ _ _ r n (wS (W m c) 0 n.val) ?_).trans ?_
  · intro d; rw [wdt_at, wba_at]; rfl
  · exact Finset.sum_congr rfl fun d _ => congrArg (· * _) (normed_at m c (base t) r d)

theorem mainG_at (c : Dev nD) (y : (⟨2, ![16896, 13824]⟩ : Shape).Idx) (i j : ℕ) (h0 : (y 0).val = i) (h1 : (y 1).val = j) :
    mainG (X m c) (M m c) (G m c) (W m c) y = pj (hp (X m c) (M m c) i) (at2 (G m c) 0) (fun d => at3 (W m c) 0 d (colM j)) := by
  subst h0 h1; rfl

theorem smallG_at (c : Dev nD) (y : (⟨2, ![16896, 128]⟩ : Shape).Idx) (i j : ℕ) (h0 : (y 0).val = i) (h1 : (y 1).val = j) :
    smallG (X m c) (M m c) (G m c) (W m c) y = pj (hp (X m c) (M m c) i) (at2 (G m c) 0) (wS (W m c) 0 j) := by
  subst h0 h1; rfl

theorem final_main (c : Dev nD) : (dats m 0 c).arrAt 6 cfg0.N = mainG (X m c) (M m c) (G m c) (W m c) := by
  refine (dats m 0 c).arrAt_eq_of_covers 6 _ (by decide +kernel) fun t hf y => ?_
  blk_simp
  idx_vars y
  refine (main_left m c t y0 y1).trans (mainG_at m c _ _ _ ?_ ?_).symm
  · refine (win0_6.rect_emb_val_off t (ix2 y0 y1) 0).trans ?_
    rw [(index_all t).2.2.2.2.2.2.1]; rfl
  · refine (win0_6.rect_emb_val_off t (ix2 y0 y1) 1).trans ?_
    rw [(index_all t).2.2.2.2.2.2.1]; rfl

theorem final_small (c : Dev nD) : (dats m 0 c).arrAt 7 cfg0.N = smallG (X m c) (M m c) (G m c) (W m c) := by
  refine (dats m 0 c).arrAt_eq_of_covers 7 _ (by decide +kernel) fun t hf y => ?_
  blk_simp
  idx_vars y
  refine (small_left m c t y0 y1).trans (smallG_at m c _ _ _ ?_ ?_).symm
  · refine (win0_7.rect_emb_val_off t (ix2 y0 y1) 0).trans ?_
    rw [(index_all t).2.2.2.2.2.2.2]; rfl
  · refine (win0_7.rect_emb_val_off t (ix2 y0 y1) 1).trans ?_
    rw [(index_all t).2.2.2.2.2.2.2]; exact Nat.zero_add _

end Cert.InBlocks

end
-- ==== Proof.InRefVal.lean ====
/- The input projection's reference: its stages, entry by entry the plain functions of the argument arrays. -/
module

public import proofs.«01_k».proof.Proof.Gen.InRefIdeal.Read
public import proofs.«01_k».proof.Proof.InPlain

@[expose] public section

set_option maxRecDepth 16384

noncomputable section

namespace Cert.InRefVal

open Idealize.ShloMosaic Idealize.ShloMosaic.TcCoe Idealize.SL.Sem
open Cert.InRefIdeal Cert.InRefIdeal.Read Cert.Plain Cert.InPlain

variable (x0 : FVec Ideal S8x2048x1024 .f32) (x1 : FVec Ideal S16x1024 .f32) (x2 : FVec Ideal S2x1024 .f32) (x3 : FVec Ideal S2x1024x13856 .f32)

theorem h_at (b : Fin 8) (t : Fin 2064) (d : Fin 1024) :
    val_main_v2 (F := Ideal) x0 x1 (ix3 b t d) = hp x0 x1 (b.val * 2112 + (48 + t.val)) d.val := by
  have ht := t.isLt
  pointwise [val_main_v2, val_main_v1, val_main_v0]
  refine either (fun h => ?_) fun h => ?_
  · rw [hp_meta _ _ (by omega) (by omega)]
    refine at2_of (a := 16) (b := 1024) _ _ _ _ ?_ rfl
    show t.val = _; omega
  · rw [hp_seq _ _ (by omega)]
    refine at3_of (a := 8) (b := 2048) (c := 1024) _ _ _ _ _ ?_ ?_ rfl
    · show b.val = _; omega
    · show t.val - 16 = _; omega

theorem gain_at (d : Fin 1024) : val_main_v4 (F := Ideal) x2 (ix1 d) = at2 x2 0 d.val := by
  pointwise [val_main_v4, val_main_v3]
  exact at2_of (a := 2) (b := 1024) _ _ _ _ rfl rfl

theorem norm_at (b : Fin 8) (t : Fin 2064) (d : Fin 1024) :
    val_main_v17 (F := Ideal) x0 x1 x2 (ix3 b t d) = nr (hp x0 x1 (b.val * 2112 + (48 + t.val))) (at2 x2 0) d.val := by
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  simp only [h_at, gain_at]
  rfl

theorem proj_at (b : Fin 8) (t : Fin 2064) (n : Fin 13856) :
    val_main_v20 (F := Ideal) x0 x1 x2 x3 (ix3 b t n)
      = pj (hp x0 x1 (b.val * 2112 + (48 + t.val))) (at2 x2 0) (fun d => at3 x3 0 d n.val) := by
  pointwise [val_main_v20, val_main_v19, val_main_v18]
  unfold pj
  refine Finset.sum_congr rfl fun d _ => ?_
  rw [norm_at]
  exact congrArg _ (at3_of (a := 2) (b := 1024) (c := 13856) _ _ _ _ _ rfl rfl rfl)

theorem main_at (b : Fin 8) (t : Fin 2064) (n : Fin 13824) :
    val_main_v33 (F := Ideal) x0 x1 x2 x3 (ix3 b t n)
      = pj (hp x0 x1 (b.val * 2112 + (48 + t.val))) (at2 x2 0) (fun d => at3 x3 0 d (colM n.val)) := by
  have hn := n.isLt
  pointwise [val_main_v33, val_main_v32, val_main_v28, val_main_v29, val_main_v24, val_main_v25, val_main_v26, val_main_v27, val_main_v21, val_main_v22]
  simp only [proj_at]
  refine either (fun h => ?_) fun h => either (fun h => ?_) fun h => either (fun h => ?_) fun h => either (fun h => ?_) fun h =>
    either (fun h => ?_) fun h => either (fun h => ?_) fun h => either (fun h => ?_) fun h => either (fun h => ?_) fun h => ?_
  all_goals
    refine congrArg (pj _ _) (funext fun d => congrArg (at3 x3 0 d) ?_)
    unfold colM
    (repeat' split) <;> omega

theorem small_at (b : Fin 8) (t : Fin 2064) (n : Fin 128) :
    val_main_v38 (F := Ideal) x0 x1 x2 x3 (ix3 b t n)
      = pj (hp x0 x1 (b.val * 2112 + (48 + t.val))) (at2 x2 0) (wS x3 0 n.val) := by
  have hn := n.isLt
  pointwise [val_main_v38, val_main_v23, val_main_v30, val_main_v31, val_main_v37, val_main_cst_2]
  simp only [proj_at]
  refine either (fun h => ?_) fun h => either (fun h => ?_) fun h => either (fun h => ?_) fun h => ?_
  · exact congrArg (pj _ _) (funext fun d => (if_pos h).symm)
  · refine congrArg (pj _ _) (funext fun d => Eq.trans ?_ ((if_neg (by omega)).trans (if_pos (by omega))).symm)
    exact congrArg (at3 x3 0 d) (by omega)
  · refine congrArg (pj _ _) (funext fun d => Eq.trans ?_ ((if_neg (by omega)).trans (if_pos (by omega))).symm)
    exact congrArg (at3 x3 0 d) (by omega)
  · refine (pj_none _ _).symm.trans (congrArg (pj _ _) (funext fun d => ?_))
    exact ((if_neg (by omega)).trans (if_neg (by omega))).symm

/-- The padding value. -/
theorem pad_zero : (FloatOps.sitofp (F := Ideal) .f32 0#32 : EReal) = 0 := by
  show (((0#32 : BitVec 32).toInt : ℝ) : EReal) = 0
  rw [show (0#32 : BitVec 32).toInt = 0 from rfl, Int.cast_zero]; rfl

theorem first_at (R : Fin 16896) (n : Fin 13824) :
    val_main_v36 (F := Ideal) x0 x1 x2 x3 (ix2 R n) = pj (hp x0 x1 R.val) (at2 x2 0) (fun d => at3 x3 0 d (colM n.val)) := by
  have hR := R.isLt
  pointwise [val_main_v36, val_main_v35, val_main_v34, val_main_call0_v0, val_main_c]
  refine either (fun h => ?_) fun h => ?_
  · rw [main_at]
    exact congrArg (fun z => pj (hp x0 x1 z) _ _) (by show R.val / 2112 * 2112 + (48 + (R.val % 2112 - 48)) = _; omega)
  · exact pad_zero.trans (pj_pad x0 x1 (by omega) _ _).symm

theorem second_at (R : Fin 16896) (n : Fin 128) :
    val_main_v40 (F := Ideal) x0 x1 x2 x3 (ix2 R n) = pj (hp x0 x1 R.val) (at2 x2 0) (wS x3 0 n.val) := by
  have hR := R.isLt
  pointwise [val_main_v40, val_main_v39, val_main_call1_v0, val_main_c_3]
  refine either (fun h => ?_) fun h => ?_
  · rw [small_at]
    exact congrArg (fun z => pj (hp x0 x1 z) _ _) (by show R.val / 2112 * 2112 + (48 + (R.val % 2112 - 48)) = _; omega)
  · exact pad_zero.trans (pj_pad x0 x1 (by omega) _ _).symm

/-- The two results. -/
theorem result_main : val_main_v36 (F := Ideal) x0 x1 x2 x3 = mainG x0 x1 x2 x3 := by
  funext y; idx_vars y; exact first_at x0 x1 x2 x3 y0 y1

theorem result_small : val_main_v40 (F := Ideal) x0 x1 x2 x3 = smallG x0 x1 x2 x3 := by
  funext y; idx_vars y; exact second_at x0 x1 x2 x3 y0 y1

end Cert.InRefVal

end
-- ==== Proof.In.lean ====
/- The claims about the input projection: its frame at both instances, the reference's, and the value claim of both results. -/
module

public import proofs.«01_k».proof.Defs
public import proofs.«01_k».proof.Proof.Gen.InProj
public import proofs.«01_k».proof.Proof.Gen.InProj.Frame
public import proofs.«01_k».proof.Proof.Gen.InRefIdeal.Run
public import proofs.«01_k».proof.Proof.Gen.InRefIdeal.Read
public import proofs.«01_k».proof.Proof.InBlocks
public import proofs.«01_k».proof.Proof.InRefVal
public import Idealize.ShloMosaic.Adequacy
public import Idealize.ShloMosaic.Lib.Quiescent
public import Idealize.ShloMosaic.Init

@[expose] public section

set_option maxRecDepth 16384

noncomputable section

namespace Cert.InClaims

open Idealize.ShloMosaic Idealize.ShloMosaic.TcCoe Idealize.SL.Sem

section Same
variable {F : FTy → Type} [FloatOps F]

/-! The printed program's text is its idealization's. -/

theorem same_body : Cert.InProj.cc0_in_proj (F := F) = Cert.InProjIdeal.cc0_in_proj := rfl

theorem same_bodies : Cert.InProj.defs₀ (F := F) = Cert.InProjIdeal.defs₀ := by
  unfold Cert.InProj.defs₀ Cert.InProjIdeal.defs₀
  refine congrArg Defs.onTc (funext fun l => funext fun a => ?_)
  match l, a with
  | ⟨0, _⟩, (t, s) => rw [same_body]; rfl

theorem same_defs : Cert.InProj.defs (F := F) = Cert.InProjIdeal.defs :=
  congrArg (Pipeline.defs Cert.InProjIdeal.pcfgs) same_bodies

end Same

/-- The same run, at the machine's floats. -/
theorem frame_kernel : Cert.quiescent_InProj := fun m ρ _ => by
  rw [same_defs]
  exact Cert.InRun.unchanged_quiet (F := Bits) m ρ

theorem frame_ideal : Cert.quiescent_InProjIdeal := fun m ρ _ => Cert.InRun.unchanged_quiet m ρ

theorem frame_reference : Cert.quiescent_InRefIdeal := by
  intro m ρ _
  exact (θ_run Cert.InRefIdeal.defs _ _).mono
    (fun r h => ⟨fun c => (h c).2.2, sem_eq_zero_of_no_sems (by decide) r.2⟩) (Cert.InRefIdeal.Value.run m ρ)

section Run
open Cert.InProjIdeal Cert.InProjIdeal.Gen Cert.InBlocks

/-- The run with both results at the plain functions and the arguments as launched. -/
theorem run_plain (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21_0) = InPlain.mainG (X m c) (M m c) (G m c) (W m c)
      ∧ r.2.mem ((c.tc : Thread nD τ).loc main_v21_1) = InPlain.smallG (X m c) (M m c) (G m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 6).trans (final_main m c), ((h.1 c).1 7).trans (final_small m c), h.2.1 c⟩)
    (θ_run_and (InRun.run_main m ρ) (InRun.unchanged_quiet m ρ))

end Run

/-- The arrays the call's two output windows end with are the plain functions of the arguments, and so are the
    reference's results. -/
theorem value : Cert.algebraic_InProjIdeal_InRefIdeal := by
  intro m g m' g' _ hagree
  refine ⟨fun c => InPlain.mainG (InBlocks.X m c) (InBlocks.M m c) (InBlocks.G m c) (InBlocks.W m c),
    fun c => InPlain.smallG (InBlocks.X m c) (InBlocks.M m c) (InBlocks.G m c) (InBlocks.W m c), run_plain m g, ?_⟩
  refine (θ_run Cert.InRefIdeal.defs _ _).mono (fun r h c => ⟨(h c).1.trans ?_, (h c).2.1.trans ?_, (h c).2.2⟩) (Cert.InRefIdeal.Value.run m' g')
  · obtain ⟨h0, h1, h2, h3⟩ := hagree c
    rw [Cert.InRefIdeal.Read.val_main_v36_eq m' c, h0, h1, h2, h3]
    exact InRefVal.result_main _ _ _ _
  · obtain ⟨h0, h1, h2, h3⟩ := hagree c
    rw [Cert.InRefIdeal.Read.val_main_v40_eq m' c, h0, h1, h2, h3]
    exact InRefVal.result_small _ _ _ _

end Cert.InClaims

end
-- ==== Proof.LastRun.lean ====
/- One call of the last layer's input projection's body, run once on any whole memrefs and for any float model: what it leaves in its
   two output buffers and in the scratch, at the first column block of a row tile and at a later one. -/
module

public import proofs.«01_k».proof.Proof.Gen.InLastIdeal.Frame
public import proofs.«01_k».proof.Proof.Gen.InLastIdeal.Skeleton
public import Idealize.ShloMosaic.Lib.Claim
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.LastRun

open Cert.InLastIdeal Cert.InLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The branch is taken at the first column block of a row tile: every sixth point. -/
theorem first_iff (t : Fin cfg0.N) : k0_cond1 (grid0.coords t) = 1#1 ↔ t.val % 6 = 0 := by
  have ht : t.val < 96 := Nat.lt_of_lt_of_eq t.isLt N_0
  have e1 : (grid0.coords t 1).val = t.val / 1 % 6 := Pipeline.Grid.coords_val t 1 (by decide) rfl
  simp only [k0_cond1, e1]
  word_cmp

/-- The normalized rows of a tile, as the first column block leaves them in the scratch. -/
def normed (x0 : Vec F S1056x1024 .f32) (x2 : Vec F S1x1024 .f32) : Vec F S1056x1024 .bf16 := k0_pay2 x0 x2

/-- The small projections of a tile, as the first column block leaves them in the second output's buffer. -/
def small (x0 : Vec F S1056x1024 .f32) (x2 : Vec F S1x1024 .f32) (x4 x5 : Vec F S1024x128 .f32) : Vec F S1056x128 .f32 :=
  k0_pay3 x0 x2 x4 x5

/-- A load of a whole memref's own sizes reads its contents. -/
theorem load_all {s : Shape} {e : EltTy} (a : Memref sig .tc .vmem s e) (ha : a.IsWhole) (x : Vec F s e) {off : Fin s.rank → ℕ}
    (inb : ∀ k, off k + s.size k ≤ s.size k) :
    a.view.readAt (Elt F) (Rect.unit off s.size inb).toLoadRect (ha.unread x) = x :=
  (View.readAt_full a.view _ inb).trans (ha.read_unread x)

section Body

variable (c : Dev nD) (i : grid0.Coords)
  (arg2 : Memref sig .tc .vmem S1056x1024 .f32) (harg2 : arg2.IsWhole) (arg3 : Memref sig .tc .vmem S64x1024 .f32) (harg3 : arg3.IsWhole)
  (arg4 : Memref sig .tc .vmem S1x1024 .f32) (harg4 : arg4.IsWhole) (arg5 : Memref sig .tc .vmem S1024x2304 .bf16) (harg5 : arg5.IsWhole)
  (arg6 : Memref sig .tc .vmem S1024x128 .f32) (harg6 : arg6.IsWhole) (arg7 : Memref sig .tc .vmem S1024x128 .f32) (harg7 : arg7.IsWhole)
  (arg8 : Memref sig .tc .vmem S1056x2304 .bf16) (harg8 : arg8.IsWhole) (arg9 : Memref sig .tc .vmem S1056x128 .f32) (harg9 : arg9.IsWhole)
  (arg10 : Memref sig .tc .vmem S1056x1024 .bf16) (harg10 : arg10.IsWhole)
  (x0 : Vec F S1056x1024 .f32) (x1 : Vec F S64x1024 .f32) (x2 : Vec F S1x1024 .f32) (x3 : Vec F S1024x2304 .bf16)
  (x4 x5 : Vec F S1024x128 .f32)

/-- The six input buffers at their contents. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The two output buffers and the scratch at given contents. -/
abbrev outs (y6 : Vec F S1056x2304 .bf16) (y7 : Vec F S1056x128 .f32) (ys : Vec F S1056x1024 .bf16) : sProp 𝕄 :=
  iprop(owns (c : Thread nD τ) arg8 fullShare y6 ∗ owns (c : Thread nD τ) arg9 fullShare y7 ∗ owns (c : Thread nD τ) arg10 fullShare ys)

set_option maxHeartbeats 1000000 in
/-- At a later column block only the main output is written, from the scratch as it was found. -/
theorem run_later (hc : ¬ k0_cond1 i = 1#1) (y7 : Vec F S1056x128 .f32) (ys : Vec F S1056x1024 .bf16) (E : Set ℕ) (K : PUnit → sProp 𝕄) :
    iprop(ins c arg2 arg3 arg4 arg5 arg6 arg7 x0 x1 x2 x3 x4 x5 ∗ (∃ d, outs c arg8 arg9 arg10 d y7 ys)
        ∗ (iprop(ins c arg2 arg3 arg4 arg5 arg6 arg7 x0 x1 x2 x3 x4 x5 ∗ outs c arg8 arg9 arg10 (k0_pay4 ys x3) y7 ys) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold ins outs owns
  iintro ⟨⟨H0, H1, H2, ⟨%f3, %hf3, H3⟩, H4, H5⟩, ⟨%d6, ⟨%f6, -, H6⟩, H7, ⟨%fs, %hfs, HS⟩⟩, Hk⟩
  obtain rfl := harg5.eq_unread hf3; obtain rfl := harg10.eq_unread hfs
  sl_exec (disch := first | sl_exact hc)
  sl_step
  iapply Hk
  isplitl [H0 H1 H2 H3 H4 H5]
  · iframe H0 H1 H2 H4 H5
    iexists _; isplitr; · ipureintro; exact harg5.read_unread _
    iexact H3
  iframe H7
  isplitl [H6]
  · iexists _; isplitr; swap
    · iexact H6
    ipureintro
    refine (View.read_writes_full _ _ _ _ _).trans ?_
    exact congrArg₂ k0_pay4 (load_all arg10 harg10 ys _) (load_all arg5 harg5 x3 _)
  iexists _; isplitr; · ipureintro; exact harg10.read_unread _
  iexact HS

set_option maxHeartbeats 1000000 in
/-- At the first column block the scratch, the second output and the main output are all written, from the inputs. -/
theorem run_first (hc : k0_cond1 i = 1#1) (E : Set ℕ) (K : PUnit → sProp 𝕄) :
    iprop(ins c arg2 arg3 arg4 arg5 arg6 arg7 x0 x1 x2 x3 x4 x5 ∗ (∃ d, owns (c : Thread nD τ) arg8 fullShare d)
        ∗ (∃ d, owns (c : Thread nD τ) arg9 fullShare d) ∗ (∃ d, owns (c : Thread nD τ) arg10 fullShare d)
        ∗ (iprop(ins c arg2 arg3 arg4 arg5 arg6 arg7 x0 x1 x2 x3 x4 x5
            ∗ outs c arg8 arg9 arg10 (k0_pay4 (normed x0 x2) x3) (small x0 x2 x4 x5) (normed x0 x2)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold ins outs owns
  iintro ⟨⟨⟨%f0, %hf0, H0⟩, H1, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%ds, %fs, -, HS⟩, Hk⟩
  obtain rfl := harg2.eq_unread hf0; obtain rfl := harg4.eq_unread hf2
  obtain rfl := harg5.eq_unread hf3; obtain rfl := harg6.eq_unread hf4; obtain rfl := harg7.eq_unread hf5
  sl_exec (disch := first | sl_exact hc)
  sl_step
  iapply Hk
  isplitl [H0 H1 H2 H3 H4 H5]
  · isplitl [H0]
    · iexists _; isplitr; · ipureintro; exact harg2.read_unread _
      iexact H0
    iframe H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr; swap
    · iexact H6
    ipureintro
    refine (View.read_writes_full _ _ _ _ _).trans ?_
    sl_unfold_run_names
    refine congrArg₂ k0_pay4 ((View.readCov_full _ _ _ _ _).trans ?_) (load_all arg5 harg5 x3 _)
    exact congrArg₂ k0_pay2 (load_all arg2 harg2 x0 _) (load_all arg4 harg4 x2 _)
  isplitl [H7]
  · iexists _; isplitr; swap
    · iexact H7
    ipureintro
    refine (View.read_writes_full _ _ _ _ _).trans ?_
    sl_unfold_run_names
    exact congr (congr (congrArg₂ k0_pay3 (load_all arg2 harg2 x0 _) (load_all arg4 harg4 x2 _)) (load_all arg6 harg6 x4 _)) (load_all arg7 harg7 x5 _)
  iexists _; isplitr; swap
  · iexact HS
  ipureintro
  sl_unfold_run_names
  refine (View.read_writes_full _ _ _ _ _).trans ?_
  exact congrArg₂ k0_pay2 (load_all arg2 harg2 x0 _) (load_all arg4 harg4 x2 _)

end Body

end Cert.LastRun

end
-- ==== Proof.LastFrame.lean ====
/- The last layer's input projection's whole run, for any float model: the contents of every buffer point by point in closed form, the body's
   obligation at each point, and the launch. -/
module

public import proofs.«01_k».proof.Proof.LastRun

@[expose] public section

set_option maxRecDepth 16384

noncomputable section

namespace Cert.LastRun

open Cert.InLastIdeal Cert.InLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, point by point -/

/-- The first point of a point's row tile. -/
def base (t : Fin cfg0.N) : Fin cfg0.N := ⟨t.val / 6 * 6, Nat.lt_of_le_of_lt (Nat.div_mul_le_self _ _) t.isLt⟩

/-- The point before. -/
def prev (t : Fin cfg0.N) : Fin cfg0.N := ⟨t.val - 1, Nat.lt_of_le_of_lt (Nat.sub_le _ _) t.isLt⟩

theorem base_first (t : Fin cfg0.N) (h : t.val % 6 = 0) : base t = t := Fin.ext (by simp only [base]; omega)

theorem base_prev (t : Fin cfg0.N) (h : ¬ t.val % 6 = 0) : base (prev t) = base t := Fin.ext (by simp only [base, prev]; omega)

/-- The scratch after point `t`: the normalized rows of the tile. -/
def xs (c : Dev nD) (t : Fin cfg0.N) : Vec F S1056x1024 .bf16 :=
  normed (iblk m c 0 (base t)) (iblk m c 2 (base t))

/-- The second output's buffer after point `t`: the small projections of the tile. -/
def y7 (c : Dev nD) (t : Fin cfg0.N) : Vec F S1056x128 .f32 :=
  small (iblk m c 0 (base t)) (iblk m c 2 (base t)) (iblk m c 4 (base t)) (iblk m c 5 (base t))

/-- The main output's buffer after point `t`: the tile's rows through the point's column block of weights. -/
def y6 (c : Dev nD) (t : Fin cfg0.N) : Vec F S1056x2304 .bf16 := k0_pay4 (xs m c t) (iblk m c 3 t)

theorem xs_first (c : Dev nD) (t : Fin cfg0.N) (h : t.val % 6 = 0) :
    xs m c t = normed (iblk m c 0 t) (iblk m c 2 t) := by unfold xs; rw [base_first t h]

theorem y7_first (c : Dev nD) (t : Fin cfg0.N) (h : t.val % 6 = 0) :
    y7 m c t = small (iblk m c 0 t) (iblk m c 2 t) (iblk m c 4 t) (iblk m c 5 t) := by
  unfold y7; rw [base_first t h]

theorem xs_later (c : Dev nD) (t : Fin cfg0.N) (h : ¬ t.val % 6 = 0) : xs m c (prev t) = xs m c t := by
  unfold xs; rw [base_prev t h]

theorem y7_later (c : Dev nD) (t : Fin cfg0.N) (h : ¬ t.val % 6 = 0) : y7 m c (prev t) = y7 m c t := by
  unfold y7; rw [base_prev t h]

/-- The scratch as a whole memref. -/
abbrev scr : Memref sig .tc .vmem S1056x1024 .bf16 := Memref.whole cc0_scratch0

/-- What the run keeps between points: the scratch at anything before the first point, at the last tile's rows after. -/
def held (c : Dev nD) : (n : ℕ) → n ≤ cfg0.N → sProp 𝕄
  | 0, _ => Pipeline.ΦA spec0 c
  | n + 1, h => iprop(owns (c : Thread nD τ) scr fullShare (xs m c ⟨n, h⟩) ∗ (∃ r, prngReg c r))

/-- The library's resource between points, in the form the body wants it. -/
theorem anything_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- What is kept can always be forgotten. -/
theorem held_forget (c : Dev nD) : ∀ (n : ℕ) (h : n ≤ cfg0.N), held m c n h ⊢ Pipeline.ΦA spec0 c
  | 0, _ => .rfl
  | n + 1, h => by
    rw [anything_eq]; unfold held
    iintro ⟨HS, Hg⟩
    isplitl [HS]
    · iexists _; iexact HS
    iexact Hg

theorem held_any (c : Dev nD) (n : ℕ) (h : n ≤ cfg0.N) :
    held m c n h ⊢ (iprop((∃ d, owns (c : Thread nD τ) scr fullShare d) ∗ (∃ r, prngReg c r)) : sProp 𝕄) := by
  have e := held_forget m c n h
  rwa [anything_eq] at e

theorem held_pos (c : Dev nD) (t : Fin cfg0.N) (hz : ¬ t.val = 0) :
    held m c t.val (Nat.le_of_lt t.isLt) = iprop(owns (c : Thread nD τ) scr fullShare (xs m c (prev t)) ∗ (∃ r, prngReg c r)) := by
  obtain ⟨n, hn⟩ := t
  cases n with
  | zero => exact absurd rfl hz
  | succ n => rfl

/-- The proof data: the arrays as the region finds them, and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => y6 m c t
    | ⟨7, _⟩ => y7 m c t
  Φ t := held m c t.val (Nat.le_of_lt_succ t.isLt)
  q _ := fullShare
  owed _ := 0

theorem arrays (c : Dev nD) (w : Fin cfg0.W) : (dats m 0 c).A w = V m c (Pipeline.arrRef spec0 w) := by dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = y6 m c t := by dsimp only [dats]
theorem left_7 (c : Dev nD) (t : Fin cfg0.N) : (dats m 0 c).after 7 t = y7 m c t := by dsimp only [dats]

theorem held_at (c : Dev nD) (t : Fin cfg0.N) : (dats m 0 c).Φ t.castSucc = held m c t.val (Nat.le_of_lt t.isLt) := by
  dsimp only [dats]; exact Pipeline.Dat.Φ_castSucc (held m c) t

/-- The body stores nothing into the second output's buffer at a later column block. -/
theorem idle_later (t : Fin cfg0.N) (h : ¬ t.val % 6 = 0) : cfg0.idle 7 (cfg0.grid.coords t) = true := by
  show (!(k0_cond1 (grid0.coords t) == 1#1)) = true
  rw [Bool.not_eq_true', beq_eq_false_iff_ne]; exact fun e => h ((first_iff t).mp e)

theorem idle_first (t : Fin cfg0.N) (h : t.val % 6 = 0) : cfg0.idle 7 (cfg0.grid.coords t) = false := by
  show (!(k0_cond1 (grid0.coords t) == 1#1)) = false
  rw [(first_iff t).mpr h]; rfl

/-- At a later column block the second output's buffer still holds the tile's small projections: it was not written back since. -/
theorem found_7 (c : Dev nD) : ∀ (n : ℕ) (t : Fin cfg0.N), t.val = n → ¬ t.val % 6 = 0 → ∀ d, (dats m 0 c).before 7 t d = y7 m c t
  | 0, t, hn, h, d => absurd (by rw [hn]) h
  | n + 1, t, hn, h, d => by
    have hf : (cfg0.win 7).flush (prev t) = false := by
      rw [← Bool.not_eq_true, flush0_7]; simp only [prev]; omega
    rw [(dats m 0 c).before_of_pos 7 t (by omega) ((cfg0.win 7).fetch_out rfl t) d]
    refine (if_neg (by rw [show (⟨t.val - 1, _⟩ : Fin cfg0.N) = prev t from rfl, hf]; exact Bool.false_ne_true)).trans ?_
    refine Eq.trans ?_ (y7_later m c t h)
    show (dats m 0 c).left 7 (prev t) d = _
    unfold Dat.left
    by_cases hp : (prev t).val % 6 = 0
    · rw [idle_first _ hp]; dsimp only
      unfold Dat.kept
      rw [Pipeline.fill_of_clip_none 7 _ (fun _ => rfl) d ((dats m 0 c).after 7 (prev t)), Window.fill_cut]
      exact left_7 m c (prev t)
    · rw [idle_later _ hp]; dsimp only
      exact found_7 c n (prev t) (by simp only [prev]; omega) hp d

/-! ## The body's obligation -/

/-- What the body is entered with at a point. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body gives back at a point. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 6400000 in
/-- The body takes the one to the other, at the first column block of a tile and at a later one. -/
theorem body_ok (c : Dev nD) (t : Fin cfg0.N) :
    given m c t ⊢ wp frame (wpE (defs₀ (F := F)) Variants.none c none) Set.univ (bodyAt0 t) (fun _ => returned m c t) := by
  unfold given returned bodyAt0
  simp only [before0_0_of m (dats m 0 c) (arrays m c 0) (left_0 m c), before0_1_of m (dats m 0 c) (arrays m c 1) (left_1 m c),
    before0_2_of m (dats m 0 c) (arrays m c 2) (left_2 m c), before0_3_of m (dats m 0 c) (arrays m c 3) (left_3 m c),
    before0_4_of m (dats m 0 c) (arrays m c 4) (left_4 m c), before0_5_of m (dats m 0 c) (arrays m c 5) (left_5 m c)]
  rw [show (dats m 0 c).owesAt () t.succ = (dats m 0 c).owesAt () t.castSucc from rfl,
    left_0, left_1, left_2, left_3, left_4, left_5, left_6, left_7, held_at,
    show (dats m 0 c).Φ t.succ = iprop(owns (c : Thread nD τ) scr fullShare (xs m c t) ∗ (∃ r, prngReg c r)) from rfl]
  by_cases h : t.val % 6 = 0
  · unfold y6; rw [y7_first m c t h, xs_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HA := (held_any m c _ _) $$ HΦ
    icases HA with ⟨HS, Hg⟩
    iapply (run_first c (grid0.coords t) _ _ _ _ _ _ _ _ _ _ _ _ _ _ _ _ _ _ (iblk m c 0 t) (iblk m c 1 t) (iblk m c 2 t)
      (iblk m c 3 t) (iblk m c 4 t) (iblk m c 5 t) ((first_iff t).mpr h) Set.univ _)
    isplitl [H0 H1 H2 H3 H4 H5]
    · iframe H0 H1 H2 H3 H4 H5
    isplitl [H6]; · iexists _; iexact H6
    isplitl [H7]; · iexists _; iexact H7
    isplitl [HS]; · iexact HS
    iintro ⟨⟨H0, H1, H2, H3, H4, H5⟩, H6, H7, HS⟩
    iframe HS Hg Ho H0 H1 H2 H3 H4 H5 H6 H7
  · rw [held_pos m c t fun e => h (by rw [e]), xs_later m c t h]
    simp only [found_7 m c _ t rfl h]
    unfold y6
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (iblk m c 0 t) (iblk m c 1 t) (iblk m c 2 t)
      (iblk m c 3 t) (iblk m c 4 t) (iblk m c 5 t) (fun e => h ((first_iff t).mp e)) (y7 m c t) (xs m c t) Set.univ _)
    isplitl [H0 H1 H2 H3 H4 H5]
    · iframe H0 H1 H2 H3 H4 H5
    isplitl [H6 H7 HS]
    · iexists _; iframe H6 H7 HS
    iintro ⟨⟨H0, H1, H2, H3, H4, H5⟩, H6, H7, HS⟩
    iframe HS Hg Ho H0 H1 H2 H3 H4 H5 H6 H7

/-- What is given back is what the library asks: at a later column block that is not written back, the second output's buffer as it was found. -/
theorem giveback (c : Dev nD) (t : Fin cfg0.N) :
    returned m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (match cfg0.idle 7 (cfg0.grid.coords t) with
      | true =>
        match (cfg0.win 7).flush t with
        | false => iprop(∃ d, owns (c : Thread nD τ) (st0_7 t) fullShare ((dats m 0 c).before 7 t d))
        | true => owns (c : Thread nD τ) (st0_7 t) fullShare ((dats m 0 c).after 7 t)
      | false => owns (c : Thread nD τ) (st0_7 t) fullShare ((dats m 0 c).after 7 t))) := by
  unfold returned
  by_cases h : t.val % 6 = 0
  · rw [idle_first t h]
  · rw [idle_later t h]
    cases (cfg0.win 7).flush t
    · dsimp only
      simp only [found_7 m c _ t rfl h, left_7 m c t]
      iintro ⟨HΦ, Ho, H0, H1, H2, H3, H4, H5, H6, H7⟩
      iframe HΦ Ho H0 H1 H2 H3 H4 H5 H6
      iexists (y7 m c t)
      iexact H7
    · exact .rfl

/-- The same as the library asks it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_ok m c t) rfl .rfl fun _ => giveback m c t

/-! ## The launch -/

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = held m c cfg0.N (Nat.le_refl _) from rfl]; exact held_forget m c _ _

-- the launch theorem's implicit arguments are found by unfolding plain definitions in their types
set_option backward.isDefEq.respectTransparency.types false in
/-- Every run ends with each window's array at what the points wrote back, every other buffer as it was, and the counters at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := enter m) (hout := leave m)

theorem run_main : θ_run defs (onTc (τ := τ) (main (F := F))) (s₀ m ρ) (Pipeline.FramePost cfgs (dats m) 0 (V m)) :=
  (θ_run defs _ _).mono (fun _ h => h.1) (run_all m ρ)

/-- The arguments end as they began and the counters end at zero. -/
theorem unchanged_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays m) (run_main m ρ)) ((θ_run defs _ _).mono (fun _ h => h.2) (run_all m ρ))

end Cert.LastRun

end
-- ==== Proof.LastPay.lean ====
/- The last layer's input projection's body at an entry of a block: the normalized rows, and the products with the blocks of weights. -/
module

public import proofs.«01_k».proof.Proof.Gen.InLastIdeal.Skeleton
public import proofs.«01_k».proof.Proof.InPay

@[expose] public section

set_option maxRecDepth 16384

noncomputable section

namespace Cert.LastPay

open Idealize.ShloMosaic Idealize.ShloMosaic.TcCoe Idealize.SL.Sem
open Cert.InLastIdeal Cert.InLastIdeal.Gen Cert.Plain Cert.InPlain

/-- The normalized rows. -/
theorem norm_at (x0 : FVec Ideal S1056x1024 .f32) (x2 : FVec Ideal S1x1024 .f32) (h g : ℕ → EReal) (r : Fin 1056)
    (hx : ∀ d : Fin 1024, x0 (ix2 r d) = h d.val) (hg : ∀ d : Fin 1024, x2 (ix2 0 d) = g d.val) (d : Fin 1024) :
    k0_pay1 (F := Ideal) x0 x2 (ix2 r d) = nr h g d.val := by
  pointwise [k0_pay1]
  simp only [hx, hg]
  rfl

theorem scratch_at (x0 : FVec Ideal S1056x1024 .f32) (x2 : FVec Ideal S1x1024 .f32) : k0_pay2 (F := Ideal) x0 x2 = k0_pay1 x0 x2 := by
  funext y; rw [eq_ix2 y]; pointwise [k0_pay2]

theorem main_at (v3 : FVec Ideal S1056x1024 .bf16) (v4 : FVec Ideal S1024x2304 .bf16) (r : Fin 1056) (n : Fin 2304) :
    k0_pay4 (F := Ideal) v3 v4 (ix2 r n) = ∑ d : Fin 1024, v3 (ix2 r d) * v4 (ix2 d n) := by
  pointwise [k0_pay4]

theorem small_at (x0 : FVec Ideal S1056x1024 .f32) (x2 : FVec Ideal S1x1024 .f32) (v4 v5 : FVec Ideal S1024x128 .f32) (r : Fin 1056) (n : Fin 128) (w : ℕ → EReal)
    (hw : ∀ d : Fin 1024, (if n.val < 16 then v4 (ix2 d n) else if n.val < 32 then v5 (ix2 d n) else 0) = w d.val) :
    k0_pay3 (F := Ideal) x0 x2 v4 v5 (ix2 r n) = ∑ d : Fin 1024, k0_pay1 (F := Ideal) x0 x2 (ix2 r d) * w d.val := by
  pointwise [k0_pay3]
  refine Finset.sum_congr rfl fun d _ => congrArg _ ?_
  rw [(InPay.lane_word n).1, (InPay.lane_word n).2, ← hw d]
  by_cases h1 : n.val < 16
  · rw [if_pos h1, if_pos h1]; rfl
  · rw [if_neg h1, if_neg h1]
    by_cases h2 : n.val < 32
    · rw [if_pos h2, if_pos ⟨by omega, h2⟩]; rfl
    · rw [if_neg h2, if_neg fun h => h2 h.2]; rfl

end Cert.LastPay

end
-- ==== Proof.LastBlocks.lean ====
/- The last layer's input projection's two result arrays: the blocks its points leave, entry by entry the plain functions of the argument arrays. -/
module

public import proofs.«01_k».proof.Proof.LastFrame
public import proofs.«01_k».proof.Proof.LastPay
public import Idealize.ShloMosaic.Lib.Claim

@[expose] public section

set_option maxRecDepth 16384

noncomputable section

namespace Cert.LastBlocks

open Idealize.ShloMosaic Idealize.ShloMosaic.TcCoe Idealize.SL.Sem
open Idealize.ShloMosaic.Pipeline (Dat)
open Cert.InLastIdeal Cert.InLastIdeal.Gen Cert.Plain Cert.InPlain Cert.LastRun

variable (m : (ℓ : Loc nD τ sig) → Buf (Elt Ideal) ℓ)

theorem index_all : ∀ t : Fin cfg0.N, win0_0.index t = ![t.val / 6, 0] ∧ win0_1.index t = ![0, 0] ∧ win0_2.index t = ![0, 0]
    ∧ win0_3.index t = ![0, t.val % 6] ∧ win0_4.index t = ![0, 0] ∧ win0_5.index t = ![0, 0]
    ∧ win0_6.index t = ![t.val / 6, t.val % 6] ∧ win0_7.index t = ![t.val / 6, 0] :=
  (by decide +kernel : ∀ t : Fin grid0.N, _)

/-- The arguments as launched. -/
abbrev H (c : Dev nD) : (⟨2, ![16896, 1024]⟩ : Shape).Idx → EReal := m ((c : Thread nD τ).loc main_arg0)
abbrev G (c : Dev nD) : (⟨2, ![2, 1024]⟩ : Shape).Idx → EReal := m ((c : Thread nD τ).loc main_arg2)
abbrev W (c : Dev nD) : (⟨3, ![2, 1024, 13856]⟩ : Shape).Idx → EReal := m ((c : Thread nD τ).loc main_arg3)

theorem h_at (c : Dev nD) (t : Fin cfg0.N) (r : Fin 1056) (d : Fin 1024) :
    iblk m c 0 t (ix2 r d) = at2 (H m c) (t.val / 6 * 1056 + r.val) d.val := by
  have ht : t.val < 96 := t.isLt
  have hr := r.isLt
  have e : (win0_0.rect t).emb (ix2 r d) = ix2 ⟨t.val / 6 * 1056 + r.val, by omega⟩ d := by
    refine funext fun a => Fin.ext ?_
    match a with
    | ⟨0, _⟩ =>
      refine (win0_0.rect_emb_val_off t (ix2 r d) 0).trans ?_
      rw [(index_all t).1]; rfl
    | ⟨1, _⟩ =>
      refine (win0_0.rect_emb_val_off t (ix2 r d) 1).trans ?_
      rw [(index_all t).1]; exact Nat.zero_add _
  have e' : iblk m c 0 t (ix2 r d) = V m c main_arg0 ((win0_0.rect t).emb (ix2 r d)) := rfl
  rw [e', e, V_main_arg0]
  exact at2_of (a := 16896) (b := 1024) _ _ _ _ rfl rfl

theorem gain_at (c : Dev nD) (t : Fin cfg0.N) (d : Fin 1024) : iblk m c 2 t (ix2 0 d) = at2 (G m c) 1 d.val := by
  have e : ((win0_2.rect t).emb (ix2 0 d)) = ix2 0 d := by
    blk_ext [index_all t] <;> exact Nat.zero_add _
  have e' : iblk m c 2 t (ix2 0 d) = V m c main_v4 ((win0_2.rect t).emb (ix2 0 d)) := rfl
  rw [e', e]
  entry_read
  pointwise
  exact at2_of (a := 2) (b := 1024) _ _ _ _ rfl rfl

/-- The block of all columns, from its four pieces. -/
theorem wcat (c : Dev nD) : V m c main_v15 = concatenate S1024x13824 1 [⟨S1024x3072, V m c main_v11⟩, ⟨S1024x4096, V m c main_v12⟩,
    ⟨S1024x4096, V m c main_v13⟩, ⟨S1024x2560, V m c main_v14⟩] concatenates_S1024x3072_S1024x4096_S1024x4096_S1024x2560_S1024x13824_d1 := rfl

/-- Four blocks of columns side by side, each a stretch of columns of the same function. -/
theorem cat_at (x : FVec Ideal S1024x3072 .bf16) (y z : FVec Ideal S1024x4096 .bf16) (u : FVec Ideal S1024x2560 .bf16) (w : ℕ → EReal) (d : Fin 1024)
    (hx : ∀ k : Fin 3072, x (ix2 d k) = w (10784 + k.val)) (hy : ∀ k : Fin 4096, y (ix2 d k) = w (6672 + k.val))
    (hz : ∀ k : Fin 4096, z (ix2 d k) = w (2576 + k.val)) (hu : ∀ k : Fin 2560, u (ix2 d k) = w k.val) (n : Fin 13824) :
    concatenate S1024x13824 1 [⟨S1024x3072, x⟩, ⟨S1024x4096, y⟩, ⟨S1024x4096, z⟩, ⟨S1024x2560, u⟩]
      concatenates_S1024x3072_S1024x4096_S1024x4096_S1024x2560_S1024x13824_d1 (ix2 d n) = w (colM n.val) := by
  pointwise
  simp only [hx, hy, hz, hu]
  refine either (fun h => ?_) fun h => either (fun h => ?_) fun h => either (fun h => ?_) fun h => ?_
  all_goals
    refine congrArg w ?_
    unfold colM
    (repeat' split) <;> omega

theorem wcat_at (c : Dev nD) (d : Fin 1024) (n : Fin 13824) : V m c main_v15 (ix2 d n) = at3 (W m c) 1 d.val (colM n.val) := by
  refine (congrFun (wcat m c) _).trans (cat_at _ _ _ _ (at3 (W m c) 1 d.val) d ?_ ?_ ?_ ?_ n)
  all_goals
    intro k
    entry_read
    pointwise
    exact at3_of (a := 2) (b := 1024) (c := 13856) _ _ _ _ _ rfl rfl rfl

theorem w_at (c : Dev nD) (t : Fin cfg0.N) (d : Fin 1024) (n : Fin 2304) :
    iblk m c 3 t (ix2 d n) = at3 (W m c) 1 d.val (colM (t.val % 6 * 2304 + n.val)) := by
  have hn := n.isLt
  have e : (win0_3.rect t).emb (ix2 d n) = ix2 d ⟨t.val % 6 * 2304 + n.val, by omega⟩ := by
    refine funext fun a => Fin.ext ?_
    match a with
    | ⟨0, _⟩ =>
      refine (win0_3.rect_emb_val_off t (ix2 d n) 0).trans ?_
      rw [(index_all t).2.2.2.1]; exact Nat.zero_add _
    | ⟨1, _⟩ =>
      refine (win0_3.rect_emb_val_off t (ix2 d n) 1).trans ?_
      rw [(index_all t).2.2.2.1]; rfl
  have e' : iblk m c 3 t (ix2 d n) = V m c main_v15 ((win0_3.rect t).emb (ix2 d n)) := rfl
  rw [e', e]
  exact wcat_at m c d _

theorem wdt_at (c : Dev nD) (t : Fin cfg0.N) (d : Fin 1024) (n : Fin 128) :
    iblk m c 4 t (ix2 d n) = at3 (W m c) 1 d.val (2560 + n.val) := by
  have e : ((win0_4.rect t).emb (ix2 d n)) = ix2 d n := by
    blk_ext [index_all t] <;> exact Nat.zero_add _
  have e' : iblk m c 4 t (ix2 d n) = V m c main_v17 ((win0_4.rect t).emb (ix2 d n)) := rfl
  rw [e', e]
  entry_read
  pointwise
  exact at3_of (a := 2) (b := 1024) (c := 13856) _ _ _ _ _ rfl rfl rfl

theorem wba_at (c : Dev nD) (t : Fin cfg0.N) (d : Fin 1024) (n : Fin 128) :
    iblk m c 5 t (ix2 d n) = at3 (W m c) 1 d.val (10752 + n.val) := by
  have e : ((win0_5.rect t).emb (ix2 d n)) = ix2 d n := by
    blk_ext [index_all t] <;> exact Nat.zero_add _
  have e' : iblk m c 5 t (ix2 d n) = V m c main_v19 ((win0_5.rect t).emb (ix2 d n)) := rfl
  rw [e', e]
  entry_read
  pointwise
  exact at3_of (a := 2) (b := 1024) (c := 13856) _ _ _ _ _ rfl rfl rfl

/-- The normalized rows of a point's tile. -/
theorem normed_at (c : Dev nD) (t : Fin cfg0.N) (r : Fin 1056) (d : Fin 1024) :
    k0_pay1 (F := Ideal) (iblk m c 0 t) (iblk m c 2 t) (ix2 r d)
      = nr (at2 (H m c) (t.val / 6 * 1056 + r.val)) (at2 (G m c) 1) d.val :=
  LastPay.norm_at _ _ _ _ r (h_at m c t r) (gain_at m c t) d

theorem base_tile (t : Fin cfg0.N) : (base t).val / 6 = t.val / 6 := by simp only [base]; omega

theorem xs_at (c : Dev nD) (t : Fin cfg0.N) (r : Fin 1056) (d : Fin 1024) :
    xs m c t (ix2 r d) = nr (at2 (H m c) (t.val / 6 * 1056 + r.val)) (at2 (G m c) 1) d.val := by
  rw [← base_tile t]
  exact (congrFun (LastPay.scratch_at _ _) _).trans (normed_at m c (base t) r d)

/-- What a point leaves in the main output's block. -/
theorem main_left (c : Dev nD) (t : Fin cfg0.N) (r : Fin 1056) (n : Fin 2304) :
    (dats m 0 c).after 6 t (ix2 r n) = pj (at2 (H m c) (t.val / 6 * 1056 + r.val)) (at2 (G m c) 1)
      (fun d => at3 (W m c) 1 d (colM (t.val % 6 * 2304 + n.val))) := by
  rw [left_6]
  refine (LastPay.main_at _ _ r n).trans ?_
  exact Finset.sum_congr rfl fun d _ => congrArg₂ (· * ·) (xs_at m c t r d) (w_at m c t d n)

/-- What a point leaves in the small output's. -/
theorem small_left (c : Dev nD) (t : Fin cfg0.N) (r : Fin 1056) (n : Fin 128) :
    (dats m 0 c).after 7 t (ix2 r n) = pj (at2 (H m c) (t.val / 6 * 1056 + r.val)) (at2 (G m c) 1) (wS (W m c) 1 n.val) := by
  rw [left_7, ← base_tile t]
  refine (LastPay.small_at _ _ _ _ r n (wS (W m c) 1 n.val) ?_).trans ?_
  · intro d; rw [wdt_at, wba_at]; rfl
  · exact Finset.sum_congr rfl fun d _ => congrArg (· * _) (normed_at m c (base t) r d)

theorem mainH_at (c : Dev nD) (y : (⟨2, ![16896, 13824]⟩ : Shape).Idx) (i j : ℕ) (h0 : (y 0).val = i) (h1 : (y 1).val = j) :
    mainH (G m c) (W m c) (H m c) y = pj (at2 (H m c) i) (at2 (G m c) 1) (fun d => at3 (W m c) 1 d (colM j)) := by
  subst h0 h1; rfl

theorem smallH_at (c : Dev nD) (y : (⟨2, ![16896, 128]⟩ : Shape).Idx) (i j : ℕ) (h0 : (y 0).val = i) (h1 : (y 1).val = j) :
    smallH (G m c) (W m c) (H m c) y = pj (at2 (H m c) i) (at2 (G m c) 1) (wS (W m c) 1 j) := by
  subst h0 h1; rfl

theorem final_main (c : Dev nD) : (dats m 0 c).arrAt 6 cfg0.N = mainH (G m c) (W m c) (H m c) := by
  refine (dats m 0 c).arrAt_eq_of_covers 6 _ (by decide +kernel) fun t hf y => ?_
  blk_simp
  idx_vars y
  refine (main_left m c t y0 y1).trans (mainH_at m c _ _ _ ?_ ?_).symm
  · refine (win0_6.rect_emb_val_off t (ix2 y0 y1) 0).trans ?_
    rw [(index_all t).2.2.2.2.2.2.1]; rfl
  · refine (win0_6.rect_emb_val_off t (ix2 y0 y1) 1).trans ?_
    rw [(index_all t).2.2.2.2.2.2.1]; rfl

theorem final_small (c : Dev nD) : (dats m 0 c).arrAt 7 cfg0.N = smallH (G m c) (W m c) (H m c) := by
  refine (dats m 0 c).arrAt_eq_of_covers 7 _ (by decide +kernel) fun t hf y => ?_
  blk_simp
  idx_vars y
  refine (small_left m c t y0 y1).trans (smallH_at m c _ _ _ ?_ ?_).symm
  · refine (win0_7.rect_emb_val_off t (ix2 y0 y1) 0).trans ?_
    rw [(index_all t).2.2.2.2.2.2.2]; rfl
  · refine (win0_7.rect_emb_val_off t (ix2 y0 y1) 1).trans ?_
    rw [(index_all t).2.2.2.2.2.2.2]; exact Nat.zero_add _

end Cert.LastBlocks

end
-- ==== Proof.LastRef.lean ====
/- The last layer's input projection's reference: its stages, entry by entry the plain functions of the argument arrays. -/
module

public import proofs.«01_k».proof.Proof.Gen.InLastRefIdeal.Read
public import proofs.«01_k».proof.Proof.InPlain

@[expose] public section

set_option maxRecDepth 16384

noncomputable section

namespace Cert.LastRef

open Idealize.ShloMosaic Idealize.ShloMosaic.TcCoe Idealize.SL.Sem
open Cert.InLastRefIdeal Cert.InLastRefIdeal.Read Cert.Plain Cert.InPlain

variable (x0 : FVec Ideal S16896x1024 .f32) (x2 : FVec Ideal S2x1024 .f32) (x3 : FVec Ideal S2x1024x13856 .f32)

theorem gain_at (d : Fin 1024) : val_main_v1 (F := Ideal) x2 (ix1 d) = at2 x2 1 d.val := by
  pointwise [val_main_v1, val_main_v0]
  exact at2_of (a := 2) (b := 1024) _ _ _ _ rfl rfl

theorem norm_at (R : Fin 16896) (d : Fin 1024) :
    val_main_v14 (F := Ideal) x0 x2 (ix2 R d) = nr (at2 x0 R.val) (at2 x2 1) d.val := by
  pointwise [val_main_v14, val_main_v13, val_main_v12, val_main_v11, val_main_v10, val_main_v9, val_main_v8, val_main_v7, val_main_v6, val_main_v5, val_main_v4, val_main_v3, val_main_v2, val_main_cst, val_main_cst_0, val_main_cst_1]
  simp only [gain_at, at2_ix x0]
  rfl

theorem proj_at (R : Fin 16896) (n : Fin 13856) :
    val_main_v17 (F := Ideal) x0 x2 x3 (ix2 R n) = pj (at2 x0 R.val) (at2 x2 1) (fun d => at3 x3 1 d n.val) := by
  pointwise [val_main_v17, val_main_v16, val_main_v15]
  unfold pj
  refine Finset.sum_congr rfl fun d _ => ?_
  rw [norm_at]
  exact congrArg _ (at3_of (a := 2) (b := 1024) (c := 13856) _ _ _ _ _ rfl rfl rfl)

theorem main_at (R : Fin 16896) (n : Fin 13824) :
    val_main_v31 (F := Ideal) x0 x2 x3 (ix2 R n) = pj (at2 x0 R.val) (at2 x2 1) (fun d => at3 x3 1 d (colM n.val)) := by
  have hn := n.isLt
  pointwise [val_main_v31, val_main_v30, val_main_v29, val_main_v25, val_main_v26, val_main_v21, val_main_v22, val_main_v23, val_main_v24, val_main_v18, val_main_v19]
  simp only [proj_at]
  refine either (fun h => ?_) fun h => either (fun h => ?_) fun h => either (fun h => ?_) fun h => either (fun h => ?_) fun h =>
    either (fun h => ?_) fun h => either (fun h => ?_) fun h => either (fun h => ?_) fun h => either (fun h => ?_) fun h => ?_
  all_goals
    refine congrArg (pj _ _) (funext fun d => congrArg (at3 x3 1 d) ?_)
    unfold colM
    (repeat' split) <;> omega

theorem small_at (R : Fin 16896) (n : Fin 128) :
    val_main_v33 (F := Ideal) x0 x2 x3 (ix2 R n) = pj (at2 x0 R.val) (at2 x2 1) (wS x3 1 n.val) := by
  have hn := n.isLt
  pointwise [val_main_v33, val_main_v20, val_main_v27, val_main_v28, val_main_v32, val_main_cst_2]
  simp only [proj_at]
  refine either (fun h => ?_) fun h => either (fun h => ?_) fun h => either (fun h => ?_) fun h => ?_
  · exact congrArg (pj _ _) (funext fun d => (if_pos h).symm)
  · refine congrArg (pj _ _) (funext fun d => Eq.trans ?_ ((if_neg (by omega)).trans (if_pos (by omega))).symm)
    exact congrArg (at3 x3 1 d) (by omega)
  · refine congrArg (pj _ _) (funext fun d => Eq.trans ?_ ((if_neg (by omega)).trans (if_pos (by omega))).symm)
    exact congrArg (at3 x3 1 d) (by omega)
  · refine (pj_none _ _).symm.trans (congrArg (pj _ _) (funext fun d => ?_))
    exact ((if_neg (by omega)).trans (if_neg (by omega))).symm

/-- The two results. -/
theorem result_main : val_main_v31 (F := Ideal) x0 x2 x3 = mainH x2 x3 x0 := by
  funext y; idx_vars y; exact main_at x0 x2 x3 y0 y1

theorem result_small : val_main_v33 (F := Ideal) x0 x2 x3 = smallH x2 x3 x0 := by
  funext y; idx_vars y; exact small_at x0 x2 x3 y0 y1

end Cert.LastRef

end
-- ==== Proof.Last.lean ====
/- The claims about the last layer's input projection: its frame at both instances, the reference's, and the value claim of both results. -/
module

public import proofs.«01_k».proof.Defs
public import proofs.«01_k».proof.Proof.Gen.InLast
public import proofs.«01_k».proof.Proof.Gen.InLast.Frame
public import proofs.«01_k».proof.Proof.Gen.InLastRefIdeal.Run
public import proofs.«01_k».proof.Proof.Gen.InLastRefIdeal.Read
public import proofs.«01_k».proof.Proof.LastBlocks
public import proofs.«01_k».proof.Proof.LastRef
public import Idealize.ShloMosaic.Adequacy
public import Idealize.ShloMosaic.Lib.Quiescent
public import Idealize.ShloMosaic.Init

@[expose] public section

set_option maxRecDepth 16384

noncomputable section

namespace Cert.LastClaims

open Idealize.ShloMosaic Idealize.ShloMosaic.TcCoe Idealize.SL.Sem

section Same
variable {F : FTy → Type} [FloatOps F]

/-! The printed program's text is its idealization's. -/

theorem same_body : Cert.InLast.cc0_in_proj (F := F) = Cert.InLastIdeal.cc0_in_proj := rfl

theorem same_bodies : Cert.InLast.defs₀ (F := F) = Cert.InLastIdeal.defs₀ := by
  unfold Cert.InLast.defs₀ Cert.InLastIdeal.defs₀
  refine congrArg Defs.onTc (funext fun l => funext fun a => ?_)
  match l, a with
  | ⟨0, _⟩, (t, s) => rw [same_body]; rfl

theorem same_defs : Cert.InLast.defs (F := F) = Cert.InLastIdeal.defs :=
  congrArg (Pipeline.defs Cert.InLastIdeal.pcfgs) same_bodies

end Same

/-- The same run, at the machine's floats. -/
theorem frame_kernel : Cert.quiescent_InLast := fun m ρ _ => by
  rw [same_defs]
  exact Cert.LastRun.unchanged_quiet (F := Bits) m ρ

theorem frame_ideal : Cert.quiescent_InLastIdeal := fun m ρ _ => Cert.LastRun.unchanged_quiet m ρ

theorem frame_reference : Cert.quiescent_InLastRefIdeal := by
  intro m ρ _
  exact (θ_run Cert.InLastRefIdeal.defs _ _).mono
    (fun r h => ⟨fun c => (h c).2.2, sem_eq_zero_of_no_sems (by decide) r.2⟩) (Cert.InLastRefIdeal.Value.run m ρ)

section Run
open Cert.InLastIdeal Cert.InLastIdeal.Gen Cert.LastBlocks

/-- The run with both results at the plain functions and the arguments as launched. -/
theorem run_plain (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v20_0) = InPlain.mainH (G m c) (W m c) (H m c)
      ∧ r.2.mem ((c.tc : Thread nD τ).loc main_v20_1) = InPlain.smallH (G m c) (W m c) (H m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 6).trans (final_main m c), ((h.1 c).1 7).trans (final_small m c), h.2.1 c⟩)
    (θ_run_and (LastRun.run_main m ρ) (LastRun.unchanged_quiet m ρ))

end Run

/-- The arrays the call's two output windows end with are the plain functions of the arguments, and so are the
    reference's results. -/
theorem value : Cert.algebraic_InLastIdeal_InLastRefIdeal := by
  intro m g m' g' _ hagree
  refine ⟨fun c => InPlain.mainH (LastBlocks.G m c) (LastBlocks.W m c) (LastBlocks.H m c),
    fun c => InPlain.smallH (LastBlocks.G m c) (LastBlocks.W m c) (LastBlocks.H m c), run_plain m g, ?_⟩
  refine (θ_run Cert.InLastRefIdeal.defs _ _).mono (fun r h c => ⟨(h c).1.trans ?_, (h c).2.1.trans ?_, (h c).2.2⟩) (Cert.InLastRefIdeal.Value.run m' g')
  · obtain ⟨h0, -, h2, h3⟩ := hagree c
    rw [Cert.InLastRefIdeal.Read.val_main_v31_eq m' c, h0, h2, h3]
    exact LastRef.result_main _ _ _
  · obtain ⟨h0, -, h2, h3⟩ := hagree c
    refine (Cert.InLastRefIdeal.Read.val_main_v33_eq _ _ _).trans ?_
    rw [h0, h2, h3]
    exact LastRef.result_small _ _ _

end Cert.LastClaims

end
-- ==== Proof.FirstPlain.lean ====
/- The first layer's output call as a plain function of the argument arrays. -/
module

public import proofs.«01_k».proof.Proof.InPlain

@[expose] public section

noncomputable section

namespace Cert.FirstPlain

open Idealize.ShloMosaic Idealize.ShloMosaic.TcCoe Idealize.SL.Sem
open Cert.Plain Cert.InPlain

variable (ys yd : (⟨2, ![16896, 1024]⟩ : Shape).Idx → EReal) (P : (⟨2, ![16896, 13824]⟩ : Shape).Idx → EReal)
  (X : (⟨3, ![8, 2048, 1024]⟩ : Shape).Idx → EReal) (W : (⟨3, ![2, 3, 1024]⟩ : Shape).Idx → EReal)
  (WB : (⟨4, ![2, 3, 1024, 1024]⟩ : Shape).Idx → EReal) (WO : (⟨3, ![2, 1024, 1024]⟩ : Shape).Idx → EReal)
  (NP : (⟨2, ![2, 1024]⟩ : Shape).Idx → EReal) (M : (⟨2, ![16, 1024]⟩ : Shape).Idx → EReal)

/-- What the short convolution runs over, `k` rows back: nothing before a sequence begins. -/
def lag (k R d : ℕ) : EReal := if R % 2112 < k then 0 else uu P (R - k) d

theorem lag_none {k R : ℕ} (h : R % 2112 < k) (d : ℕ) : lag P k R d = 0 := if_pos h

theorem lag_some {k R : ℕ} (h : k ≤ R % 2112) (d : ℕ) : lag P k R d = uu P (R - k) d := if_neg (by omega)

/-- The three-tap causal convolution of the first layer's short-convolution mixer. -/
def conv (R d : ℕ) : EReal := (at3 W 0 2 d * uu P R d + at3 W 0 1 d * lag P 1 R d) + at3 W 0 0 d * lag P 2 R d

/-- The short-convolution mixer. -/
def ysc (R d : ℕ) : EReal :=
  (at2 P R (7168 + d) * conv P W R d) * (at2 P R (10240 + d) * sg (at2 P R (10240 + d)))

/-- Branch `w`'s product with its matrix. -/
def br (y : ℕ → ℕ → EReal) (w R k : ℕ) : EReal := ∑ d : Fin 1024, y R d.val * at4 WB 0 w d.val k

/-- The gated sum of the branches. -/
def mg (R k : ℕ) : EReal :=
  (gate P 0 R k * br WB (at2 ys) 0 R k + gate P 1 R k * br WB (ysc P W) 1 R k) + gate P 2 R k * br WB (at2 yd) 2 R k

/-- The output projection. -/
def pr (R n : ℕ) : EReal := ∑ k : Fin 1024, mg ys yd P W WB R k.val * at3 WO 0 k.val n

/-- A row with its residual; the rows of padding are zero. -/
def fin (R n : ℕ) : EReal :=
  if R % 2112 < 48 then 0 else hp X M R n + (pr ys yd P W WB WO R n *
    Ideal.rsqrt (Ideal.div (∑ k : Fin 1024, pr ys yd P W WB WO R k.val * pr ys yd P W WB WO R k.val) (Ideal.ofBits .f32 0x44800000#32)
      + Ideal.ofBits .f32 0x358637BD#32)) * at2 NP 0 n

/-- The call's result. -/
def outF (i : (⟨2, ![16896, 1024]⟩ : Shape).Idx) : EReal := fin ys yd P X W WB WO NP M (i 0).val (i 1).val

end Cert.FirstPlain

end
-- ==== Proof.FirstPay.lean ====
/- The first layer's output call's body at an entry of a block, as the plain functions of the arrays its blocks are cut from. -/
module

public import proofs.«01_k».proof.Proof.Gen.OutFirstIdeal.Skeleton
public import proofs.«01_k».proof.Proof.FirstPlain

@[expose] public section

set_option maxRecDepth 16384

noncomputable section

namespace Cert.FirstPay

open Idealize.ShloMosaic Idealize.ShloMosaic.TcCoe Idealize.SL.Sem
open Cert.OutFirstIdeal Cert.OutFirstIdeal.Gen Cert.Plain Cert.InPlain

/-- The body's test that a tile is the first of its sequence. -/
theorem tile_word : ∀ i : Fin 4, Scalar.cmpi CmpIPredicate.eq (BitVec.ofNat 32 i.val) 0#32 = if i.val = 0 then 1#1 else 0#1 := by
  decide +kernel

/-- The rows above a block, none above the first of a sequence. -/
theorem above_at (i : grid0.Coords) (c h : FVec Ideal S528x1024 .bf16) (ch hh : FVec Ideal S16x1024 .bf16) (u : ℕ → ℕ → EReal)
    (hu : ∀ (r : Fin 528) (d : Fin 1024), c (ix2 r d) * h (ix2 r d) = u (r.val + 16) d.val)
    (hv : ∀ (r : Fin 16) (d : Fin 1024), (if (i 1).val = 0 then 0 else ch (ix2 r d) * hh (ix2 r d)) = u r.val d.val) (r : Fin 24) (d : Fin 1024) :
    k0_pay7 (F := Ideal) i c h ch hh (ix2 r d) = u r.val d.val := by
  have hi : (i 1).val < 4 := (i 1).isLt
  have hr := r.isLt
  have below : ∀ (q : ℕ) (hq : q < 528), c (ix2 ⟨q, hq⟩ d) * h (ix2 ⟨q, hq⟩ d) = u (q + 16) d.val := fun q hq => hu ⟨q, hq⟩ d
  pointwise [k0_pay7, k0_pay2]
  rw [tile_word ⟨(i 1).val, hi⟩]
  refine either (fun p => ?_) fun p => ?_
  · rw [← hv ⟨r.val, p⟩ d]
    by_cases e : (i 1).val = 0
    · rw [if_pos e, if_pos e]; exact if_pos rfl
    · rw [if_neg e, if_neg e]; exact if_neg (by decide)
  · rw [below]
    congr 1
    omega

theorem sc_at (i : grid0.Coords) (c h : FVec Ideal S528x1024 .bf16) (ch hh : FVec Ideal S16x1024 .bf16) (w0 w1 w2 : FVec Ideal S1x1024 .f32)
    (b g : FVec Ideal S528x1024 .bf16) (u : ℕ → ℕ → EReal)
    (hu : ∀ (r : Fin 528) (d : Fin 1024), c (ix2 r d) * h (ix2 r d) = u (r.val + 16) d.val)
    (hv : ∀ (r : Fin 16) (d : Fin 1024), (if (i 1).val = 0 then 0 else ch (ix2 r d) * hh (ix2 r d)) = u r.val d.val) (r : Fin 528) (d : Fin 1024) :
    k0_pay11 (F := Ideal) (k0_pay6 c h w0 w1 w2) (k0_pay8 i c h ch hh w1 w2) (k0_pay9 i c h ch hh) (k0_pay10 w0) b g (ix2 r d)
      = (b (ix2 r d) * ((w2 (ix2 0 d) * u (r.val + 16) d.val + w1 (ix2 0 d) * u (r.val + 15) d.val) + w0 (ix2 0 d) * u (r.val + 14) d.val))
        * (g (ix2 r d) * sg (g (ix2 r d))) := by
  have hr := r.isLt
  have below : ∀ (q : ℕ) (hq : q < 528), c (ix2 ⟨q, hq⟩ d) * h (ix2 ⟨q, hq⟩ d) = u (q + 16) d.val := fun q hq => hu ⟨q, hq⟩ d
  pointwise [k0_pay11, k0_pay6, k0_pay8, k0_pay9, k0_pay10, k0_pay5, k0_pay4, k0_pay3, k0_pay2, sg]
  simp only [above_at i c h ch hh u hu hv, below]
  refine congrArg₂ (· * ·) (congrArg₂ (· * ·) rfl ?_) rfl
  refine either (fun p => ?_) fun p => ?_
  · rw [show 16 + (r : ℕ) = r + 16 by omega, show 15 + (r : ℕ) = r + 15 by omega, show 14 + (r : ℕ) = r + 14 by omega]
  · rw [show 8 + ((r : ℕ) - 8) + 16 = r + 16 by omega, show (8 + ((r : ℕ) - 8) + 528 - 1) % 528 + 16 = r + 15 by omega,
      show (8 + ((r : ℕ) - 8) + 528 - 2) % 528 + 16 = r + 14 by omega]

/-- The body's test that a row is not one of padding. -/
theorem row_word : ∀ (i : Fin 4) (r : Fin 528),
    IntOp.cmpi CmpIPredicate.sge (IntOp.addi (Scalar.addi 0#32 (Scalar.muli (BitVec.ofNat 32 i.val) 528#32)) (BitVec.ofNat 32 r.val)) 48#32
      = if i.val * 528 + r.val < 48 then 0#1 else 1#1 := by decide +kernel

theorem last_at (i : Fin 4) (y0 y1 y2 : FVec Ideal S528x1024 .bf16) (g0 : FVec Ideal S528x1024 .bf16) (w0 : FVec Ideal S1x1024x1024 .bf16)
    (g1 : FVec Ideal S528x1024 .bf16) (w1 : FVec Ideal S1x1024x1024 .bf16)
    (g2 : FVec Ideal S528x1024 .bf16) (w2 : FVec Ideal S1x1024x1024 .bf16) (wo : FVec Ideal S1024x1024 .bf16)
    (x : FVec Ideal S528x1024 .f32) (fr : FVec Ideal S64x1024 .f32) (np : FVec Ideal S1x1024 .f32) (mg : ℕ → ℕ → EReal) (h : EReal) (r : Fin 528) (n : Fin 1024)
    (he : i.val = 0 → (if p : r.val < 64 then fr (ix2 ⟨r.val, p⟩ n) else x (ix2 ⟨r.val - 64, by omega⟩ n)) = h)
    (ho : ¬ i.val = 0 → x (ix2 r n) = h)
    (hm : ∀ k : Fin 1024, (sg (g0 (ix2 r k)) * (∑ d : Fin 1024, y0 (ix2 r d) * w0 (ix3 0 d k)) + sg (g1 (ix2 r k)) * (∑ d : Fin 1024, y1 (ix2 r d) * w1 (ix3 0 d k)))
      + sg (g2 (ix2 r k)) * (∑ d : Fin 1024, y2 (ix2 r d) * w2 (ix3 0 d k)) = mg r.val k.val) :
    k0_pay1 (F := Ideal) (BitVec.ofNat 32 i.val) (k0_pay15 y1 y2 (k0_pay12 y0 g0 w0) (k0_pay13 g1) k0_pay14 w1 g2 w2 wo)
        (k0_pay16 y1 y2 (k0_pay12 y0 g0 w0) (k0_pay13 g1) k0_pay14 w1 g2 w2 wo) (k0_pay17 x)
        (Scalar.cmpi .eq (BitVec.ofNat 32 i.val) 0#32) fr np (ix2 r n)
      = if i.val * 528 + r.val < 48 then 0 else h + ((∑ k : Fin 1024, mg r.val k.val * wo (ix2 k n)) *
          Ideal.rsqrt (Ideal.div (∑ l : Fin 1024, (∑ k : Fin 1024, mg r.val k.val * wo (ix2 k l)) * (∑ k : Fin 1024, mg r.val k.val * wo (ix2 k l)))
            (Ideal.ofBits .f32 0x44800000#32) + Ideal.ofBits .f32 0x358637BD#32)) * np (ix2 0 n) := by
  simp only [← hm]
  pointwise [k0_pay1, k0_pay12, k0_pay13, k0_pay14, k0_pay15, k0_pay16, k0_pay17, sg]
  rw [row_word i r, tile_word i]
  by_cases q : i.val * 528 + r.val < 48
  · rw [if_pos q, if_pos q]; rfl
  · rw [if_neg q, if_neg q]
    refine (if_pos rfl).trans ?_
    refine congrArg₂ (· + ·) ?_ rfl
    by_cases e : i.val = 0
    · rw [if_pos e, ← he e]; exact if_pos rfl
    · rw [if_neg e, ← ho e]; exact if_neg (by decide)

end Cert.FirstPay

end
-- ==== Proof.FirstBlocks.lean ====
/- The first layer's output call's result array: the blocks its points leave, entry by entry the plain function of the argument arrays. -/
module

public import proofs.«01_k».proof.Proof.Gen.OutFirstIdeal.Value
public import proofs.«01_k».proof.Proof.FirstPay
public import Idealize.ShloMosaic.Lib.Claim

@[expose] public section

set_option maxRecDepth 16384

noncomputable section

namespace Cert.FirstBlocks

open Idealize.ShloMosaic Idealize.ShloMosaic.TcCoe Idealize.SL.Sem
open Idealize.ShloMosaic.Pipeline (Dat)
open Cert.OutFirstIdeal Cert.OutFirstIdeal.Gen Cert.InPlain Cert.FirstPlain
open Cert.Plain (at2 at3 at4 at2_of at3_of at4_of at2_ix at3_ix uu gate sg)

variable (m : (ℓ : Loc nD τ sig) → Buf (Elt Ideal) ℓ)

/-- The row of the sequences at which point `t`'s unpadded rows begin. -/
abbrev off (t : ℕ) : ℕ := t / 4 * 2048 + (t % 4 * 528 - 64)

theorem index_rows : ∀ t : Fin cfg0.N, win0_0.index t = ![t.val, 0] ∧ win0_1.index t = ![t.val, 0]
    ∧ win0_2.index t = ![t.val, 7] ∧ win0_3.index t = ![t.val, 8] ∧ win0_4.index t = ![t.val * 33 - 1, 8]
    ∧ win0_5.index t = ![t.val, 9] ∧ win0_6.index t = ![t.val * 33 - 1, 9] ∧ win0_7.index t = ![t.val, 10]
    ∧ win0_8.index t = ![t.val, 0] ∧ win0_9.index t = ![off t.val, 0] :=
  (by decide +kernel : ∀ t : Fin grid0.N, _)

theorem index_whole : ∀ t : Fin cfg0.N, win0_10.index t = ![0, 0] ∧ win0_11.index t = ![0, 0] ∧ win0_12.index t = ![0, 0, 0]
    ∧ win0_13.index t = ![0, 0] ∧ win0_14.index t = ![0, 0] ∧ win0_15.index t = ![t.val, 0] :=
  (by decide +kernel : ∀ t : Fin grid0.N, _)

theorem tile_of : ∀ t : Fin cfg0.N, (grid0.coords t 1).val = t.val % 4 :=
  (by decide +kernel : ∀ t : Fin grid0.N, _)

/-- The arguments as launched. -/
abbrev A (c : Dev nD) : (⟨2, ![16896, 1024]⟩ : Shape).Idx → EReal := m ((c : Thread nD τ).loc main_arg0)
abbrev B (c : Dev nD) : (⟨2, ![16896, 1024]⟩ : Shape).Idx → EReal := m ((c : Thread nD τ).loc main_arg1)
abbrev P (c : Dev nD) : (⟨2, ![16896, 13824]⟩ : Shape).Idx → EReal := m ((c : Thread nD τ).loc main_arg2)
abbrev X (c : Dev nD) : (⟨3, ![8, 2048, 1024]⟩ : Shape).Idx → EReal := m ((c : Thread nD τ).loc main_arg3)
abbrev W (c : Dev nD) : (⟨3, ![2, 3, 1024]⟩ : Shape).Idx → EReal := m ((c : Thread nD τ).loc main_arg4)
abbrev WB (c : Dev nD) : (⟨4, ![2, 3, 1024, 1024]⟩ : Shape).Idx → EReal := m ((c : Thread nD τ).loc main_arg5)
abbrev WO (c : Dev nD) : (⟨3, ![2, 1024, 1024]⟩ : Shape).Idx → EReal := m ((c : Thread nD τ).loc main_arg6)
abbrev NP (c : Dev nD) : (⟨2, ![2, 1024]⟩ : Shape).Idx → EReal := m ((c : Thread nD τ).loc main_arg7)
abbrev M (c : Dev nD) : (⟨2, ![16, 1024]⟩ : Shape).Idx → EReal := m ((c : Thread nD τ).loc main_arg8)

theorem ys_at (c : Dev nD) (t : Fin cfg0.N) (r : Fin 528) (d : Fin 1024) :
    iblk m c 0 t (ix2 r d) = at2 (A m c) (t.val * 528 + r.val) d.val := by
  have e : iblk m c 0 t (ix2 r d) = V m c main_arg0 ((win0_0.rect t).emb (ix2 r d)) := rfl
  rw [e, V_main_arg0 m c]
  refine at2_of (a := 16896) (b := 1024) _ _ _ _ ?_ ?_
  · refine (win0_0.rect_emb_val_off t (ix2 r d) 0).trans ?_
    rw [(index_rows t).1]; rfl
  · refine (win0_0.rect_emb_val_off t (ix2 r d) 1).trans ?_
    rw [(index_rows t).1]; exact Nat.zero_add _

theorem yd_at (c : Dev nD) (t : Fin cfg0.N) (r : Fin 528) (d : Fin 1024) :
    iblk m c 1 t (ix2 r d) = at2 (B m c) (t.val * 528 + r.val) d.val := by
  have e : iblk m c 1 t (ix2 r d) = V m c main_arg1 ((win0_1.rect t).emb (ix2 r d)) := rfl
  rw [e, V_main_arg1 m c]
  refine at2_of (a := 16896) (b := 1024) _ _ _ _ ?_ ?_
  · refine (win0_1.rect_emb_val_off t (ix2 r d) 0).trans ?_
    rw [(index_rows t).2.1]; rfl
  · refine (win0_1.rect_emb_val_off t (ix2 r d) 1).trans ?_
    rw [(index_rows t).2.1]; exact Nat.zero_add _

theorem scb_at (c : Dev nD) (t : Fin cfg0.N) (r : Fin 528) (d : Fin 1024) :
    X0_2 m c t (ix2 r d) = at2 (P m c) (t.val * 528 + r.val) (7168 + d.val) := by
  unfold X0_2 Pipeline.Window.fill
  rw [dif_pos (moved0_2 t (ix2 r d))]
  refine (congrFun (V_main_arg2 m c) ((win0_2.rect t).emb _)).trans ?_
  refine at2_of (a := 16896) (b := 13824) _ _ _ _ ?_ ?_
  · refine (win0_2.rect_emb_val_off t _ 0).trans ?_
    rw [(index_rows t).2.2.1]; rfl
  · refine (win0_2.rect_emb_val_off t _ 1).trans ?_
    rw [(index_rows t).2.2.1]; rfl

theorem scc_at (c : Dev nD) (t : Fin cfg0.N) (r : Fin 528) (d : Fin 1024) :
    X0_3 m c t (ix2 r d) = at2 (P m c) (t.val * 528 + r.val) (8192 + d.val) := by
  unfold X0_3 Pipeline.Window.fill
  rw [dif_pos (moved0_3 t (ix2 r d))]
  refine (congrFun (V_main_arg2 m c) ((win0_3.rect t).emb _)).trans ?_
  refine at2_of (a := 16896) (b := 13824) _ _ _ _ ?_ ?_
  · refine (win0_3.rect_emb_val_off t _ 0).trans ?_
    rw [(index_rows t).2.2.2.1]; rfl
  · refine (win0_3.rect_emb_val_off t _ 1).trans ?_
    rw [(index_rows t).2.2.2.1]; rfl

theorem scc_above (c : Dev nD) (t : Fin cfg0.N) (r : Fin 16) (d : Fin 1024) :
    X0_4 m c t (ix2 r d) = at2 (P m c) ((t.val * 33 - 1) * 16 + r.val) (8192 + d.val) := by
  unfold X0_4 Pipeline.Window.fill
  rw [dif_pos (moved0_4 t (ix2 r d))]
  refine (congrFun (V_main_arg2 m c) ((win0_4.rect t).emb _)).trans ?_
  refine at2_of (a := 16896) (b := 13824) _ _ _ _ ?_ ?_
  · refine (win0_4.rect_emb_val_off t _ 0).trans ?_
    rw [(index_rows t).2.2.2.2.1]; rfl
  · refine (win0_4.rect_emb_val_off t _ 1).trans ?_
    rw [(index_rows t).2.2.2.2.1]; rfl

theorem sch_at (c : Dev nD) (t : Fin cfg0.N) (r : Fin 528) (d : Fin 1024) :
    X0_5 m c t (ix2 r d) = at2 (P m c) (t.val * 528 + r.val) (9216 + d.val) := by
  unfold X0_5 Pipeline.Window.fill
  rw [dif_pos (moved0_5 t (ix2 r d))]
  refine (congrFun (V_main_arg2 m c) ((win0_5.rect t).emb _)).trans ?_
  refine at2_of (a := 16896) (b := 13824) _ _ _ _ ?_ ?_
  · refine (win0_5.rect_emb_val_off t _ 0).trans ?_
    rw [(index_rows t).2.2.2.2.2.1]; rfl
  · refine (win0_5.rect_emb_val_off t _ 1).trans ?_
    rw [(index_rows t).2.2.2.2.2.1]; rfl

theorem sch_above (c : Dev nD) (t : Fin cfg0.N) (r : Fin 16) (d : Fin 1024) :
    X0_6 m c t (ix2 r d) = at2 (P m c) ((t.val * 33 - 1) * 16 + r.val) (9216 + d.val) := by
  unfold X0_6 Pipeline.Window.fill
  rw [dif_pos (moved0_6 t (ix2 r d))]
  refine (congrFun (V_main_arg2 m c) ((win0_6.rect t).emb _)).trans ?_
  refine at2_of (a := 16896) (b := 13824) _ _ _ _ ?_ ?_
  · refine (win0_6.rect_emb_val_off t _ 0).trans ?_
    rw [(index_rows t).2.2.2.2.2.2.1]; rfl
  · refine (win0_6.rect_emb_val_off t _ 1).trans ?_
    rw [(index_rows t).2.2.2.2.2.2.1]; rfl

theorem scg_at (c : Dev nD) (t : Fin cfg0.N) (r : Fin 528) (d : Fin 1024) :
    X0_7 m c t (ix2 r d) = at2 (P m c) (t.val * 528 + r.val) (10240 + d.val) := by
  unfold X0_7 Pipeline.Window.fill
  rw [dif_pos (moved0_7 t (ix2 r d))]
  refine (congrFun (V_main_arg2 m c) ((win0_7.rect t).emb _)).trans ?_
  refine at2_of (a := 16896) (b := 13824) _ _ _ _ ?_ ?_
  · refine (win0_7.rect_emb_val_off t _ 0).trans ?_
    rw [(index_rows t).2.2.2.2.2.2.2.1]; rfl
  · refine (win0_7.rect_emb_val_off t _ 1).trans ?_
    rw [(index_rows t).2.2.2.2.2.2.2.1]; rfl

theorem gates_at (c : Dev nD) (t : Fin cfg0.N) (r : Fin 528) (d : Fin 3072) :
    X0_8 m c t (ix2 r d) = at2 (P m c) (t.val * 528 + r.val) (d.val) := by
  unfold X0_8 Pipeline.Window.fill
  rw [dif_pos (moved0_8 t (ix2 r d))]
  refine (congrFun (V_main_arg2 m c) ((win0_8.rect t).emb _)).trans ?_
  refine at2_of (a := 16896) (b := 13824) _ _ _ _ ?_ ?_
  · refine (win0_8.rect_emb_val_off t _ 0).trans ?_
    rw [(index_rows t).2.2.2.2.2.2.2.2.1]; rfl
  · refine (win0_8.rect_emb_val_off t _ 1).trans ?_
    rw [(index_rows t).2.2.2.2.2.2.2.2.1]; exact Nat.zero_add _

theorem x_at (c : Dev nD) (t : Fin cfg0.N) (r : Fin 528) (d : Fin 1024) :
    iblk m c 9 t (ix2 r d) = at3 (X m c) ((off t.val + r.val) / 2048) ((off t.val + r.val) % 2048) d.val := by
  have ht : t.val < 32 := t.isLt
  have hr := r.isLt
  have e : (win0_9.rect t).emb (ix2 r d) = ix2 ⟨off t.val + r.val, by simp only [off]; omega⟩ d := by
    refine funext fun a => Fin.ext ?_
    match a with
    | ⟨0, _⟩ =>
      refine (win0_9.rect_emb_val_off t (ix2 r d) 0).trans ?_
      rw [(index_rows t).2.2.2.2.2.2.2.2.2]; rfl
    | ⟨1, _⟩ =>
      refine (win0_9.rect_emb_val_off t (ix2 r d) 1).trans ?_
      rw [(index_rows t).2.2.2.2.2.2.2.2.2]; exact Nat.zero_add _
  have e' : iblk m c 9 t (ix2 r d) = V m c main_v2 ((win0_9.rect t).emb (ix2 r d)) := rfl
  rw [e', e]
  entry_read
  pointwise
  exact at3_of (a := 8) (b := 2048) (c := 1024) _ _ _ _ _ rfl rfl rfl

theorem front_at (c : Dev nD) (t : Fin cfg0.N) (r : Fin 64) (d : Fin 1024) :
    iblk m c 10 t (ix2 r d) = if r.val < 48 then 0 else at2 (M m c) (r.val - 48) d.val := by
  have e : ((win0_10.rect t).emb (ix2 r d)) = ix2 r d := by
    blk_ext [index_whole t] <;> exact Nat.zero_add _
  have e' : iblk m c 10 t (ix2 r d) = V m c main_v1 ((win0_10.rect t).emb (ix2 r d)) := rfl
  rw [e', e]
  entry_read
  pointwise
  refine either (fun h => ?_) fun h => ?_
  · rw [if_pos h]
  · rw [if_neg h]
    exact at2_of (a := 16) (b := 1024) _ _ _ _ rfl rfl

theorem scw_at (c : Dev nD) (t : Fin cfg0.N) (j : Fin 3) (d : Fin 1024) :
    iblk m c 11 t (ix2 j d) = at3 (W m c) 0 j.val d.val := by
  have e : ((win0_11.rect t).emb (ix2 j d)) = ix2 j d := by
    blk_ext [index_whole t] <;> exact Nat.zero_add _
  have e' : iblk m c 11 t (ix2 j d) = V m c main_v4 ((win0_11.rect t).emb (ix2 j d)) := rfl
  rw [e', e]
  entry_read
  pointwise
  exact at3_of (a := 2) (b := 3) (c := 1024) _ _ _ _ _ rfl rfl rfl

theorem wb_at (c : Dev nD) (t : Fin cfg0.N) (w : Fin 3) (d k : Fin 1024) :
    iblk m c 12 t (ix3 w d k) = at4 (WB m c) 0 w.val d.val k.val := by
  have e : ((win0_12.rect t).emb (ix3 w d k)) = ix3 w d k := by
    blk_ext [index_whole t] <;> exact Nat.zero_add _
  have e' : iblk m c 12 t (ix3 w d k) = V m c main_v7 ((win0_12.rect t).emb (ix3 w d k)) := rfl
  rw [e', e]
  entry_read
  pointwise
  exact at4_of (a := 2) (b := 3) (c := 1024) (d := 1024) _ _ _ _ _ _ rfl rfl rfl rfl

theorem wo_at (c : Dev nD) (t : Fin cfg0.N) (k n : Fin 1024) :
    iblk m c 13 t (ix2 k n) = at3 (WO m c) 0 k.val n.val := by
  have e : ((win0_13.rect t).emb (ix2 k n)) = ix2 k n := by
    blk_ext [index_whole t] <;> exact Nat.zero_add _
  have e' : iblk m c 13 t (ix2 k n) = V m c main_v10 ((win0_13.rect t).emb (ix2 k n)) := rfl
  rw [e', e]
  entry_read
  pointwise
  exact at3_of (a := 2) (b := 1024) (c := 1024) _ _ _ _ _ rfl rfl rfl

theorem np_at (c : Dev nD) (t : Fin cfg0.N) (n : Fin 1024) :
    iblk m c 14 t (ix2 0 n) = at2 (NP m c) 0 n.val := by
  have e : ((win0_14.rect t).emb (ix2 0 n)) = ix2 0 n := by
    blk_ext [index_whole t] <;> exact Nat.zero_add _
  have e' : iblk m c 14 t (ix2 0 n) = V m c main_v13 ((win0_14.rect t).emb (ix2 0 n)) := rfl
  rw [e', e]
  entry_read
  pointwise
  exact at2_of (a := 2) (b := 1024) _ _ _ _ rfl rfl

/-- The residual of a row of the first tile of a sequence: from the front rows, then from the block's first rows. -/
theorem res_first (c : Dev nD) (t : Fin cfg0.N) (h0 : t.val % 4 = 0) (r : Fin 528) (n : Fin 1024) :
    (if p : r.val < 64 then iblk m c 10 t (ix2 ⟨r.val, p⟩ n) else iblk m c 9 t (ix2 ⟨r.val - 64, by omega⟩ n))
      = hp (X m c) (M m c) (t.val * 528 + r.val) n.val := by
  have hr := r.isLt
  have ht : t.val < 32 := t.isLt
  refine either (fun p => ?_) fun p => ?_
  · rw [front_at]
    by_cases q : r.val < 48
    · rw [if_pos q, hp_pad _ _ (by omega)]
    · rw [if_neg q, hp_meta _ _ (by omega) (by omega)]
      exact congrArg (at2 (M m c) · n.val) (by show r.val - 48 = _; omega)
  · rw [x_at, hp_seq _ _ (by omega)]
    simp only [off]
    exact congrArg₂ (at3 (X m c) · · n.val) (by omega) (by omega)

/-- And of the other tiles: from the block. -/
theorem res_later (c : Dev nD) (t : Fin cfg0.N) (h0 : ¬ t.val % 4 = 0) (r : Fin 528) (n : Fin 1024) :
    iblk m c 9 t (ix2 r n) = hp (X m c) (M m c) (t.val * 528 + r.val) n.val := by
  have hr := r.isLt
  have ht : t.val < 32 := t.isLt
  rw [x_at, hp_seq _ _ (by omega)]
  simp only [off]
  have h1 : (t.val * 528 + r.val) / 2112 = t.val / 4 := by omega
  have h2 : (t.val * 528 + r.val) % 2112 = t.val % 4 * 528 + r.val := by omega
  have h3 : t.val / 4 * 2048 + (t.val % 4 * 528 - 64) + r.val = 2048 * (t.val / 4) + (t.val % 4 * 528 + r.val - 64) := by omega
  have h4 : t.val % 4 * 528 + r.val - 64 < 2048 := by omega
  rw [h1, h2, h3, Nat.mul_add_div (by omega), Nat.mul_add_mod, Nat.div_eq_of_lt h4, Nat.mod_eq_of_lt h4, Nat.add_zero]

/-- What the convolution at point `t` runs over, from sixteen rows above its block. -/
def span (c : Dev nD) (t q e : ℕ) : EReal := if t % 4 = 0 ∧ q < 16 then 0 else uu (P m c) (t * 528 + q - 16) e

theorem span_lag (c : Dev nD) (t r k d : ℕ) (hr : r < 528) (hk : k ≤ 2) :
    span m c t (r + 16 - k) d = lag (P m c) k (t * 528 + r) d := by
  unfold span lag
  by_cases h : (t * 528 + r) % 2112 < k
  · rw [if_pos h, if_pos ⟨by omega, by omega⟩]
  · rw [if_neg h, if_neg (by omega)]
    exact congrArg (uu (P m c) · d) (by omega)

/-- The short-convolution mixer's block. -/
theorem sc_block (c : Dev nD) (t : Fin cfg0.N) (r : Fin 528) (d : Fin 1024) (w0 w1 w2 : FVec Ideal S1x1024 .f32)
    (h0 : w0 (ix2 0 d) = at3 (W m c) 0 0 d.val) (h1 : w1 (ix2 0 d) = at3 (W m c) 0 1 d.val) (h2 : w2 (ix2 0 d) = at3 (W m c) 0 2 d.val) :
    k0_pay11 (F := Ideal) (k0_pay6 (X0_3 m c t) (X0_5 m c t) w0 w1 w2)
      (k0_pay8 (grid0.coords t) (X0_3 m c t) (X0_5 m c t) (X0_4 m c t) (X0_6 m c t) w1 w2)
      (k0_pay9 (grid0.coords t) (X0_3 m c t) (X0_5 m c t) (X0_4 m c t) (X0_6 m c t)) (k0_pay10 w0) (X0_2 m c t) (X0_7 m c t) (ix2 r d)
      = ysc (P m c) (W m c) (t.val * 528 + r.val) d.val := by
  have hr := r.isLt
  refine (FirstPay.sc_at _ _ _ _ _ _ _ _ _ _ (span m c t.val) ?_ ?_ r d).trans ?_
  · intro q e
    rw [scc_at, sch_at]
    unfold span
    rw [if_neg (by omega), show t.val * 528 + (q.val + 16) - 16 = t.val * 528 + q.val by omega]; rfl
  · intro q e
    have hq := q.isLt
    rw [tile_of, scc_above, sch_above]
    unfold span
    by_cases h : t.val % 4 = 0
    · rw [if_pos h, if_pos ⟨h, hq⟩]
    · rw [if_neg h, if_neg fun p => h p.1, show t.val * 528 + q.val - 16 = (t.val * 33 - 1) * 16 + q.val by omega]; rfl
  · rw [scb_at, scg_at, h0, h1, h2, show r.val + 15 = r.val + 16 - 1 by omega, show r.val + 14 = r.val + 16 - 2 by omega,
      span_lag m c _ _ 1 _ hr (by omega), span_lag m c _ _ 2 _ hr (by omega), show r.val + 16 = r.val + 16 - 0 by omega,
      span_lag m c _ _ 0 _ hr (by omega)]
    rfl

theorem stored (c : Dev nD) (t : Fin cfg0.N) (r : Fin 528) (n : Fin 1024) :
    (dats m 0 c).after 15 t (ix2 r n)
      = fin (A m c) (B m c) (P m c) (X m c) (W m c) (WB m c) (WO m c) (NP m c) (M m c) (t.val * 528 + r.val) n.val := by
  have hr := r.isLt
  have h4 : (grid0.coords t 1).val < 4 := (grid0.coords t 1).isLt
  rw [after0_15]; unfold outsAt0; frame_out
  refine (FirstPay.last_at ⟨(grid0.coords t 1).val, h4⟩ _ _ _ _ _ _ _ _ _ _ _ _ _
    (fun q k => mg (A m c) (B m c) (P m c) (W m c) (WB m c) (t.val * 528 + q) k)
    (hp (X m c) (M m c) (t.val * 528 + r.val) n.val) r n ?_ ?_ ?_).trans ?_
  · intro h; rw [tile_of] at h; exact res_first m c t h r n
  · intro h; rw [tile_of] at h; exact res_later m c t h r n
  · intro k
    pointwise
    simp only [ys_at, yd_at, gates_at, wb_at]
    unfold mg gate br
    rw [show 0 * 1024 + k.val = k.val by omega]
    refine congrArg₂ (· + ·) (congrArg₂ (· + ·) rfl (congrArg₂ (· * ·) rfl (Finset.sum_congr rfl fun d _ => congrArg₂ (· * ·) ?_ rfl))) rfl
    refine sc_block m c t r d _ _ _ ?_ ?_ ?_
    all_goals
      pointwise
      exact scw_at m c t _ d
  · simp only [wo_at, np_at]
    unfold fin
    have ht := tile_of t
    by_cases q : (t.val * 528 + r.val) % 2112 < 48
    · rw [if_pos q, if_pos (show (grid0.coords t 1).val * 528 + r.val < 48 by omega)]
    · rw [if_neg q, if_neg (show ¬ (grid0.coords t 1).val * 528 + r.val < 48 by omega)]
      rfl

theorem final (c : Dev nD) : (dats m 0 c).arrAt 15 cfg0.N
    = outF (A m c) (B m c) (P m c) (X m c) (W m c) (WB m c) (WO m c) (NP m c) (M m c) := by
  refine (dats m 0 c).arrAt_eq_of_covers 15 _ (by decide +kernel) fun t hf y => ?_
  blk_simp
  idx_vars y
  refine (stored m c t y0 y1).trans ?_
  have e0 : ((win0_15.rect t).emb (ix2 y0 y1) 0 : ℕ) = t.val * 528 + y0.val := by
    refine (win0_15.rect_emb_val_off t (ix2 y0 y1) 0).trans ?_
    rw [(index_whole t).2.2.2.2.2]; rfl
  have e1 : ((win0_15.rect t).emb (ix2 y0 y1) 1 : ℕ) = y1.val := by
    refine (win0_15.rect_emb_val_off t (ix2 y0 y1) 1).trans ?_
    rw [(index_whole t).2.2.2.2.2]; exact Nat.zero_add _
  exact (congrArg₂ (fin (A m c) (B m c) (P m c) (X m c) (W m c) (WB m c) (WO m c) (NP m c) (M m c)) e0 e1).symm

end Cert.FirstBlocks

end
-- ==== Proof.FirstRef.lean ====
/- The first layer's output call's reference: its stages, entry by entry the plain functions of the argument arrays. -/
module

public import proofs.«01_k».proof.Proof.Gen.OutFirstRefIdeal.Read
public import proofs.«01_k».proof.Proof.FirstPlain

@[expose] public section

set_option maxRecDepth 16384

noncomputable section

namespace Cert.FirstRef

open Idealize.ShloMosaic Idealize.ShloMosaic.TcCoe Idealize.SL.Sem
open Cert.OutFirstRefIdeal Cert.OutFirstRefIdeal.Read Cert.InPlain Cert.FirstPlain
open Cert.Plain (at2 at3 at4 at2_of at3_of at4_of at2_ix at3_ix uu gate sg)

variable (x0 x1 : FVec Ideal S16896x1024 .bf16) (x2 : FVec Ideal S16896x13824 .bf16) (x3 : FVec Ideal S8x2048x1024 .f32)
  (x4 : FVec Ideal S2x3x1024 .f32) (x5 : FVec Ideal S2x3x1024x1024 .f32) (x6 : FVec Ideal S2x1024x1024 .f32) (x7 : FVec Ideal S2x1024 .f32)
  (x8 : FVec Ideal S16x1024 .f32)

theorem ys_at (b : Fin 8) (t : Fin 2112) (d : Fin 1024) :
    val_main_v1 (F := Ideal) x0 (ix3 b t d) = at2 x0 (b.val * 2112 + t.val) d.val := by
  pointwise [val_main_v1, val_main_v0]
  exact at2_of (a := 16896) (b := 1024) _ _ _ _ rfl rfl

theorem yd_at (b : Fin 8) (t : Fin 2112) (d : Fin 1024) :
    val_main_v3 (F := Ideal) x1 (ix3 b t d) = at2 x1 (b.val * 2112 + t.val) d.val := by
  pointwise [val_main_v3, val_main_v2]
  exact at2_of (a := 16896) (b := 1024) _ _ _ _ rfl rfl

theorem proj_at (b : Fin 8) (t : Fin 2112) (d : Fin 13824) :
    val_main_v5 (F := Ideal) x2 (ix3 b t d) = at2 x2 (b.val * 2112 + t.val) d.val := by
  pointwise [val_main_v5, val_main_v4]
  exact at2_of (a := 16896) (b := 13824) _ _ _ _ rfl rfl

theorem h_at (b : Fin 8) (t : Fin 2064) (d : Fin 1024) :
    val_main_v8 (F := Ideal) x3 x8 (ix3 b t d) = hp x3 x8 (b.val * 2112 + (48 + t.val)) d.val := by
  have ht := t.isLt
  pointwise [val_main_v8, val_main_v7, val_main_v6]
  refine either (fun h => ?_) fun h => ?_
  · rw [hp_meta _ _ (by omega) (by omega)]
    refine at2_of (a := 16) (b := 1024) _ _ _ _ ?_ rfl
    show t.val = _; omega
  · rw [hp_seq _ _ (by omega)]
    refine at3_of (a := 8) (b := 2048) (c := 1024) _ _ _ _ _ ?_ ?_ rfl
    · show b.val = _; omega
    · show t.val - 16 = _; omega

theorem u_at (b : Fin 8) (t : Fin 2112) (d : Fin 1024) :
    val_main_v20 (F := Ideal) x2 (ix3 b t d) = uu x2 (b.val * 2112 + t.val) d.val := by
  pointwise [val_main_v20, val_main_v13, val_main_v14]
  simp only [proj_at]
  rfl

theorem tap_at (j : Fin 3) (d : Fin 1024) : val_main_v19 (F := Ideal) x4 (ix2 j d) = at3 x4 0 j.val d.val := by
  pointwise [val_main_v19, val_main_v18]
  exact at3_of (a := 2) (b := 3) (c := 1024) _ _ _ _ _ rfl rfl rfl

/-- The padding value. -/
theorem pad_zero : (FloatOps.sitofp (F := Ideal) .f32 0#32 : EReal) = 0 := by
  show (((0#32 : BitVec 32).toInt : ℝ) : EReal) = 0
  rw [show (0#32 : BitVec 32).toInt = 0 from rfl, Int.cast_zero]; rfl

theorem neg_sub (x : EReal) : -x = 0 - x := by
  rw [sub_eq_add_neg, zero_add]

/-- The padded rows the taps read. -/
theorem hist_at (b : Fin 8) (t : Fin 2114) (d : Fin 1024) :
    val_main_v21 (F := Ideal) x2 (ix3 b t d) = if t.val < 2 then 0 else uu x2 (b.val * 2112 + (t.val - 2)) d.val := by
  have ht := t.isLt
  pointwise [val_main_v21, val_main_call0_v0, val_main_c]
  refine either (fun h => ?_) fun h => ?_
  · rw [u_at, if_neg (by omega)]
  · rw [if_pos (by omega)]; exact pad_zero

theorem conv_at (b : Fin 8) (t : Fin 2112) (d : Fin 1024) :
    val_main_v43 (F := Ideal) x2 x4 (ix3 b t d) = conv x2 x4 (b.val * 2112 + t.val) d.val := by
  have ht := t.isLt
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst]
  simp only [tap_at, hist_at]
  have e2 : (if t.val < 2 then (0 : EReal) else uu x2 (b.val * 2112 + (t.val - 2)) d.val) = lag x2 2 (b.val * 2112 + t.val) d.val := by
    by_cases h : t.val < 2
    · rw [if_pos h, lag_none _ (by omega)]
    · rw [if_neg h, lag_some _ (by omega)]; exact congrArg (uu x2 · d.val) (by omega)
  have e1 : (if 1 + t.val < 2 then (0 : EReal) else uu x2 (b.val * 2112 + (1 + t.val - 2)) d.val) = lag x2 1 (b.val * 2112 + t.val) d.val := by
    by_cases h : 1 + t.val < 2
    · rw [if_pos h, lag_none _ (by omega)]
    · rw [if_neg h, lag_some _ (by omega)]; exact congrArg (uu x2 · d.val) (by omega)
  have e0 : (if 2 + t.val < 2 then (0 : EReal) else uu x2 (b.val * 2112 + (2 + t.val - 2)) d.val) = uu x2 (b.val * 2112 + t.val) d.val := by
    rw [if_neg (by omega)]; exact congrArg (uu x2 · d.val) (by omega)
  rw [e2, e1, e0]
  unfold conv
  refine (add_comm _ _).trans ?_
  refine (congrArg₂ (· + ·) rfl (add_comm _ _)).trans ?_
  exact (add_assoc _ _ _).symm

theorem sc_at (b : Fin 8) (t : Fin 2112) (d : Fin 1024) :
    val_main_v46 (F := Ideal) x2 x4 (ix3 b t d) = ysc x2 x4 (b.val * 2112 + t.val) d.val := by
  pointwise [val_main_v46, val_main_v45, val_main_v44, val_main_v12, val_main_v15, val_main_call1_v0, val_main_call1_v1, val_main_call1_v2, val_main_call1_v3, val_main_call1_v4, val_main_call1_v5, val_main_call1_cst, val_main_call1_cst_0]
  simp only [proj_at, conv_at, neg_sub]
  rfl

/-- The three branches' inputs, by the branch's number. -/
def yy (x0 x1 : FVec Ideal S16896x1024 .bf16) (x2 : FVec Ideal S16896x13824 .bf16) (x4 : FVec Ideal S2x3x1024 .f32) (w R d : ℕ) : EReal :=
  if w < 1 then at2 x0 R d else if w - 1 < 1 then ysc x2 x4 R d else at2 x1 R d

theorem stack_at (b : Fin 8) (t : Fin 2112) (d : Fin 1024) (w : Fin 3) :
    val_main_v50 (F := Ideal) x0 x1 x2 x4 (ix4 b t w d) = yy x0 x1 x2 x4 w.val (b.val * 2112 + t.val) d.val := by
  pointwise [val_main_v50, val_main_v49, val_main_v48, val_main_v47]
  simp only [ys_at, yd_at, sc_at]
  rfl

theorem br_at (b : Fin 8) (t : Fin 2112) (k : Fin 1024) (w : Fin 3) :
    val_main_v54 (F := Ideal) x0 x1 x2 x4 x5 (ix4 b t w k)
      = br x5 (yy x0 x1 x2 x4 w.val) w.val (b.val * 2112 + t.val) k.val := by
  pointwise [val_main_v54, val_main_v53, val_main_v52, val_main_v51]
  refine Finset.sum_congr rfl fun d _ => ?_
  rw [stack_at, mul_comm]
  exact congrArg₂ (· * ·) rfl (at4_of (a := 2) (b := 3) (c := 1024) (d := 1024) _ _ _ _ _ _ rfl rfl rfl rfl)

theorem mg_at (b : Fin 8) (t : Fin 2112) (k : Fin 1024) :
    val_main_v63 (F := Ideal) x0 x1 x2 x4 x5 (ix3 b t k) = mg x0 x1 x2 x4 x5 (b.val * 2112 + t.val) k.val := by
  pointwise [val_main_v63, val_main_v62, val_main_v61, val_main_v60, val_main_v59, val_main_v58, val_main_v57, val_main_v56, val_main_v55, val_main_v9, val_main_cst_0, val_main_cst_1, val_main_cst_2]
  simp only [proj_at, br_at, neg_sub]
  rw [Fin.sum_univ_three]
  rfl

theorem pr_at (b : Fin 8) (t : Fin 2064) (n : Fin 1024) :
    val_main_v67 (F := Ideal) x0 x1 x2 x4 x5 x6 (ix3 b t n) = pr x0 x1 x2 x4 x5 x6 (b.val * 2112 + (48 + t.val)) n.val := by
  pointwise [val_main_v67, val_main_v66, val_main_v65, val_main_v64]
  simp only [mg_at, at3_ix x6]
  rfl

theorem row_at (b : Fin 8) (t : Fin 2064) (n : Fin 1024) :
    val_main_v83 (F := Ideal) x0 x1 x2 x3 x4 x5 x6 x7 x8 (ix3 b t n) = fin x0 x1 x2 x3 x4 x5 x6 x7 x8 (b.val * 2112 + (48 + t.val)) n.val := by
  have ht := t.isLt
  pointwise [val_main_v83, val_main_v82, val_main_v81, val_main_v80, val_main_v79, val_main_v78, val_main_v77, val_main_v76, val_main_v75, val_main_v74, val_main_v73, val_main_v72, val_main_v71, val_main_v70, val_main_v69, val_main_v68, val_main_cst_3, val_main_cst_4, val_main_cst_5]
  simp only [h_at, pr_at]
  rw [at2_ix x7 0 n]
  unfold fin
  rw [if_neg (by omega)]
  rfl

theorem fin_at (R : Fin 16896) (n : Fin 1024) :
    val_main_v85 (F := Ideal) x0 x1 x2 x3 x4 x5 x6 x7 x8 (ix2 R n) = fin x0 x1 x2 x3 x4 x5 x6 x7 x8 R.val n.val := by
  have hR := R.isLt
  pointwise [val_main_v85, val_main_v84, val_main_call2_v0, val_main_c_6]
  refine either (fun h => ?_) fun h => ?_
  · rw [row_at]
    exact congrArg (fun z => fin x0 x1 x2 x3 x4 x5 x6 x7 x8 z n.val) (by show R.val / 2112 * 2112 + (48 + (R.val % 2112 - 48)) = _; omega)
  · exact pad_zero.trans (if_pos (by omega)).symm

/-- The reference's result is the plain function of its arguments. -/
theorem result : val_main_v85 (F := Ideal) x0 x1 x2 x3 x4 x5 x6 x7 x8 = outF x0 x1 x2 x3 x4 x5 x6 x7 x8 := by
  funext y; idx_vars y; exact fin_at x0 x1 x2 x3 x4 x5 x6 x7 x8 y0 y1

end Cert.FirstRef

end
-- ==== Proof.First.lean ====
/- The claims about the first layer's output call: its frame at both instances, the reference's, and the value claim. -/
module

public import proofs.«01_k».proof.Defs
public import proofs.«01_k».proof.Proof.Gen.OutFirst.Frame
public import proofs.«01_k».proof.Proof.Gen.OutFirstIdeal.Frame
public import proofs.«01_k».proof.Proof.Gen.OutFirstIdeal.Value
public import proofs.«01_k».proof.Proof.Gen.OutFirstRefIdeal.Run
public import proofs.«01_k».proof.Proof.Gen.OutFirstRefIdeal.Read
public import proofs.«01_k».proof.Proof.FirstBlocks
public import proofs.«01_k».proof.Proof.FirstRef
public import Idealize.ShloMosaic.Adequacy
public import Idealize.ShloMosaic.Lib.Quiescent
public import Idealize.ShloMosaic.Init

@[expose] public section

set_option maxRecDepth 16384

noncomputable section

namespace Cert.FirstClaims

open Idealize.ShloMosaic Idealize.SL.Sem

theorem frame_kernel : Cert.quiescent_OutFirst := fun m ρ _ => Cert.OutFirst.Gen.frame m ρ

theorem frame_ideal : Cert.quiescent_OutFirstIdeal := fun m ρ _ => Cert.OutFirstIdeal.Gen.frame m ρ

theorem frame_reference : Cert.quiescent_OutFirstRefIdeal := by
  intro m ρ _
  exact (θ_run Cert.OutFirstRefIdeal.defs _ _).mono
    (fun r h => ⟨fun c => (h c).2, sem_eq_zero_of_no_sems (by decide) r.2⟩) (Cert.OutFirstRefIdeal.Value.run m ρ)

/-- The array the call's output window ends with is the plain function of the arguments, and so is the
    reference's result. -/
theorem value : Cert.algebraic_OutFirstIdeal_OutFirstRefIdeal := by
  pair_intro
  · run_from Cert.OutFirstIdeal.Value.run_blocks m g
  · run_from Cert.OutFirstRefIdeal.Value.run m' g'
    rw [Cert.OutFirstRefIdeal.Read.val_main_v85_eq m' c, Cert.FirstBlocks.final m c]
    obtain ⟨h0, h1, h2, h3, h4, h5, h6, h7, h8⟩ := hagree c
    rw [h0, h1, h2, h3, h4, h5, h6, h7, h8]
    exact Cert.FirstRef.result _ _ _ _ _ _ _ _ _

end Cert.FirstClaims

end
-- ==== Proof.DeltaPlain.lean ====
/- The gated delta rule as plain functions: one chunk of one head as a map from the state before it to the state after
   it and to its output rows, and the states a sequence of chunks passes through. -/
module

public import proofs.«01_k».proof.Proof.Plain

@[expose] public section

noncomputable section

namespace Cert.DeltaPlain

open Idealize.ShloMosaic Idealize.ShloMosaic.TcCoe Idealize.SL.Sem
open Cert.Plain

/-- A rank-5 array read at five natural numbers (zero outside). -/
def at5 {a b c d e : ℕ} (p : (⟨5, ![a, b, c, d, e]⟩ : Shape).Idx → EReal) (i j k l n : ℕ) : EReal :=
  if h : i < a ∧ j < b ∧ k < c ∧ l < d ∧ n < e then
    p (ix5 ⟨i, h.1⟩ ⟨j, h.2.1⟩ ⟨k, h.2.2.1⟩ ⟨l, h.2.2.2.1⟩ ⟨n, h.2.2.2.2⟩) else 0

theorem at5_of {a b c d e : ℕ} (p : (⟨5, ![a, b, c, d, e]⟩ : Shape).Idx → EReal) (y : (⟨5, ![a, b, c, d, e]⟩ : Shape).Idx)
    (i j k l n : ℕ) (h0 : (y 0).val = i) (h1 : (y 1).val = j) (h2 : (y 2).val = k) (h3 : (y 3).val = l) (h4 : (y 4).val = n) :
    p y = at5 p i j k l n := by
  subst h0 h1 h2 h3 h4
  have e0 : y = ix5 (y 0) (y 1) (y 2) (y 3) (y 4) := eq_ix5 y
  have hb : (y 0).val < a ∧ (y 1).val < b ∧ (y 2).val < c ∧ (y 3).val < d ∧ (y 4).val < e :=
    ⟨(y 0).isLt, (y 1).isLt, (y 2).isLt, (y 3).isLt, (y 4).isLt⟩
  refine (congrArg p e0).trans ?_
  unfold at5
  rw [dif_pos hb]
  rfl

/-- One head's chunk: the inverse of its triangular system, the right-hand sides (values left, keys right), the queries,
    the keys carried to the chunk's end, the rows' attention to one another, the decay, and the gate. -/
structure Chunk where
  T : ℕ → ℕ → EReal
  R : ℕ → ℕ → EReal
  Q : ℕ → ℕ → EReal
  K : ℕ → ℕ → EReal
  A : ℕ → ℕ → EReal
  E : ℕ → EReal
  Z : ℕ → ℕ → EReal

variable (D : Chunk) (S : ℕ → ℕ → EReal)

/-- The system's solution. -/
def Chunk.u (l d : ℕ) : EReal := ∑ s : Fin 64, D.T l s.val * D.R s.val d

/-- The values, less what the state already holds of them. -/
def Chunk.v (l d : ℕ) : EReal := D.u l d - ∑ k : Fin 128, D.u l (128 + k.val) * S k.val d

/-- The rows read from the state and from the chunk itself. -/
def Chunk.o (l d : ℕ) : EReal := (∑ k : Fin 128, D.Q l k.val * S k.val d) + ∑ s : Fin 64, D.A l s.val * D.v S s.val d

/-- The state after the chunk. -/
def Chunk.next (k d : ℕ) : EReal := S k d * D.E d + ∑ l : Fin 64, D.K l.val k * D.v S l.val d

/-- Row `l` divided by its root mean square, with the gain and the gate. -/
def gated (o : ℕ → EReal) (g : ℕ → EReal) (z : ℕ → EReal) (d : ℕ) : EReal :=
  ((o d * Ideal.rsqrt (Ideal.div (∑ k : Fin 128, o k.val * o k.val) (Ideal.ofBits .f32 0x43000000#32) + Ideal.ofBits .f32 0x358637BD#32))
    * g d) * (z d * sg (z d))

/-- What the chunk leaves in the result. -/
def Chunk.y (g : ℕ → EReal) (l d : ℕ) : EReal := gated (D.o S l) g (D.Z l) d

/-- The states before each chunk: from `S` on, one chunk at a time. -/
def states (D : ℕ → Chunk) (S : ℕ → ℕ → EReal) : ℕ → ℕ → ℕ → EReal
  | 0 => S
  | n + 1 => (D n).next (states D S n)

theorem states_add (D : ℕ → Chunk) (S : ℕ → ℕ → EReal) (a : ℕ) : ∀ n : ℕ, states (fun k => D (a + k)) (states D S a) n = states D S (a + n)
  | 0 => rfl
  | n + 1 => by
    show (D (a + n)).next (states (fun k => D (a + k)) (states D S a) n) = (D (a + n)).next (states D S (a + n))
    rw [states_add D S a n]

section Arrays
variable (q : (⟨2, ![16896, 1024]⟩ : Shape).Idx → EReal) (r : (⟨2, ![16896, 2048]⟩ : Shape).Idx → EReal)
  (k : (⟨2, ![16896, 1024]⟩ : Shape).Idx → EReal) (t a : (⟨4, ![264, 8, 64, 64]⟩ : Shape).Idx → EReal) (e : (⟨3, ![264, 8, 128]⟩ : Shape).Idx → EReal)
  (p : (⟨2, ![16896, 13824]⟩ : Shape).Idx → EReal) (w : (⟨2, ![2, 128]⟩ : Shape).Idx → EReal)

/-- Chunk `n` of head `h` of sequence `i`. -/
def chunk (i h n : ℕ) : Chunk where
  T l s := at4 t (33 * i + n) h l s
  R l d := at2 r (2112 * i + 64 * n + l) (256 * h + d)
  Q l d := at2 q (2112 * i + 64 * n + l) (128 * h + d)
  K l d := at2 k (2112 * i + 64 * n + l) (128 * h + d)
  A l s := at4 a (33 * i + n) h l s
  E d := at3 e (33 * i + n) h d
  Z l d := at2 p (2112 * i + 64 * n + l) (6144 + 128 * h + d)

/-- The state of head `h` of sequence `i` before chunk `n`, from zero. -/
def stateAt (i h n : ℕ) : ℕ → ℕ → EReal := states (chunk q r k t a e p i h) (fun _ _ => 0) n

/-- The scan's result: sequence `i`, row `j`, column `d`. -/
def scanAt (i j d : ℕ) : EReal :=
  (chunk q r k t a e p i (d / 128) (j / 64)).y (stateAt q r k t a e p i (d / 128) (j / 64)) (at2 w 0) (j % 64) (d % 128)

def scanned : (⟨3, ![8, 2112, 1024]⟩ : Shape).Idx → EReal := fun y => scanAt q r k t a e p w (y 0).val (y 1).val (y 2).val

end Arrays

end Cert.DeltaPlain

end
-- ==== Proof.DeltaPay.lean ====
/- One chunk of one head as the scan's body computes it: the state it leaves and the rows it stores, entry by entry the plain functions. -/
module

public import proofs.«01_k».proof.Proof.Gen.DeltaScanIdeal.Skeleton
public import proofs.«01_k».proof.Proof.DeltaPlain

@[expose] public section

set_option maxRecDepth 16384

noncomputable section

namespace Cert.DeltaPay

open Idealize.ShloMosaic Idealize.ShloMosaic.TcCoe Idealize.SL.Sem
open Cert.DeltaScanIdeal Cert.DeltaScanIdeal.Gen Cert.Plain Cert.DeltaPlain

section Body
variable {F : FTy → Type} [FloatOps F]

/-- The solved system, values left and keys right. -/
def solved (T : Vec F S1x1x1x64x64 .bf16) (R : Vec F S1x64x256 .bf16) : FVec F S64x256 .f32 := k0_pay3 T R

/-- The solved keys and the queries, times the state. -/
def onState (T : Vec F S1x1x1x64x64 .bf16) (R : Vec F S1x64x256 .bf16) (q : Vec F S1x64x128 .bf16) (s : FVec F S128x128 .f32) : FVec F S128x128 .f32 :=
  k0_pay72 (solved T R) s q

/-- The new values. -/
def fresh (T : Vec F S1x1x1x64x64 .bf16) (R : Vec F S1x64x256 .bf16) (q : Vec F S1x64x128 .bf16) (s : FVec F S128x128 .f32) : FVec F S64x128 .bf16 :=
  k0_pay92 (solved T R) (onState T R q s)

/-- The state after the chunk. -/
def stepped (T : Vec F S1x1x1x64x64 .bf16) (R : Vec F S1x64x256 .bf16) (q k : Vec F S1x64x128 .bf16) (e : Vec F S1x1x1x128 .f32)
    (s : FVec F S128x128 .f32) : FVec F S128x128 .f32 :=
  k0_pay94 s (fresh T R q s) e k

/-- The rows stored. -/
def stored (T : Vec F S1x1x1x64x64 .bf16) (R : Vec F S1x64x256 .bf16) (q : Vec F S1x64x128 .bf16) (a : Vec F S1x1x1x64x64 .bf16)
    (z : Vec F S1x64x128 .bf16) (g : Vec F S1x128 .f32) (s : FVec F S128x128 .f32) : FVec F S1x64x128 .bf16 :=
  k0_pay95 (k0_pay2 g) (k0_pay93 (solved T R) (onState T R q s) a) z

end Body

variable (D : Chunk) (S : ℕ → ℕ → EReal) (T : FVec Ideal S1x1x1x64x64 .bf16) (R : FVec Ideal S1x64x256 .bf16) (q k z : FVec Ideal S1x64x128 .bf16)
  (a : FVec Ideal S1x1x1x64x64 .bf16) (e : FVec Ideal S1x1x1x128 .f32) (g : FVec Ideal S1x128 .f32) (s : FVec Ideal S128x128 .f32)

theorem solved_at (hT : ∀ l m : Fin 64, T (ix5 0 0 0 l m) = D.T l.val m.val) (hR : ∀ (m : Fin 64) (d : Fin 256), R (ix3 0 m d) = D.R m.val d.val)
    (l : Fin 64) (d : Fin 256) : solved (F := Ideal) T R (ix2 l d) = D.u l.val d.val := by
  unfold solved
  pointwise [k0_pay3]
  simp only [hT, hR]
  rfl

theorem keys_at (u : FVec Ideal S64x256 .f32) (l : Fin 128) (hl : l.val < 64) (d : Fin 128) :
    k0_pay72 (F := Ideal) u s q (ix2 l d) = ∑ j : Fin 128, u (ix2 ⟨l.val, hl⟩ ⟨128 + j.val, by omega⟩) * s (ix2 j d) := by
  pointwise [k0_pay72]
  refine Finset.sum_congr rfl fun j _ => ?_
  rw [dif_pos hl]

theorem queries_at (u : FVec Ideal S64x256 .f32) (l : Fin 128) (hl : 64 ≤ l.val) (d : Fin 128) :
    k0_pay72 (F := Ideal) u s q (ix2 l d) = ∑ j : Fin 128, q (ix3 0 ⟨l.val - 64, by omega⟩ j) * s (ix2 j d) := by
  pointwise [k0_pay72]
  refine Finset.sum_congr rfl fun j _ => ?_
  rw [dif_neg (by omega)]

theorem fresh_at (hT : ∀ l m : Fin 64, T (ix5 0 0 0 l m) = D.T l.val m.val) (hR : ∀ (m : Fin 64) (d : Fin 256), R (ix3 0 m d) = D.R m.val d.val)
    (hs : ∀ j d : Fin 128, s (ix2 j d) = S j.val d.val) (l : Fin 64) (d : Fin 128) :
    fresh (F := Ideal) T R q s (ix2 l d) = D.v S l.val d.val := by
  unfold fresh onState
  pointwise [k0_pay92]
  rw [keys_at q s _ _ (by simpa using l.isLt)]
  simp only [solved_at D T R hT hR, hs]
  rfl

theorem stepped_at (hT : ∀ l m : Fin 64, T (ix5 0 0 0 l m) = D.T l.val m.val) (hR : ∀ (m : Fin 64) (d : Fin 256), R (ix3 0 m d) = D.R m.val d.val)
    (hk : ∀ (l : Fin 64) (d : Fin 128), k (ix3 0 l d) = D.K l.val d.val) (he : ∀ d : Fin 128, e (ix4 0 0 0 d) = D.E d.val)
    (hs : ∀ j d : Fin 128, s (ix2 j d) = S j.val d.val) (j d : Fin 128) :
    stepped (F := Ideal) T R q k e s (ix2 j d) = D.next S j.val d.val := by
  unfold stepped
  pointwise [k0_pay94]
  simp only [fresh_at D S T R q s hT hR hs, hk, he, hs]
  rfl

theorem rows_at (hT : ∀ l m : Fin 64, T (ix5 0 0 0 l m) = D.T l.val m.val) (hR : ∀ (m : Fin 64) (d : Fin 256), R (ix3 0 m d) = D.R m.val d.val)
    (hq : ∀ (l : Fin 64) (d : Fin 128), q (ix3 0 l d) = D.Q l.val d.val) (ha : ∀ l m : Fin 64, a (ix5 0 0 0 l m) = D.A l.val m.val)
    (hs : ∀ j d : Fin 128, s (ix2 j d) = S j.val d.val) (l : Fin 64) (d : Fin 128) :
    k0_pay93 (F := Ideal) (solved T R) (onState T R q s) a (ix2 l d) = D.o S l.val d.val := by
  have hv : ∀ (l : Fin 64) (d : Fin 128), k0_pay92 (F := Ideal) (solved T R) (onState T R q s) (ix2 l d) = D.v S l.val d.val :=
    fresh_at D S T R q s hT hR hs
  pointwise [k0_pay93]
  simp only [hv, ha]
  unfold onState
  rw [queries_at q s _ _ (by simp)]
  simp only [hs]
  refine congrArg (· + _) (Finset.sum_congr rfl fun j _ => congrArg (· * _) ?_)
  refine Eq.trans (congrArg q ?_) (hq l j)
  blk_ext

theorem stored_at (gn : ℕ → EReal) (hT : ∀ l m : Fin 64, T (ix5 0 0 0 l m) = D.T l.val m.val) (hR : ∀ (m : Fin 64) (d : Fin 256), R (ix3 0 m d) = D.R m.val d.val)
    (hq : ∀ (l : Fin 64) (d : Fin 128), q (ix3 0 l d) = D.Q l.val d.val) (ha : ∀ l m : Fin 64, a (ix5 0 0 0 l m) = D.A l.val m.val)
    (hz : ∀ (l : Fin 64) (d : Fin 128), z (ix3 0 l d) = D.Z l.val d.val) (hg : ∀ d : Fin 128, g (ix2 0 d) = gn d.val)
    (hs : ∀ j d : Fin 128, s (ix2 j d) = S j.val d.val) (l : Fin 64) (d : Fin 128) :
    stored (F := Ideal) T R q a z g s (ix3 0 l d) = D.y S gn l.val d.val := by
  unfold stored
  pointwise [k0_pay95, k0_pay2]
  simp only [rows_at D S T R q a s hT hR hq ha hs, hz, hg]
  rfl

end Cert.DeltaPay

end
-- ==== Proof.DeltaTile.lean ====
/- A point's tile of the scan: three chunks of sixteen heads, each head's state carried through its three chunks. -/
module

public import proofs.«01_k».proof.Proof.DeltaPay
public import Idealize.ShloMosaic.Lib.Claim

@[expose] public section

set_option maxRecDepth 16384

noncomputable section

namespace Cert.DeltaTile

open Idealize.ShloMosaic Idealize.ShloMosaic.TcCoe Idealize.SL.Sem
open Cert.DeltaScanIdeal Cert.DeltaScanIdeal.Gen Cert.Plain Cert.DeltaPlain Cert.DeltaPay

section Body
variable {F : FTy → Type} [FloatOps F]

/-- A rectangle of an array, as an array of its own. -/
abbrev cut {s : Shape} {Val : EltTy → Type} {e : EltTy} (X : s.Idx → Val e) (off size : Fin s.rank → ℕ) (inb : ∀ a, off a + size a ≤ s.size a) :
    (Rect.unit off size inb).shape.Idx → Val e := @View.ld Val s e X (Rect.unit off size inb)

theorem cut_apply {s : Shape} {α : Type} (X : s.Idx → α) (off size : Fin s.rank → ℕ) (inb : ∀ a, off a + size a ≤ s.size a)
    (x : (Rect.unit off size inb).shape.Idx) (y : s.Idx) (h : ∀ a, off a + 1 * (x a).val = (y a).val) : X ((Rect.unit off size inb).emb x) = X y :=
  congrArg X (funext fun a => Fin.ext (h a))

/-- The square matrices of sequence `b`, chunk `n`, head `h`. -/
def sq (X : Vec F S2x3x8x64x64 .bf16) (b : Fin 2) (n : ℕ) (h : Fin 8) : Vec F S1x1x1x64x64 .bf16 :=
  cut X ![b.val, n % 3, h.val, 0, 0] ![1, 1, 1, 64, 64] (by
    have := Nat.mod_lt n (show 0 < 3 by decide)
    intro a; fin_cases a <;> simp <;> omega)

/-- Its decay. -/
def dc (X : Vec F S2x3x8x128 .f32) (b : Fin 2) (n : ℕ) (h : Fin 8) : Vec F S1x1x1x128 .f32 :=
  cut X ![b.val, n % 3, h.val, 0] ![1, 1, 1, 128] (by
    have := Nat.mod_lt n (show 0 < 3 by decide)
    intro a; fin_cases a <;> simp <;> omega)

/-- Its rows and columns of an array of rows. -/
def rw1 (X : Vec F S2x192x1024 .bf16) (b : Fin 2) (n : ℕ) (h : Fin 8) : Vec F S1x64x128 .bf16 :=
  cut X ![b.val, 64 * (n % 3), 128 * h.val] ![1, 64, 128] (by
    have := Nat.mod_lt n (show 0 < 3 by decide)
    intro a; fin_cases a <;> simp <;> omega)

def rw2 (X : Vec F S2x192x2048 .bf16) (b : Fin 2) (n : ℕ) (h : Fin 8) : Vec F S1x64x256 .bf16 :=
  cut X ![b.val, 64 * (n % 3), 256 * h.val] ![1, 64, 256] (by
    have := Nat.mod_lt n (show 0 < 3 by decide)
    intro a; fin_cases a <;> simp <;> omega)

/-- A head's state, of the sixteen carried. -/
def held (X : Vec F S16x128x128 .f32) (b : Fin 2) (h : Fin 8) : Vec F S1x128x128 .f32 :=
  cut X ![8 * b.val + h.val, 0, 0] ![1, 128, 128] (by intro a; fin_cases a <;> simp <;> omega)

variable (x0 : Vec F S2x192x1024 .bf16) (x1 : Vec F S2x192x2048 .bf16) (x2 : Vec F S2x192x1024 .bf16) (x3 x4 : Vec F S2x3x8x64x64 .bf16)
  (x5 : Vec F S2x3x8x128 .f32) (x6 : Vec F S2x192x1024 .bf16) (x7 : Vec F S1x128 .f32) (L : Vec F S1x128x128 .f32) (b : Fin 2) (h : Fin 8)

/-- A head's state before chunk `n` of the tile. -/
def before : ℕ → FVec F S128x128 .f32
  | 0 => k0_pay56 L
  | n + 1 => stepped (sq x3 b n h) (rw2 x1 b n h) (rw1 x0 b n h) (rw1 x2 b n h) (dc x5 b n h) (before n)

/-- The state a tile leaves. -/
def leaves : FVec F S1x128x128 .f32 := k0_pay381 (before x0 x1 x2 x3 x5 L b h 3)

/-- The rows a tile stores for chunk `n`. -/
def puts (n : ℕ) : FVec F S1x64x128 .bf16 :=
  stored (sq x3 b n h) (rw2 x1 b n h) (rw1 x0 b n h) (sq x4 b n h) (rw1 x6 b n h) x7 (before x0 x1 x2 x3 x5 L b h n)

end Body

section Entries
variable {X5 : FVec Ideal S2x3x8x64x64 .bf16} {X4 : FVec Ideal S2x3x8x128 .f32} {X1 : FVec Ideal S2x192x1024 .bf16} {X2 : FVec Ideal S2x192x2048 .bf16}
  (b : Fin 2) (n : ℕ) (h : Fin 8) (hn : n < 3)
include hn

theorem sq_at (l m : Fin 64) : sq (F := Ideal) X5 b n h (ix5 0 0 0 l m) = X5 (ix5 b ⟨n, hn⟩ h l m) := by
  refine cut_apply X5 _ _ _ _ _ fun a => ?_
  fin_cases a <;> simp [Nat.mod_eq_of_lt hn]

theorem dc_at (d : Fin 128) : dc (F := Ideal) X4 b n h (ix4 0 0 0 d) = X4 (ix4 b ⟨n, hn⟩ h d) := by
  refine cut_apply X4 _ _ _ _ _ fun a => ?_
  fin_cases a <;> simp [Nat.mod_eq_of_lt hn]

theorem rw1_at (l : Fin 64) (d : Fin 128) :
    rw1 (F := Ideal) X1 b n h (ix3 0 l d) = X1 (ix3 b ⟨64 * n + l.val, by omega⟩ ⟨128 * h.val + d.val, by omega⟩) := by
  refine cut_apply X1 _ _ _ _ _ fun a => ?_
  fin_cases a <;> simp [Nat.mod_eq_of_lt hn]

theorem rw2_at (l : Fin 64) (d : Fin 256) :
    rw2 (F := Ideal) X2 b n h (ix3 0 l d) = X2 (ix3 b ⟨64 * n + l.val, by omega⟩ ⟨256 * h.val + d.val, by omega⟩) := by
  refine cut_apply X2 _ _ _ _ _ fun a => ?_
  fin_cases a <;> simp [Nat.mod_eq_of_lt hn]

end Entries

theorem held_at (X : FVec Ideal S16x128x128 .f32) (S : ℕ → ℕ → ℕ → ℕ → EReal)
    (hS : ∀ (b : Fin 2) (h : Fin 8) (j d : Fin 128), X (ix3 ⟨8 * b.val + h.val, by omega⟩ j d) = S b.val h.val j.val d.val) (b : Fin 2) (h : Fin 8)
    (j d : Fin 128) : held (F := Ideal) X b h (ix3 0 j d) = S b.val h.val j.val d.val := by
  refine Eq.trans (cut_apply X _ _ _ _ _ fun a => ?_) (hS b h j d)
  fin_cases a <;> simp

/-- A tile's blocks hold the chunks `D b n h` and the gain `g`. -/
structure Holds (x0 : FVec Ideal S2x192x1024 .bf16) (x1 : FVec Ideal S2x192x2048 .bf16) (x2 : FVec Ideal S2x192x1024 .bf16)
    (x3 x4 : FVec Ideal S2x3x8x64x64 .bf16) (x5 : FVec Ideal S2x3x8x128 .f32) (x6 : FVec Ideal S2x192x1024 .bf16) (x7 : FVec Ideal S1x128 .f32)
    (D : ℕ → ℕ → ℕ → Chunk) (g : ℕ → EReal) : Prop where
  q : ∀ (b : Fin 2) (n : Fin 3) (h : Fin 8) (l : Fin 64) (d : Fin 128),
    x0 (ix3 b ⟨64 * n.val + l.val, by omega⟩ ⟨128 * h.val + d.val, by omega⟩) = (D b.val h.val n.val).Q l.val d.val
  r : ∀ (b : Fin 2) (n : Fin 3) (h : Fin 8) (l : Fin 64) (d : Fin 256),
    x1 (ix3 b ⟨64 * n.val + l.val, by omega⟩ ⟨256 * h.val + d.val, by omega⟩) = (D b.val h.val n.val).R l.val d.val
  k : ∀ (b : Fin 2) (n : Fin 3) (h : Fin 8) (l : Fin 64) (d : Fin 128),
    x2 (ix3 b ⟨64 * n.val + l.val, by omega⟩ ⟨128 * h.val + d.val, by omega⟩) = (D b.val h.val n.val).K l.val d.val
  t : ∀ (b : Fin 2) (n : Fin 3) (h : Fin 8) (l m : Fin 64), x3 (ix5 b n h l m) = (D b.val h.val n.val).T l.val m.val
  a : ∀ (b : Fin 2) (n : Fin 3) (h : Fin 8) (l m : Fin 64), x4 (ix5 b n h l m) = (D b.val h.val n.val).A l.val m.val
  e : ∀ (b : Fin 2) (n : Fin 3) (h : Fin 8) (d : Fin 128), x5 (ix4 b n h d) = (D b.val h.val n.val).E d.val
  z : ∀ (b : Fin 2) (n : Fin 3) (h : Fin 8) (l : Fin 64) (d : Fin 128),
    x6 (ix3 b ⟨64 * n.val + l.val, by omega⟩ ⟨128 * h.val + d.val, by omega⟩) = (D b.val h.val n.val).Z l.val d.val
  g : ∀ d : Fin 128, x7 (ix2 0 d) = g d.val

section Tile
variable {x0 : FVec Ideal S2x192x1024 .bf16} {x1 : FVec Ideal S2x192x2048 .bf16} {x2 : FVec Ideal S2x192x1024 .bf16}
    {x3 x4 : FVec Ideal S2x3x8x64x64 .bf16} {x5 : FVec Ideal S2x3x8x128 .f32} {x6 : FVec Ideal S2x192x1024 .bf16} {x7 : FVec Ideal S1x128 .f32}
    {D : ℕ → ℕ → ℕ → Chunk} {g : ℕ → EReal} (H : Holds x0 x1 x2 x3 x4 x5 x6 x7 D g) (b : Fin 2) (h : Fin 8)
    (L : FVec Ideal S1x128x128 .f32) (S : ℕ → ℕ → EReal) (hL : ∀ j d : Fin 128, L (ix3 0 j d) = S j.val d.val)
include H hL

theorem before_at : ∀ n : ℕ, n ≤ 3 → ∀ j d : Fin 128, before (F := Ideal) x0 x1 x2 x3 x5 L b h n (ix2 j d) = states (D b.val h.val) S n j.val d.val
  | 0, _, j, d => by
    unfold before
    pointwise [k0_pay56]
    exact hL j d
  | n + 1, hn, j, d => by
    have hn' : n < 3 := hn
    unfold before
    exact stepped_at (D b.val h.val n) (states (D b.val h.val) S n) _ _ _ _ _ _
      (fun l m => (sq_at b n h hn' l m).trans (H.t b ⟨n, hn'⟩ h l m)) (fun l d => (rw2_at b n h hn' l d).trans (H.r b ⟨n, hn'⟩ h l d))
      (fun l d => (rw1_at b n h hn' l d).trans (H.k b ⟨n, hn'⟩ h l d)) (fun d => (dc_at b n h hn' d).trans (H.e b ⟨n, hn'⟩ h d))
      (before_at n (by omega)) j d

theorem leaves_at (j d : Fin 128) : leaves (F := Ideal) x0 x1 x2 x3 x5 L b h (ix3 0 j d) = states (D b.val h.val) S 3 j.val d.val := by
  unfold leaves
  pointwise [k0_pay381]
  exact before_at H b h L S hL 3 le_rfl j d

theorem puts_at (n : ℕ) (hn' : n < 3) (l : Fin 64) (d : Fin 128) :
    puts (F := Ideal) x0 x1 x2 x3 x4 x5 x6 x7 L b h n (ix3 0 l d) = (D b.val h.val n).y (states (D b.val h.val) S n) g l.val d.val := by
  unfold puts
  exact stored_at (D b.val h.val n) (states (D b.val h.val) S n) _ _ _ _ _ _ _ g
      (fun l m => (sq_at b n h hn' l m).trans (H.t b ⟨n, hn'⟩ h l m)) (fun l d => (rw2_at b n h hn' l d).trans (H.r b ⟨n, hn'⟩ h l d))
      (fun l d => (rw1_at b n h hn' l d).trans (H.q b ⟨n, hn'⟩ h l d)) (fun l m => (sq_at b n h hn' l m).trans (H.a b ⟨n, hn'⟩ h l m))
      (fun l d => (rw1_at b n h hn' l d).trans (H.z b ⟨n, hn'⟩ h l d)) H.g
      (before_at H b h L S hL n (by omega)) l d

end Tile

/-- The states of a tile's sixteen heads after its chunks, numbered as the scratch holds them. -/
def statesAfter (D : ℕ → ℕ → ℕ → Chunk) (S : ℕ → ℕ → ℕ → ℕ → EReal) (i j k : ℕ) : EReal := states (D (i / 8) (i % 8)) (S (i / 8) (i % 8)) 3 j k

/-- A tile's rows: sequence `i`, row `j`, column `k`. -/
def rowsOf (D : ℕ → ℕ → ℕ → Chunk) (S : ℕ → ℕ → ℕ → ℕ → EReal) (g : ℕ → EReal) (i j k : ℕ) : EReal :=
  (D i (k / 128) (j / 64)).y (states (D i (k / 128)) (S i (k / 128)) (j / 64)) g (j % 64) (k % 128)

section Close
variable {x0 : FVec Ideal S2x192x1024 .bf16} {x1 : FVec Ideal S2x192x2048 .bf16} {x2 : FVec Ideal S2x192x1024 .bf16}
    {x3 x4 : FVec Ideal S2x3x8x64x64 .bf16} {x5 : FVec Ideal S2x3x8x128 .f32} {x6 : FVec Ideal S2x192x1024 .bf16} {x7 : FVec Ideal S1x128 .f32}
    {D : ℕ → ℕ → ℕ → Chunk} {g : ℕ → EReal} (H : Holds x0 x1 x2 x3 x4 x5 x6 x7 D g) (S : ℕ → ℕ → ℕ → ℕ → EReal)
include H

/-- A stored state, at an entry of the scratch. -/
theorem close_state (b : Fin 2) (h : Fin 8) (L : FVec Ideal S1x128x128 .f32) (p : FVec Ideal S1x128x128 .f32)
    (hp : p = leaves (F := Ideal) x0 x1 x2 x3 x5 L b h) (hL : ∀ j d : Fin 128, L (ix3 0 j d) = S b.val h.val j.val d.val)
    (x : S1x128x128.Idx) (i j k : ℕ) (h0 : i = 8 * b.val + h.val) (h1 : j = (x 1).val) (h2 : k = (x 2).val) : p x = statesAfter D S i j k := by
  have hb : i / 8 = b.val := by omega
  have hh : i % 8 = h.val := by omega
  unfold statesAfter
  rw [hb, hh]
  subst hp h1 h2
  refine Eq.trans (congrArg _ ?_) (leaves_at H b h L _ hL (x 1) (x 2))
  refine (eq_ix3 x).trans (congrArg (fun a => ix3 a (x 1) (x 2)) (Subsingleton.elim (α := Fin 1) _ _))

/-- Stored rows, at an entry of the result's block. -/
theorem close_rows (b : Fin 2) (h : Fin 8) (n : ℕ) (hn' : n < 3) (L : FVec Ideal S1x128x128 .f32) (p : FVec Ideal S1x64x128 .bf16)
    (hp : p = puts (F := Ideal) x0 x1 x2 x3 x4 x5 x6 x7 L b h n) (hL : ∀ j d : Fin 128, L (ix3 0 j d) = S b.val h.val j.val d.val)
    (x : S1x64x128.Idx) (i j k : ℕ) (h0 : i = b.val) (h1 : j = 64 * n + (x 1).val) (h2 : k = 128 * h.val + (x 2).val) : p x = rowsOf D S g i j k := by
  have hx1 : (x 1).val < 64 := (x 1).isLt
  have hx2 : (x 2).val < 128 := (x 2).isLt
  have e1 : j / 64 = n := by omega
  have e2 : j % 64 = (x 1).val := by omega
  have e3 : k / 128 = h.val := by omega
  have e4 : k % 128 = (x 2).val := by omega
  unfold rowsOf
  rw [e1, e2, e3, e4, h0]
  subst hp
  refine Eq.trans (congrArg _ ?_) (puts_at H b h L _ hL n hn' (x 1) (x 2))
  refine (eq_ix3 x).trans (congrArg (fun a => ix3 a (x 1) (x 2)) (Subsingleton.elim (α := Fin 1) _ _))

end Close

end Cert.DeltaTile

end
-- ==== Proof.DeltaPoint.lean ====
/- What each point of the scan leaves in its block of the result and in the carried states. -/
module

public import proofs.«01_k».proof.Proof.Gen.DeltaScanIdeal.Value
public import proofs.«01_k».proof.Proof.DeltaTile
public import Idealize.ShloMosaic.Lib.VecWindow

@[expose] public section

set_option maxRecDepth 65536

noncomputable section

namespace Cert.DeltaPoint

open Idealize.ShloMosaic Idealize.ShloMosaic.TcCoe Idealize.SL.Sem
open Cert.DeltaScanIdeal Cert.DeltaScanIdeal.Gen
open Cert.DeltaPlain Cert.DeltaTile

variable (m : (ℓ : Loc nD τ sig) → Buf (Elt Ideal) ℓ)

/-- The scratch just after it was filled with zeros. -/
theorem zero_at (off : Fin 3 → ℕ) (inb) (x : S1x128x128.Idx) :
    View.readAt (Elt Ideal) (View.whole cc0_scratch0) (Rect.unit (s := S16x128x128) off ![1, 128, 128] inb).toLoadRect
      ((View.whole cc0_scratch0).writes (Elt Ideal) (View.whole cc0_scratch0).junk
        [⟨Rect.unit ![0, 0, 0] ![16, 128, 128] inb_S16x128x128_S16x128x128_0_0_0, k0_pay1 (F := Ideal)⟩]) x = (0 : EReal) := by
  refine (congrFun (View.read_writes_full (View.whole cc0_scratch0) _ inb_S16x128x128_S16x128x128_0_0_0 _ _)
    ((Rect.unit (s := S16x128x128) off ![1, 128, 128] inb).emb x)).trans ?_
  pointwise [k0_pay1]

/-- The last of a list of stores into the scratch, a store of one head's state: its own where the head is, the stores before it elsewhere. -/
theorem canon_head (u : ℕ) (inb : ∀ a, (![u, 0, 0] : Fin 3 → ℕ) a + (![1, 128, 128] : Fin 3 → ℕ) a ≤ S16x128x128.size a)
    (w : S1x128x128.Idx → Elt Ideal .f32) (L : List (View.Piece (Elt Ideal) S16x128x128 .f32)) (y : S16x128x128.Idx) (v : Elt Ideal .f32)
    (h1 : (y 0).val = u → w (ix3 0 (y 1) (y 2)) = v) (h2 : (y 0).val ≠ u → View.canon (Val := Elt Ideal) (s := S16x128x128) (e := .f32) L y = v) :
    View.canon (Val := Elt Ideal) (s := S16x128x128) (e := .f32) (⟨Rect.unit (s := S16x128x128) ![u, 0, 0] ![1, 128, 128] inb, w⟩ :: L) y = v := by
  by_cases hu : (y 0).val = u
  · refine Eq.trans (congrArg _ ?_) ((View.canon_cons_emb (Val := Elt Ideal) (Rect.unit (s := S16x128x128) ![u, 0, 0] ![1, 128, 128] inb) w L
      (ix3 0 (y 1) (y 2))).trans (h1 hu))
    refine funext fun a => Fin.ext ?_
    fin_cases a
    · show (y 0).val = u + 1 * 0
      omega
    · show (y 1).val = 0 + 1 * (y 1).val
      omega
    · show (y 2).val = 0 + 1 * (y 2).val
      omega
  · refine (View.canon_cons_of_not_mem (Val := Elt Ideal) _ L fun hm => hu ?_).trans (h2 hu)
    have hm' : y ∈ (Rect.unit (s := S16x128x128) ![u, 0, 0] ![1, 128, 128] inb).set := hm
    have h := (Rect.mem_set_unit.mp hm') 0
    have ha : u ≤ (y 0).val := h.1
    have hb : (y 0).val < u + 1 := h.2
    omega

variable (c : Dev nD) (t : Fin cfg0.N) (D : ℕ → ℕ → ℕ → Chunk) (g : ℕ → EReal)
  (H : Holds (iblk m c 0 t) (iblk m c 1 t) (iblk m c 2 t) (iblk m c 3 t) (iblk m c 4 t) (iblk m c 5 t) (X0_6 m c t) (iblk m c 7 t) D g)
include H

set_option maxHeartbeats 40000000 in
/-- The states after the first tile of two sequences: from zero. -/
theorem states_first (h : t.val % 11 = 0) (x : S16x128x128.Idx) :
    ((outsAt0 m c t.val t.isLt).2 : FVec Ideal S16x128x128 .f32) x = statesAfter D (fun _ _ _ _ => 0) (x 0).val (x 1).val (x 2).val := by
  rw [outsAt0_A m c t h]
  dsimp only
  generalize iblk m c 0 t = x0 at H ⊢
  generalize iblk m c 1 t = x1 at H ⊢
  generalize iblk m c 2 t = x2 at H ⊢
  generalize iblk m c 3 t = x3 at H ⊢
  generalize iblk m c 4 t = x4 at H ⊢
  generalize iblk m c 5 t = x5 at H ⊢
  generalize X0_6 m c t = x6 at H ⊢
  generalize iblk m c 7 t = x7 at H ⊢
  frame_out
  refine canon_head 15 _ _ _ x _ (fun e => close_state H (fun _ _ _ _ => 0) 1 7 _ _ (by rfl) (by exact fun j d => zero_at _ _ _) _ _ _ _ e rfl rfl) fun n15 => ?_
  refine canon_head 14 _ _ _ x _ (fun e => close_state H (fun _ _ _ _ => 0) 1 6 _ _ (by rfl) (by exact fun j d => zero_at _ _ _) _ _ _ _ e rfl rfl) fun n14 => ?_
  refine canon_head 13 _ _ _ x _ (fun e => close_state H (fun _ _ _ _ => 0) 1 5 _ _ (by rfl) (by exact fun j d => zero_at _ _ _) _ _ _ _ e rfl rfl) fun n13 => ?_
  refine canon_head 12 _ _ _ x _ (fun e => close_state H (fun _ _ _ _ => 0) 1 4 _ _ (by rfl) (by exact fun j d => zero_at _ _ _) _ _ _ _ e rfl rfl) fun n12 => ?_
  refine canon_head 11 _ _ _ x _ (fun e => close_state H (fun _ _ _ _ => 0) 1 3 _ _ (by rfl) (by exact fun j d => zero_at _ _ _) _ _ _ _ e rfl rfl) fun n11 => ?_
  refine canon_head 10 _ _ _ x _ (fun e => close_state H (fun _ _ _ _ => 0) 1 2 _ _ (by rfl) (by exact fun j d => zero_at _ _ _) _ _ _ _ e rfl rfl) fun n10 => ?_
  refine canon_head 9 _ _ _ x _ (fun e => close_state H (fun _ _ _ _ => 0) 1 1 _ _ (by rfl) (by exact fun j d => zero_at _ _ _) _ _ _ _ e rfl rfl) fun n9 => ?_
  refine canon_head 8 _ _ _ x _ (fun e => close_state H (fun _ _ _ _ => 0) 1 0 _ _ (by rfl) (by exact fun j d => zero_at _ _ _) _ _ _ _ e rfl rfl) fun n8 => ?_
  refine canon_head 7 _ _ _ x _ (fun e => close_state H (fun _ _ _ _ => 0) 0 7 _ _ (by rfl) (by exact fun j d => zero_at _ _ _) _ _ _ _ e rfl rfl) fun n7 => ?_
  refine canon_head 6 _ _ _ x _ (fun e => close_state H (fun _ _ _ _ => 0) 0 6 _ _ (by rfl) (by exact fun j d => zero_at _ _ _) _ _ _ _ e rfl rfl) fun n6 => ?_
  refine canon_head 5 _ _ _ x _ (fun e => close_state H (fun _ _ _ _ => 0) 0 5 _ _ (by rfl) (by exact fun j d => zero_at _ _ _) _ _ _ _ e rfl rfl) fun n5 => ?_
  refine canon_head 4 _ _ _ x _ (fun e => close_state H (fun _ _ _ _ => 0) 0 4 _ _ (by rfl) (by exact fun j d => zero_at _ _ _) _ _ _ _ e rfl rfl) fun n4 => ?_
  refine canon_head 3 _ _ _ x _ (fun e => close_state H (fun _ _ _ _ => 0) 0 3 _ _ (by rfl) (by exact fun j d => zero_at _ _ _) _ _ _ _ e rfl rfl) fun n3 => ?_
  refine canon_head 2 _ _ _ x _ (fun e => close_state H (fun _ _ _ _ => 0) 0 2 _ _ (by rfl) (by exact fun j d => zero_at _ _ _) _ _ _ _ e rfl rfl) fun n2 => ?_
  refine canon_head 1 _ _ _ x _ (fun e => close_state H (fun _ _ _ _ => 0) 0 1 _ _ (by rfl) (by exact fun j d => zero_at _ _ _) _ _ _ _ e rfl rfl) fun n1 => ?_
  refine canon_head 0 _ _ _ x _ (fun e => close_state H (fun _ _ _ _ => 0) 0 0 _ _ (by rfl) (by exact fun j d => zero_at _ _ _) _ _ _ _ e rfl rfl) fun n0 => ?_
  have hx : (x 0).val < 16 := (x 0).isLt
  omega

set_option maxHeartbeats 40000000 in
/-- The states after a later tile: from the point before's. -/
theorem states_later (h : ¬t.val % 11 = 0) (S : ℕ → ℕ → ℕ → ℕ → EReal)
    (hS : ∀ (b : Fin 2) (i : Fin 8) (j d : Fin 128),
      (outsAt0 m c (t.val - 1) (by have := t.isLt; omega)).2 (ix3 ⟨8 * b.val + i.val, by omega⟩ j d) = S b.val i.val j.val d.val)
    (x : S16x128x128.Idx) :
    ((outsAt0 m c t.val t.isLt).2 : FVec Ideal S16x128x128 .f32) x = statesAfter D S (x 0).val (x 1).val (x 2).val := by
  rw [outsAt0_B m c t h]
  dsimp only
  generalize (outsAt0 m c (t.val - 1) _).2 = X at hS ⊢
  generalize iblk m c 0 t = x0 at H ⊢
  generalize iblk m c 1 t = x1 at H ⊢
  generalize iblk m c 2 t = x2 at H ⊢
  generalize iblk m c 3 t = x3 at H ⊢
  generalize iblk m c 4 t = x4 at H ⊢
  generalize iblk m c 5 t = x5 at H ⊢
  generalize X0_6 m c t = x6 at H ⊢
  generalize iblk m c 7 t = x7 at H ⊢
  frame_out
  have eX : View.read (Elt Ideal) (View.whole cc0_scratch0) ((Memref.isWhole_whole cc0_scratch0).unread (Val := Elt Ideal) X) = X :=
    (Memref.isWhole_whole cc0_scratch0).read_unread (Val := Elt Ideal) X
  generalize hY : View.read (Elt Ideal) (View.whole cc0_scratch0) ((Memref.isWhole_whole cc0_scratch0).unread (Val := Elt Ideal) X) = Y
  have eY : Y = X := hY.symm.trans eX
  clear hY eX
  subst eY
  canon_tiles x h
  case piece0 => exact close_state H S 1 7 (held Y 1 7) _ (by rfl) (held_at Y S hS 1 7) x _ _ _ (by omega) (by omega) (by omega)
  case piece1 => exact close_state H S 1 6 (held Y 1 6) _ (by rfl) (held_at Y S hS 1 6) x _ _ _ (by omega) (by omega) (by omega)
  case piece2 => exact close_state H S 1 5 (held Y 1 5) _ (by rfl) (held_at Y S hS 1 5) x _ _ _ (by omega) (by omega) (by omega)
  case piece3 => exact close_state H S 1 4 (held Y 1 4) _ (by rfl) (held_at Y S hS 1 4) x _ _ _ (by omega) (by omega) (by omega)
  case piece4 => exact close_state H S 1 3 (held Y 1 3) _ (by rfl) (held_at Y S hS 1 3) x _ _ _ (by omega) (by omega) (by omega)
  case piece5 => exact close_state H S 1 2 (held Y 1 2) _ (by rfl) (held_at Y S hS 1 2) x _ _ _ (by omega) (by omega) (by omega)
  case piece6 => exact close_state H S 1 1 (held Y 1 1) _ (by rfl) (held_at Y S hS 1 1) x _ _ _ (by omega) (by omega) (by omega)
  case piece7 => exact close_state H S 1 0 (held Y 1 0) _ (by rfl) (held_at Y S hS 1 0) x _ _ _ (by omega) (by omega) (by omega)
  case piece8 => exact close_state H S 0 7 (held Y 0 7) _ (by rfl) (held_at Y S hS 0 7) x _ _ _ (by omega) (by omega) (by omega)
  case piece9 => exact close_state H S 0 6 (held Y 0 6) _ (by rfl) (held_at Y S hS 0 6) x _ _ _ (by omega) (by omega) (by omega)
  case piece10 => exact close_state H S 0 5 (held Y 0 5) _ (by rfl) (held_at Y S hS 0 5) x _ _ _ (by omega) (by omega) (by omega)
  case piece11 => exact close_state H S 0 4 (held Y 0 4) _ (by rfl) (held_at Y S hS 0 4) x _ _ _ (by omega) (by omega) (by omega)
  case piece12 => exact close_state H S 0 3 (held Y 0 3) _ (by rfl) (held_at Y S hS 0 3) x _ _ _ (by omega) (by omega) (by omega)
  case piece13 => exact close_state H S 0 2 (held Y 0 2) _ (by rfl) (held_at Y S hS 0 2) x _ _ _ (by omega) (by omega) (by omega)
  case piece14 => exact close_state H S 0 1 (held Y 0 1) _ (by rfl) (held_at Y S hS 0 1) x _ _ _ (by omega) (by omega) (by omega)
  case piece15 => exact close_state H S 0 0 (held Y 0 0) _ (by rfl) (held_at Y S hS 0 0) x _ _ _ (by omega) (by omega) (by omega)

set_option maxHeartbeats 40000000 in
/-- The rows of the first tile. -/
theorem rows_first (h : t.val % 11 = 0) (x : S2x192x1024.Idx) :
    ((outsAt0 m c t.val t.isLt).1 : FVec Ideal S2x192x1024 .bf16) x = rowsOf D (fun _ _ _ _ => 0) g (x 0).val (x 1).val (x 2).val := by
  rw [outsAt0_A m c t h]
  dsimp only
  generalize iblk m c 0 t = x0 at H ⊢
  generalize iblk m c 1 t = x1 at H ⊢
  generalize iblk m c 2 t = x2 at H ⊢
  generalize iblk m c 3 t = x3 at H ⊢
  generalize iblk m c 4 t = x4 at H ⊢
  generalize iblk m c 5 t = x5 at H ⊢
  generalize X0_6 m c t = x6 at H ⊢
  generalize iblk m c 7 t = x7 at H ⊢
  frame_out
  canon_tiles x h
  case piece0 => exact close_rows H (fun _ _ _ _ => 0) 1 7 2 (by decide) _ _ (by rfl) (fun j d => zero_at _ _ _) x _ _ _ (by omega) (by omega) (by omega)
  case piece1 => exact close_rows H (fun _ _ _ _ => 0) 1 6 2 (by decide) _ _ (by rfl) (fun j d => zero_at _ _ _) x _ _ _ (by omega) (by omega) (by omega)
  case piece2 => exact close_rows H (fun _ _ _ _ => 0) 1 5 2 (by decide) _ _ (by rfl) (fun j d => zero_at _ _ _) x _ _ _ (by omega) (by omega) (by omega)
  case piece3 => exact close_rows H (fun _ _ _ _ => 0) 1 4 2 (by decide) _ _ (by rfl) (fun j d => zero_at _ _ _) x _ _ _ (by omega) (by omega) (by omega)
  case piece4 => exact close_rows H (fun _ _ _ _ => 0) 1 3 2 (by decide) _ _ (by rfl) (fun j d => zero_at _ _ _) x _ _ _ (by omega) (by omega) (by omega)
  case piece5 => exact close_rows H (fun _ _ _ _ => 0) 1 2 2 (by decide) _ _ (by rfl) (fun j d => zero_at _ _ _) x _ _ _ (by omega) (by omega) (by omega)
  case piece6 => exact close_rows H (fun _ _ _ _ => 0) 1 1 2 (by decide) _ _ (by rfl) (fun j d => zero_at _ _ _) x _ _ _ (by omega) (by omega) (by omega)
  case piece7 => exact close_rows H (fun _ _ _ _ => 0) 1 0 2 (by decide) _ _ (by rfl) (fun j d => zero_at _ _ _) x _ _ _ (by omega) (by omega) (by omega)
  case piece8 => exact close_rows H (fun _ _ _ _ => 0) 0 7 2 (by decide) _ _ (by rfl) (fun j d => zero_at _ _ _) x _ _ _ (by omega) (by omega) (by omega)
  case piece9 => exact close_rows H (fun _ _ _ _ => 0) 0 6 2 (by decide) _ _ (by rfl) (fun j d => zero_at _ _ _) x _ _ _ (by omega) (by omega) (by omega)
  case piece10 => exact close_rows H (fun _ _ _ _ => 0) 0 5 2 (by decide) _ _ (by rfl) (fun j d => zero_at _ _ _) x _ _ _ (by omega) (by omega) (by omega)
  case piece11 => exact close_rows H (fun _ _ _ _ => 0) 0 4 2 (by decide) _ _ (by rfl) (fun j d => zero_at _ _ _) x _ _ _ (by omega) (by omega) (by omega)
  case piece12 => exact close_rows H (fun _ _ _ _ => 0) 0 3 2 (by decide) _ _ (by rfl) (fun j d => zero_at _ _ _) x _ _ _ (by omega) (by omega) (by omega)
  case piece13 => exact close_rows H (fun _ _ _ _ => 0) 0 2 2 (by decide) _ _ (by rfl) (fun j d => zero_at _ _ _) x _ _ _ (by omega) (by omega) (by omega)
  case piece14 => exact close_rows H (fun _ _ _ _ => 0) 0 1 2 (by decide) _ _ (by rfl) (fun j d => zero_at _ _ _) x _ _ _ (by omega) (by omega) (by omega)
  case piece15 => exact close_rows H (fun _ _ _ _ => 0) 0 0 2 (by decide) _ _ (by rfl) (fun j d => zero_at _ _ _) x _ _ _ (by omega) (by omega) (by omega)
  case piece16 => exact close_rows H (fun _ _ _ _ => 0) 1 7 1 (by decide) _ _ (by rfl) (fun j d => zero_at _ _ _) x _ _ _ (by omega) (by omega) (by omega)
  case piece17 => exact close_rows H (fun _ _ _ _ => 0) 1 6 1 (by decide) _ _ (by rfl) (fun j d => zero_at _ _ _) x _ _ _ (by omega) (by omega) (by omega)
  case piece18 => exact close_rows H (fun _ _ _ _ => 0) 1 5 1 (by decide) _ _ (by rfl) (fun j d => zero_at _ _ _) x _ _ _ (by omega) (by omega) (by omega)
  case piece19 => exact close_rows H (fun _ _ _ _ => 0) 1 4 1 (by decide) _ _ (by rfl) (fun j d => zero_at _ _ _) x _ _ _ (by omega) (by omega) (by omega)
  case piece20 => exact close_rows H (fun _ _ _ _ => 0) 1 3 1 (by decide) _ _ (by rfl) (fun j d => zero_at _ _ _) x _ _ _ (by omega) (by omega) (by omega)
  case piece21 => exact close_rows H (fun _ _ _ _ => 0) 1 2 1 (by decide) _ _ (by rfl) (fun j d => zero_at _ _ _) x _ _ _ (by omega) (by omega) (by omega)
  case piece22 => exact close_rows H (fun _ _ _ _ => 0) 1 1 1 (by decide) _ _ (by rfl) (fun j d => zero_at _ _ _) x _ _ _ (by omega) (by omega) (by omega)
  case piece23 => exact close_rows H (fun _ _ _ _ => 0) 1 0 1 (by decide) _ _ (by rfl) (fun j d => zero_at _ _ _) x _ _ _ (by omega) (by omega) (by omega)
  case piece24 => exact close_rows H (fun _ _ _ _ => 0) 0 7 1 (by decide) _ _ (by rfl) (fun j d => zero_at _ _ _) x _ _ _ (by omega) (by omega) (by omega)
  case piece25 => exact close_rows H (fun _ _ _ _ => 0) 0 6 1 (by decide) _ _ (by rfl) (fun j d => zero_at _ _ _) x _ _ _ (by omega) (by omega) (by omega)
  case piece26 => exact close_rows H (fun _ _ _ _ => 0) 0 5 1 (by decide) _ _ (by rfl) (fun j d => zero_at _ _ _) x _ _ _ (by omega) (by omega) (by omega)
  case piece27 => exact close_rows H (fun _ _ _ _ => 0) 0 4 1 (by decide) _ _ (by rfl) (fun j d => zero_at _ _ _) x _ _ _ (by omega) (by omega) (by omega)
  case piece28 => exact close_rows H (fun _ _ _ _ => 0) 0 3 1 (by decide) _ _ (by rfl) (fun j d => zero_at _ _ _) x _ _ _ (by omega) (by omega) (by omega)
  case piece29 => exact close_rows H (fun _ _ _ _ => 0) 0 2 1 (by decide) _ _ (by rfl) (fun j d => zero_at _ _ _) x _ _ _ (by omega) (by omega) (by omega)
  case piece30 => exact close_rows H (fun _ _ _ _ => 0) 0 1 1 (by decide) _ _ (by rfl) (fun j d => zero_at _ _ _) x _ _ _ (by omega) (by omega) (by omega)
  case piece31 => exact close_rows H (fun _ _ _ _ => 0) 0 0 1 (by decide) _ _ (by rfl) (fun j d => zero_at _ _ _) x _ _ _ (by omega) (by omega) (by omega)
  case piece32 => exact close_rows H (fun _ _ _ _ => 0) 1 7 0 (by decide) _ _ (by rfl) (fun j d => zero_at _ _ _) x _ _ _ (by omega) (by omega) (by omega)
  case piece33 => exact close_rows H (fun _ _ _ _ => 0) 1 6 0 (by decide) _ _ (by rfl) (fun j d => zero_at _ _ _) x _ _ _ (by omega) (by omega) (by omega)
  case piece34 => exact close_rows H (fun _ _ _ _ => 0) 1 5 0 (by decide) _ _ (by rfl) (fun j d => zero_at _ _ _) x _ _ _ (by omega) (by omega) (by omega)
  case piece35 => exact close_rows H (fun _ _ _ _ => 0) 1 4 0 (by decide) _ _ (by rfl) (fun j d => zero_at _ _ _) x _ _ _ (by omega) (by omega) (by omega)
  case piece36 => exact close_rows H (fun _ _ _ _ => 0) 1 3 0 (by decide) _ _ (by rfl) (fun j d => zero_at _ _ _) x _ _ _ (by omega) (by omega) (by omega)
  case piece37 => exact close_rows H (fun _ _ _ _ => 0) 1 2 0 (by decide) _ _ (by rfl) (fun j d => zero_at _ _ _) x _ _ _ (by omega) (by omega) (by omega)
  case piece38 => exact close_rows H (fun _ _ _ _ => 0) 1 1 0 (by decide) _ _ (by rfl) (fun j d => zero_at _ _ _) x _ _ _ (by omega) (by omega) (by omega)
  case piece39 => exact close_rows H (fun _ _ _ _ => 0) 1 0 0 (by decide) _ _ (by rfl) (fun j d => zero_at _ _ _) x _ _ _ (by omega) (by omega) (by omega)
  case piece40 => exact close_rows H (fun _ _ _ _ => 0) 0 7 0 (by decide) _ _ (by rfl) (fun j d => zero_at _ _ _) x _ _ _ (by omega) (by omega) (by omega)
  case piece41 => exact close_rows H (fun _ _ _ _ => 0) 0 6 0 (by decide) _ _ (by rfl) (fun j d => zero_at _ _ _) x _ _ _ (by omega) (by omega) (by omega)
  case piece42 => exact close_rows H (fun _ _ _ _ => 0) 0 5 0 (by decide) _ _ (by rfl) (fun j d => zero_at _ _ _) x _ _ _ (by omega) (by omega) (by omega)
  case piece43 => exact close_rows H (fun _ _ _ _ => 0) 0 4 0 (by decide) _ _ (by rfl) (fun j d => zero_at _ _ _) x _ _ _ (by omega) (by omega) (by omega)
  case piece44 => exact close_rows H (fun _ _ _ _ => 0) 0 3 0 (by decide) _ _ (by rfl) (fun j d => zero_at _ _ _) x _ _ _ (by omega) (by omega) (by omega)
  case piece45 => exact close_rows H (fun _ _ _ _ => 0) 0 2 0 (by decide) _ _ (by rfl) (fun j d => zero_at _ _ _) x _ _ _ (by omega) (by omega) (by omega)
  case piece46 => exact close_rows H (fun _ _ _ _ => 0) 0 1 0 (by decide) _ _ (by rfl) (fun j d => zero_at _ _ _) x _ _ _ (by omega) (by omega) (by omega)
  case piece47 => exact close_rows H (fun _ _ _ _ => 0) 0 0 0 (by decide) _ _ (by rfl) (fun j d => zero_at _ _ _) x _ _ _ (by omega) (by omega) (by omega)

set_option maxHeartbeats 40000000 in
/-- The rows of a later tile. -/
theorem rows_later (h : ¬t.val % 11 = 0) (S : ℕ → ℕ → ℕ → ℕ → EReal)
    (hS : ∀ (b : Fin 2) (i : Fin 8) (j d : Fin 128),
      (outsAt0 m c (t.val - 1) (by have := t.isLt; omega)).2 (ix3 ⟨8 * b.val + i.val, by omega⟩ j d) = S b.val i.val j.val d.val)
    (x : S2x192x1024.Idx) :
    ((outsAt0 m c t.val t.isLt).1 : FVec Ideal S2x192x1024 .bf16) x = rowsOf D S g (x 0).val (x 1).val (x 2).val := by
  rw [outsAt0_B m c t h]
  dsimp only
  generalize (outsAt0 m c (t.val - 1) _).2 = X at hS ⊢
  generalize iblk m c 0 t = x0 at H ⊢
  generalize iblk m c 1 t = x1 at H ⊢
  generalize iblk m c 2 t = x2 at H ⊢
  generalize iblk m c 3 t = x3 at H ⊢
  generalize iblk m c 4 t = x4 at H ⊢
  generalize iblk m c 5 t = x5 at H ⊢
  generalize X0_6 m c t = x6 at H ⊢
  generalize iblk m c 7 t = x7 at H ⊢
  frame_out
  have eX : View.read (Elt Ideal) (View.whole cc0_scratch0) ((Memref.isWhole_whole cc0_scratch0).unread (Val := Elt Ideal) X) = X :=
    (Memref.isWhole_whole cc0_scratch0).read_unread (Val := Elt Ideal) X
  generalize hY : View.read (Elt Ideal) (View.whole cc0_scratch0) ((Memref.isWhole_whole cc0_scratch0).unread (Val := Elt Ideal) X) = Y
  have eY : Y = X := hY.symm.trans eX
  clear hY eX
  subst eY
  canon_tiles x h
  case piece0 => exact close_rows H S 1 7 2 (by decide) (held Y 1 7) _ (by rfl) (held_at Y S hS 1 7) x _ _ _ (by omega) (by omega) (by omega)
  case piece1 => exact close_rows H S 1 6 2 (by decide) (held Y 1 6) _ (by rfl) (held_at Y S hS 1 6) x _ _ _ (by omega) (by omega) (by omega)
  case piece2 => exact close_rows H S 1 5 2 (by decide) (held Y 1 5) _ (by rfl) (held_at Y S hS 1 5) x _ _ _ (by omega) (by omega) (by omega)
  case piece3 => exact close_rows H S 1 4 2 (by decide) (held Y 1 4) _ (by rfl) (held_at Y S hS 1 4) x _ _ _ (by omega) (by omega) (by omega)
  case piece4 => exact close_rows H S 1 3 2 (by decide) (held Y 1 3) _ (by rfl) (held_at Y S hS 1 3) x _ _ _ (by omega) (by omega) (by omega)
  case piece5 => exact close_rows H S 1 2 2 (by decide) (held Y 1 2) _ (by rfl) (held_at Y S hS 1 2) x _ _ _ (by omega) (by omega) (by omega)
  case piece6 => exact close_rows H S 1 1 2 (by decide) (held Y 1 1) _ (by rfl) (held_at Y S hS 1 1) x _ _ _ (by omega) (by omega) (by omega)
  case piece7 => exact close_rows H S 1 0 2 (by decide) (held Y 1 0) _ (by rfl) (held_at Y S hS 1 0) x _ _ _ (by omega) (by omega) (by omega)
  case piece8 => exact close_rows H S 0 7 2 (by decide) (held Y 0 7) _ (by rfl) (held_at Y S hS 0 7) x _ _ _ (by omega) (by omega) (by omega)
  case piece9 => exact close_rows H S 0 6 2 (by decide) (held Y 0 6) _ (by rfl) (held_at Y S hS 0 6) x _ _ _ (by omega) (by omega) (by omega)
  case piece10 => exact close_rows H S 0 5 2 (by decide) (held Y 0 5) _ (by rfl) (held_at Y S hS 0 5) x _ _ _ (by omega) (by omega) (by omega)
  case piece11 => exact close_rows H S 0 4 2 (by decide) (held Y 0 4) _ (by rfl) (held_at Y S hS 0 4) x _ _ _ (by omega) (by omega) (by omega)
  case piece12 => exact close_rows H S 0 3 2 (by decide) (held Y 0 3) _ (by rfl) (held_at Y S hS 0 3) x _ _ _ (by omega) (by omega) (by omega)
  case piece13 => exact close_rows H S 0 2 2 (by decide) (held Y 0 2) _ (by rfl) (held_at Y S hS 0 2) x _ _ _ (by omega) (by omega) (by omega)
  case piece14 => exact close_rows H S 0 1 2 (by decide) (held Y 0 1) _ (by rfl) (held_at Y S hS 0 1) x _ _ _ (by omega) (by omega) (by omega)
  case piece15 => exact close_rows H S 0 0 2 (by decide) (held Y 0 0) _ (by rfl) (held_at Y S hS 0 0) x _ _ _ (by omega) (by omega) (by omega)
  case piece16 => exact close_rows H S 1 7 1 (by decide) (held Y 1 7) _ (by rfl) (held_at Y S hS 1 7) x _ _ _ (by omega) (by omega) (by omega)
  case piece17 => exact close_rows H S 1 6 1 (by decide) (held Y 1 6) _ (by rfl) (held_at Y S hS 1 6) x _ _ _ (by omega) (by omega) (by omega)
  case piece18 => exact close_rows H S 1 5 1 (by decide) (held Y 1 5) _ (by rfl) (held_at Y S hS 1 5) x _ _ _ (by omega) (by omega) (by omega)
  case piece19 => exact close_rows H S 1 4 1 (by decide) (held Y 1 4) _ (by rfl) (held_at Y S hS 1 4) x _ _ _ (by omega) (by omega) (by omega)
  case piece20 => exact close_rows H S 1 3 1 (by decide) (held Y 1 3) _ (by rfl) (held_at Y S hS 1 3) x _ _ _ (by omega) (by omega) (by omega)
  case piece21 => exact close_rows H S 1 2 1 (by decide) (held Y 1 2) _ (by rfl) (held_at Y S hS 1 2) x _ _ _ (by omega) (by omega) (by omega)
  case piece22 => exact close_rows H S 1 1 1 (by decide) (held Y 1 1) _ (by rfl) (held_at Y S hS 1 1) x _ _ _ (by omega) (by omega) (by omega)
  case piece23 => exact close_rows H S 1 0 1 (by decide) (held Y 1 0) _ (by rfl) (held_at Y S hS 1 0) x _ _ _ (by omega) (by omega) (by omega)
  case piece24 => exact close_rows H S 0 7 1 (by decide) (held Y 0 7) _ (by rfl) (held_at Y S hS 0 7) x _ _ _ (by omega) (by omega) (by omega)
  case piece25 => exact close_rows H S 0 6 1 (by decide) (held Y 0 6) _ (by rfl) (held_at Y S hS 0 6) x _ _ _ (by omega) (by omega) (by omega)
  case piece26 => exact close_rows H S 0 5 1 (by decide) (held Y 0 5) _ (by rfl) (held_at Y S hS 0 5) x _ _ _ (by omega) (by omega) (by omega)
  case piece27 => exact close_rows H S 0 4 1 (by decide) (held Y 0 4) _ (by rfl) (held_at Y S hS 0 4) x _ _ _ (by omega) (by omega) (by omega)
  case piece28 => exact close_rows H S 0 3 1 (by decide) (held Y 0 3) _ (by rfl) (held_at Y S hS 0 3) x _ _ _ (by omega) (by omega) (by omega)
  case piece29 => exact close_rows H S 0 2 1 (by decide) (held Y 0 2) _ (by rfl) (held_at Y S hS 0 2) x _ _ _ (by omega) (by omega) (by omega)
  case piece30 => exact close_rows H S 0 1 1 (by decide) (held Y 0 1) _ (by rfl) (held_at Y S hS 0 1) x _ _ _ (by omega) (by omega) (by omega)
  case piece31 => exact close_rows H S 0 0 1 (by decide) (held Y 0 0) _ (by rfl) (held_at Y S hS 0 0) x _ _ _ (by omega) (by omega) (by omega)
  case piece32 => exact close_rows H S 1 7 0 (by decide) (held Y 1 7) _ (by rfl) (held_at Y S hS 1 7) x _ _ _ (by omega) (by omega) (by omega)
  case piece33 => exact close_rows H S 1 6 0 (by decide) (held Y 1 6) _ (by rfl) (held_at Y S hS 1 6) x _ _ _ (by omega) (by omega) (by omega)
  case piece34 => exact close_rows H S 1 5 0 (by decide) (held Y 1 5) _ (by rfl) (held_at Y S hS 1 5) x _ _ _ (by omega) (by omega) (by omega)
  case piece35 => exact close_rows H S 1 4 0 (by decide) (held Y 1 4) _ (by rfl) (held_at Y S hS 1 4) x _ _ _ (by omega) (by omega) (by omega)
  case piece36 => exact close_rows H S 1 3 0 (by decide) (held Y 1 3) _ (by rfl) (held_at Y S hS 1 3) x _ _ _ (by omega) (by omega) (by omega)
  case piece37 => exact close_rows H S 1 2 0 (by decide) (held Y 1 2) _ (by rfl) (held_at Y S hS 1 2) x _ _ _ (by omega) (by omega) (by omega)
  case piece38 => exact close_rows H S 1 1 0 (by decide) (held Y 1 1) _ (by rfl) (held_at Y S hS 1 1) x _ _ _ (by omega) (by omega) (by omega)
  case piece39 => exact close_rows H S 1 0 0 (by decide) (held Y 1 0) _ (by rfl) (held_at Y S hS 1 0) x _ _ _ (by omega) (by omega) (by omega)
  case piece40 => exact close_rows H S 0 7 0 (by decide) (held Y 0 7) _ (by rfl) (held_at Y S hS 0 7) x _ _ _ (by omega) (by omega) (by omega)
  case piece41 => exact close_rows H S 0 6 0 (by decide) (held Y 0 6) _ (by rfl) (held_at Y S hS 0 6) x _ _ _ (by omega) (by omega) (by omega)
  case piece42 => exact close_rows H S 0 5 0 (by decide) (held Y 0 5) _ (by rfl) (held_at Y S hS 0 5) x _ _ _ (by omega) (by omega) (by omega)
  case piece43 => exact close_rows H S 0 4 0 (by decide) (held Y 0 4) _ (by rfl) (held_at Y S hS 0 4) x _ _ _ (by omega) (by omega) (by omega)
  case piece44 => exact close_rows H S 0 3 0 (by decide) (held Y 0 3) _ (by rfl) (held_at Y S hS 0 3) x _ _ _ (by omega) (by omega) (by omega)
  case piece45 => exact close_rows H S 0 2 0 (by decide) (held Y 0 2) _ (by rfl) (held_at Y S hS 0 2) x _ _ _ (by omega) (by omega) (by omega)
  case piece46 => exact close_rows H S 0 1 0 (by decide) (held Y 0 1) _ (by rfl) (held_at Y S hS 0 1) x _ _ _ (by omega) (by omega) (by omega)
  case piece47 => exact close_rows H S 0 0 0 (by decide) (held Y 0 0) _ (by rfl) (held_at Y S hS 0 0) x _ _ _ (by omega) (by omega) (by omega)

end Cert.DeltaPoint

end
-- ==== Proof.DeltaBlocks.lean ====
/- The scan's result array: the blocks its points leave, entry by entry the plain functions of the argument arrays. -/
module

public import proofs.«01_k».proof.Proof.DeltaPoint

@[expose] public section

set_option maxRecDepth 16384

noncomputable section

namespace Cert.DeltaBlocks

open Idealize.ShloMosaic Idealize.ShloMosaic.TcCoe Idealize.SL.Sem
open Idealize.ShloMosaic.Pipeline (Dat)
open Cert.DeltaScanIdeal Cert.DeltaScanIdeal.Gen Cert.Plain Cert.DeltaPlain Cert.DeltaTile

variable (m : (ℓ : Loc nD τ sig) → Buf (Elt Ideal) ℓ)

theorem index_all : ∀ t : Fin cfg0.N, win0_0.index t = ![t.val / 11, t.val % 11, 0] ∧ win0_1.index t = ![t.val / 11, t.val % 11, 0]
    ∧ win0_2.index t = ![t.val / 11, t.val % 11, 0] ∧ win0_3.index t = ![t.val / 11, t.val % 11, 0, 0, 0]
    ∧ win0_4.index t = ![t.val / 11, t.val % 11, 0, 0, 0] ∧ win0_5.index t = ![t.val / 11, t.val % 11, 0, 0]
    ∧ win0_6.index t = ![t.val / 11, t.val % 11, 6] ∧ win0_7.index t = ![0, 0] ∧ win0_8.index t = ![t.val / 11, t.val % 11, 0] :=
  (by decide +kernel : ∀ t : Fin grid0.N, _)

/-- The arguments as launched. -/
abbrev aq (c : Dev nD) : (⟨2, ![16896, 1024]⟩ : Shape).Idx → EReal := m ((c : Thread nD τ).loc main_arg0)
abbrev ar (c : Dev nD) : (⟨2, ![16896, 2048]⟩ : Shape).Idx → EReal := m ((c : Thread nD τ).loc main_arg1)
abbrev ak (c : Dev nD) : (⟨2, ![16896, 1024]⟩ : Shape).Idx → EReal := m ((c : Thread nD τ).loc main_arg2)
abbrev tm (c : Dev nD) : (⟨4, ![264, 8, 64, 64]⟩ : Shape).Idx → EReal := m ((c : Thread nD τ).loc main_arg3)
abbrev am (c : Dev nD) : (⟨4, ![264, 8, 64, 64]⟩ : Shape).Idx → EReal := m ((c : Thread nD τ).loc main_arg4)
abbrev ae (c : Dev nD) : (⟨3, ![264, 8, 128]⟩ : Shape).Idx → EReal := m ((c : Thread nD τ).loc main_arg5)
abbrev ap (c : Dev nD) : (⟨2, ![16896, 13824]⟩ : Shape).Idx → EReal := m ((c : Thread nD τ).loc main_arg6)
abbrev aw (c : Dev nD) : (⟨2, ![2, 128]⟩ : Shape).Idx → EReal := m ((c : Thread nD τ).loc main_arg7)

theorem q_at (c : Dev nD) (t : Fin cfg0.N) (b : Fin 2) (j : Fin 192) (d : Fin 1024) :
    iblk m c 0 t (ix3 b j d) = at2 (aq m c) (2112 * (2 * (t.val / 11) + b.val) + (192 * (t.val % 11) + j.val)) d.val := by
  have ht : t.val < 44 := t.isLt
  have e : (win0_0.rect t).emb (ix3 b j d) = ix3 ⟨t.val / 11 * 2 + b.val, by omega⟩ ⟨t.val % 11 * 192 + j.val, by omega⟩ d := by
    refine funext fun a => Fin.ext ?_
    match a with
    | ⟨0, _⟩ =>
      refine (win0_0.rect_emb_val_off t (ix3 b j d) 0).trans ?_
      rw [(index_all t).1]; rfl
    | ⟨1, _⟩ =>
      refine (win0_0.rect_emb_val_off t (ix3 b j d) 1).trans ?_
      rw [(index_all t).1]; rfl
    | ⟨2, _⟩ =>
      refine (win0_0.rect_emb_val_off t (ix3 b j d) 2).trans ?_
      rw [(index_all t).1]; exact Nat.zero_add _
  have e' : iblk m c 0 t (ix3 b j d) = V m c main_v3 ((win0_0.rect t).emb (ix3 b j d)) := rfl
  rw [e', e]
  entry_read
  pointwise
  exact at2_of _ _ _ _ (by show (t.val / 11 * 2 + b.val) * 2112 + (t.val % 11 * 192 + j.val) = _; omega) rfl

theorem r_at (c : Dev nD) (t : Fin cfg0.N) (b : Fin 2) (j : Fin 192) (d : Fin 2048) :
    iblk m c 1 t (ix3 b j d) = at2 (ar m c) (2112 * (2 * (t.val / 11) + b.val) + (192 * (t.val % 11) + j.val)) d.val := by
  have ht : t.val < 44 := t.isLt
  have e : (win0_1.rect t).emb (ix3 b j d) = ix3 ⟨t.val / 11 * 2 + b.val, by omega⟩ ⟨t.val % 11 * 192 + j.val, by omega⟩ d := by
    refine funext fun a => Fin.ext ?_
    match a with
    | ⟨0, _⟩ =>
      refine (win0_1.rect_emb_val_off t (ix3 b j d) 0).trans ?_
      rw [(index_all t).2.1]; rfl
    | ⟨1, _⟩ =>
      refine (win0_1.rect_emb_val_off t (ix3 b j d) 1).trans ?_
      rw [(index_all t).2.1]; rfl
    | ⟨2, _⟩ =>
      refine (win0_1.rect_emb_val_off t (ix3 b j d) 2).trans ?_
      rw [(index_all t).2.1]; exact Nat.zero_add _
  have e' : iblk m c 1 t (ix3 b j d) = V m c main_v4 ((win0_1.rect t).emb (ix3 b j d)) := rfl
  rw [e', e]
  entry_read
  pointwise
  exact at2_of _ _ _ _ (by show (t.val / 11 * 2 + b.val) * 2112 + (t.val % 11 * 192 + j.val) = _; omega) rfl

theorem k_at (c : Dev nD) (t : Fin cfg0.N) (b : Fin 2) (j : Fin 192) (d : Fin 1024) :
    iblk m c 2 t (ix3 b j d) = at2 (ak m c) (2112 * (2 * (t.val / 11) + b.val) + (192 * (t.val % 11) + j.val)) d.val := by
  have ht : t.val < 44 := t.isLt
  have e : (win0_2.rect t).emb (ix3 b j d) = ix3 ⟨t.val / 11 * 2 + b.val, by omega⟩ ⟨t.val % 11 * 192 + j.val, by omega⟩ d := by
    refine funext fun a => Fin.ext ?_
    match a with
    | ⟨0, _⟩ =>
      refine (win0_2.rect_emb_val_off t (ix3 b j d) 0).trans ?_
      rw [(index_all t).2.2.1]; rfl
    | ⟨1, _⟩ =>
      refine (win0_2.rect_emb_val_off t (ix3 b j d) 1).trans ?_
      rw [(index_all t).2.2.1]; rfl
    | ⟨2, _⟩ =>
      refine (win0_2.rect_emb_val_off t (ix3 b j d) 2).trans ?_
      rw [(index_all t).2.2.1]; exact Nat.zero_add _
  have e' : iblk m c 2 t (ix3 b j d) = V m c main_v5 ((win0_2.rect t).emb (ix3 b j d)) := rfl
  rw [e', e]
  entry_read
  pointwise
  exact at2_of _ _ _ _ (by show (t.val / 11 * 2 + b.val) * 2112 + (t.val % 11 * 192 + j.val) = _; omega) rfl

theorem t_at (c : Dev nD) (t : Fin cfg0.N) (b : Fin 2) (n : Fin 3) (h : Fin 8) (u : Fin 64) (v : Fin 64) :
    iblk m c 3 t (ix5 b n h u v) = at4 (tm m c) (33 * (2 * (t.val / 11) + b.val) + (3 * (t.val % 11) + n.val)) h.val u.val v.val := by
  have ht : t.val < 44 := t.isLt
  have e : (win0_3.rect t).emb (ix5 b n h u v) = ix5 ⟨t.val / 11 * 2 + b.val, by omega⟩ ⟨t.val % 11 * 3 + n.val, by omega⟩ h u v := by
    refine funext fun a => Fin.ext ?_
    match a with
    | ⟨0, _⟩ =>
      refine (win0_3.rect_emb_val_off t (ix5 b n h u v) 0).trans ?_
      rw [(index_all t).2.2.2.1]; rfl
    | ⟨1, _⟩ =>
      refine (win0_3.rect_emb_val_off t (ix5 b n h u v) 1).trans ?_
      rw [(index_all t).2.2.2.1]; rfl
    | ⟨2, _⟩ =>
      refine (win0_3.rect_emb_val_off t (ix5 b n h u v) 2).trans ?_
      rw [(index_all t).2.2.2.1]; exact Nat.zero_add _
    | ⟨3, _⟩ =>
      refine (win0_3.rect_emb_val_off t (ix5 b n h u v) 3).trans ?_
      rw [(index_all t).2.2.2.1]; exact Nat.zero_add _
    | ⟨4, _⟩ =>
      refine (win0_3.rect_emb_val_off t (ix5 b n h u v) 4).trans ?_
      rw [(index_all t).2.2.2.1]; exact Nat.zero_add _
  have e' : iblk m c 3 t (ix5 b n h u v) = V m c main_v6 ((win0_3.rect t).emb (ix5 b n h u v)) := rfl
  rw [e', e]
  entry_read
  pointwise
  exact at4_of _ _ _ _ _ _ (by show (t.val / 11 * 2 + b.val) * 33 + (t.val % 11 * 3 + n.val) = _; omega) rfl rfl rfl

theorem a_at (c : Dev nD) (t : Fin cfg0.N) (b : Fin 2) (n : Fin 3) (h : Fin 8) (u : Fin 64) (v : Fin 64) :
    iblk m c 4 t (ix5 b n h u v) = at4 (am m c) (33 * (2 * (t.val / 11) + b.val) + (3 * (t.val % 11) + n.val)) h.val u.val v.val := by
  have ht : t.val < 44 := t.isLt
  have e : (win0_4.rect t).emb (ix5 b n h u v) = ix5 ⟨t.val / 11 * 2 + b.val, by omega⟩ ⟨t.val % 11 * 3 + n.val, by omega⟩ h u v := by
    refine funext fun a => Fin.ext ?_
    match a with
    | ⟨0, _⟩ =>
      refine (win0_4.rect_emb_val_off t (ix5 b n h u v) 0).trans ?_
      rw [(index_all t).2.2.2.2.1]; rfl
    | ⟨1, _⟩ =>
      refine (win0_4.rect_emb_val_off t (ix5 b n h u v) 1).trans ?_
      rw [(index_all t).2.2.2.2.1]; rfl
    | ⟨2, _⟩ =>
      refine (win0_4.rect_emb_val_off t (ix5 b n h u v) 2).trans ?_
      rw [(index_all t).2.2.2.2.1]; exact Nat.zero_add _
    | ⟨3, _⟩ =>
      refine (win0_4.rect_emb_val_off t (ix5 b n h u v) 3).trans ?_
      rw [(index_all t).2.2.2.2.1]; exact Nat.zero_add _
    | ⟨4, _⟩ =>
      refine (win0_4.rect_emb_val_off t (ix5 b n h u v) 4).trans ?_
      rw [(index_all t).2.2.2.2.1]; exact Nat.zero_add _
  have e' : iblk m c 4 t (ix5 b n h u v) = V m c main_v7 ((win0_4.rect t).emb (ix5 b n h u v)) := rfl
  rw [e', e]
  entry_read
  pointwise
  exact at4_of _ _ _ _ _ _ (by show (t.val / 11 * 2 + b.val) * 33 + (t.val % 11 * 3 + n.val) = _; omega) rfl rfl rfl

theorem e_at (c : Dev nD) (t : Fin cfg0.N) (b : Fin 2) (n : Fin 3) (h : Fin 8) (u : Fin 128) :
    iblk m c 5 t (ix4 b n h u) = at3 (ae m c) (33 * (2 * (t.val / 11) + b.val) + (3 * (t.val % 11) + n.val)) h.val u.val := by
  have ht : t.val < 44 := t.isLt
  have e : (win0_5.rect t).emb (ix4 b n h u) = ix4 ⟨t.val / 11 * 2 + b.val, by omega⟩ ⟨t.val % 11 * 3 + n.val, by omega⟩ h u := by
    refine funext fun a => Fin.ext ?_
    match a with
    | ⟨0, _⟩ =>
      refine (win0_5.rect_emb_val_off t (ix4 b n h u) 0).trans ?_
      rw [(index_all t).2.2.2.2.2.1]; rfl
    | ⟨1, _⟩ =>
      refine (win0_5.rect_emb_val_off t (ix4 b n h u) 1).trans ?_
      rw [(index_all t).2.2.2.2.2.1]; rfl
    | ⟨2, _⟩ =>
      refine (win0_5.rect_emb_val_off t (ix4 b n h u) 2).trans ?_
      rw [(index_all t).2.2.2.2.2.1]; exact Nat.zero_add _
    | ⟨3, _⟩ =>
      refine (win0_5.rect_emb_val_off t (ix4 b n h u) 3).trans ?_
      rw [(index_all t).2.2.2.2.2.1]; exact Nat.zero_add _
  have e' : iblk m c 5 t (ix4 b n h u) = V m c main_v8 ((win0_5.rect t).emb (ix4 b n h u)) := rfl
  rw [e', e]
  entry_read
  pointwise
  exact at3_of _ _ _ _ _ (by show (t.val / 11 * 2 + b.val) * 33 + (t.val % 11 * 3 + n.val) = _; omega) rfl rfl

theorem z_at (c : Dev nD) (t : Fin cfg0.N) (b : Fin 2) (j : Fin 192) (d : Fin 1024) :
    X0_6 m c t (ix3 b j d) = at2 (ap m c) (2112 * (2 * (t.val / 11) + b.val) + (192 * (t.val % 11) + j.val)) (6144 + d.val) := by
  have ht : t.val < 44 := t.isLt
  unfold X0_6 Pipeline.Window.fill
  rw [dif_pos (moved0_6 t (ix3 b j d))]
  refine (congrArg (V m c main_v9) (?_ : _ = ix3 ⟨t.val / 11 * 2 + b.val, by omega⟩ ⟨t.val % 11 * 192 + j.val, by omega⟩ ⟨6 * 1024 + d.val, by omega⟩)).trans ?_
  · refine funext fun a => Fin.ext ?_
    match a with
    | ⟨0, _⟩ =>
      refine (win0_6.rect_emb_val_off t _ 0).trans ?_
      rw [(index_all t).2.2.2.2.2.2.1]; rfl
    | ⟨1, _⟩ =>
      refine (win0_6.rect_emb_val_off t _ 1).trans ?_
      rw [(index_all t).2.2.2.2.2.2.1]; rfl
    | ⟨2, _⟩ =>
      refine (win0_6.rect_emb_val_off t _ 2).trans ?_
      rw [(index_all t).2.2.2.2.2.2.1]; rfl
  · entry_read
    pointwise
    exact at2_of _ _ _ _ (by show (t.val / 11 * 2 + b.val) * 2112 + (t.val % 11 * 192 + j.val) = _; omega) rfl

theorem g_at (c : Dev nD) (t : Fin cfg0.N) (d : Fin 128) : iblk m c 7 t (ix2 0 d) = at2 (aw m c) 0 d.val := by
  have e : (win0_7.rect t).emb (ix2 0 d) = ix2 0 d := by
    refine funext fun a => Fin.ext ?_
    match a with
    | ⟨0, _⟩ =>
      refine (win0_7.rect_emb_val_off t (ix2 0 d) 0).trans ?_
      rw [(index_all t).2.2.2.2.2.2.2.1]; rfl
    | ⟨1, _⟩ =>
      refine (win0_7.rect_emb_val_off t (ix2 0 d) 1).trans ?_
      rw [(index_all t).2.2.2.2.2.2.2.1]; exact Nat.zero_add _
  have e' : iblk m c 7 t (ix2 0 d) = V m c main_v2 ((win0_7.rect t).emb (ix2 0 d)) := rfl
  rw [e', e]
  entry_read
  pointwise
  exact at2_of _ _ _ _ rfl rfl

/-- The chunks, states and result of the launched arguments. -/
abbrev chunkM (c : Dev nD) (i h n : ℕ) : Chunk := chunk (aq m c) (ar m c) (ak m c) (tm m c) (am m c) (ae m c) (ap m c) i h n
abbrev stateM (c : Dev nD) (i h n : ℕ) : ℕ → ℕ → EReal := stateAt (aq m c) (ar m c) (ak m c) (tm m c) (am m c) (ae m c) (ap m c) i h n
abbrev tileM (c : Dev nD) (t : Fin cfg0.N) (b h n : ℕ) : Chunk := chunkM m c (2 * (t.val / 11) + b) h (3 * (t.val % 11) + n)

/-- Each point's blocks hold three chunks of two sequences. -/
theorem tile_holds (c : Dev nD) (t : Fin cfg0.N) :
    Holds (iblk m c 0 t) (iblk m c 1 t) (iblk m c 2 t) (iblk m c 3 t) (iblk m c 4 t) (iblk m c 5 t) (X0_6 m c t) (iblk m c 7 t)
      (tileM m c t) (at2 (aw m c) 0) where
  q b n h l d := (q_at m c t b _ _).trans (congrArg (fun r => at2 (aq m c) r _) (by dsimp only; omega))
  r b n h l d := (r_at m c t b _ _).trans (congrArg (fun r => at2 (ar m c) r _) (by dsimp only; omega))
  k b n h l d := (k_at m c t b _ _).trans (congrArg (fun r => at2 (ak m c) r _) (by dsimp only; omega))
  t b n h l s := t_at m c t b n h l s
  a b n h l s := a_at m c t b n h l s
  e b n h d := e_at m c t b n h d
  z b n h l d := (z_at m c t b _ _).trans (congrArg₂ (at2 (ap m c)) (by dsimp only; omega) (by dsimp only; omega))
  g d := g_at m c t d

/-- From the state before its first chunk a tile leaves the state after its last. -/
theorem tile_states (c : Dev nD) (t : Fin cfg0.N) (b h n : ℕ) :
    states (tileM m c t b h) (stateM m c (2 * (t.val / 11) + b) h (3 * (t.val % 11))) n
      = stateM m c (2 * (t.val / 11) + b) h (3 * (t.val % 11) + n) :=
  states_add (chunkM m c (2 * (t.val / 11) + b) h) _ _ n

/-- The states before a tile's first chunk. -/
abbrev startM (c : Dev nD) (t : Fin cfg0.N) (b h : ℕ) : ℕ → ℕ → EReal := stateM m c (2 * (t.val / 11) + b) h (3 * (t.val % 11))

theorem start_zero (c : Dev nD) (t : Fin cfg0.N) (h : t.val % 11 = 0) : startM m c t = fun _ _ _ _ => 0 := by
  funext b i j k
  show stateM m c (2 * (t.val / 11) + b) i (3 * (t.val % 11)) j k = 0
  rw [h]
  rfl

/-- What a point left the next one starts from. -/
theorem handed (c : Dev nD) (n : ℕ) (hn : n + 1 < cfg0.N) (h : ¬(n + 1) % 11 = 0) (b : Fin 2) (i : Fin 8) (j d : Fin 128) :
    statesAfter (tileM m c ⟨n, Nat.lt_of_succ_lt hn⟩) (startM m c ⟨n, Nat.lt_of_succ_lt hn⟩) (8 * b.val + i.val) j.val d.val
      = startM m c ⟨n + 1, hn⟩ b.val i.val j.val d.val := by
  unfold statesAfter
  rw [show (8 * b.val + i.val) / 8 = b.val by omega, show (8 * b.val + i.val) % 8 = i.val by omega]
  rw [tile_states]
  show stateM m c (2 * (n / 11) + b.val) i.val (3 * (n % 11) + 3) j.val d.val = stateM m c (2 * ((n + 1) / 11) + b.val) i.val (3 * ((n + 1) % 11)) j.val d.val
  rw [show (n + 1) / 11 = n / 11 by omega, show 3 * ((n + 1) % 11) = 3 * (n % 11) + 3 by omega]

/-- After each point the scratch holds the states after its last chunk. -/
theorem scratch_at (c : Dev nD) : ∀ (n : ℕ) (hn : n < cfg0.N) (x : S16x128x128.Idx),
    (outsAt0 m c n hn).2 x = statesAfter (tileM m c ⟨n, hn⟩) (startM m c ⟨n, hn⟩) (x 0) (x 1) (x 2)
  | 0, hn, x => by
    rw [start_zero m c ⟨0, hn⟩ rfl]
    exact DeltaPoint.states_first m c ⟨0, hn⟩ _ _ (tile_holds m c ⟨0, hn⟩) rfl x
  | n + 1, hn, x => by
    by_cases h : (n + 1) % 11 = 0
    · rw [start_zero m c ⟨n + 1, hn⟩ h]
      exact DeltaPoint.states_first m c ⟨n + 1, hn⟩ _ _ (tile_holds m c ⟨n + 1, hn⟩) h x
    · refine DeltaPoint.states_later m c ⟨n + 1, hn⟩ _ _ (tile_holds m c ⟨n + 1, hn⟩) h _ (fun b i j d => ?_) x
      exact (scratch_at c n (Nat.lt_of_succ_lt hn) _).trans (handed m c n hn h b i j d)

/-- Each point's block of the result. -/
theorem rows_at (c : Dev nD) (t : Fin cfg0.N) (x : S2x192x1024.Idx) :
    (outsAt0 m c t.val t.isLt).1 x = rowsOf (tileM m c t) (startM m c t) (at2 (aw m c) 0) (x 0) (x 1) (x 2) := by
  by_cases h : t.val % 11 = 0
  · rw [start_zero m c t h]
    exact DeltaPoint.rows_first m c t _ _ (tile_holds m c t) h x
  · refine DeltaPoint.rows_later m c t _ _ (tile_holds m c t) h _ (fun b i j d => ?_) x
    obtain ⟨n, hn⟩ := t
    cases n with
    | zero => exact absurd rfl h
    | succ n => exact (scratch_at m c n (Nat.lt_of_succ_lt hn) _).trans (handed m c n hn h b i j d)

theorem rows_scan (c : Dev nD) (t : Fin cfg0.N) (b j d : ℕ) (hj : j < 192) :
    rowsOf (tileM m c t) (startM m c t) (at2 (aw m c) 0) b j d
      = scanAt (aq m c) (ar m c) (ak m c) (tm m c) (am m c) (ae m c) (ap m c) (aw m c) (2 * (t.val / 11) + b) (192 * (t.val % 11) + j) d := by
  unfold rowsOf scanAt
  rw [tile_states, show (192 * (t.val % 11) + j) / 64 = 3 * (t.val % 11) + j / 64 by omega,
    show (192 * (t.val % 11) + j) % 64 = j % 64 by omega]

/-- The result of the launched arguments. -/
abbrev scanM (c : Dev nD) : (⟨3, ![8, 2112, 1024]⟩ : Shape).Idx → EReal :=
  scanned (aq m c) (ar m c) (ak m c) (tm m c) (am m c) (ae m c) (ap m c) (aw m c)

theorem scanned_at (c : Dev nD) (y : (⟨3, ![8, 2112, 1024]⟩ : Shape).Idx) {i j d : ℕ} (h0 : (y 0).val = i) (h1 : (y 1).val = j) (h2 : (y 2).val = d) :
    scanM m c y = scanAt (aq m c) (ar m c) (ak m c) (tm m c) (am m c) (ae m c) (ap m c) (aw m c) i j d := by
  subst h0 h1 h2; rfl

theorem final (c : Dev nD) : (dats m 0 c).arrAt 8 cfg0.N = scanM m c := by
  refine (dats m 0 c).arrAt_eq_of_covers 8 _ (by decide +kernel) fun t hf y => ?_
  blk_simp
  idx_vars y
  refine (rows_at m c t _).trans ((rows_scan m c t _ _ _ y1.isLt).trans ?_)
  refine (scanned_at m c _ ?_ ?_ ?_).symm
  · refine (win0_8.rect_emb_val_off t (ix3 y0 y1 y2) 0).trans ?_
    rw [(index_all t).2.2.2.2.2.2.2.2]; exact congrArg (· + y0.val) (Nat.mul_comm _ _)
  · refine (win0_8.rect_emb_val_off t (ix3 y0 y1 y2) 1).trans ?_
    rw [(index_all t).2.2.2.2.2.2.2.2]; exact congrArg (· + y1.val) (Nat.mul_comm _ _)
  · refine (win0_8.rect_emb_val_off t (ix3 y0 y1 y2) 2).trans ?_
    rw [(index_all t).2.2.2.2.2.2.2.2]; exact Nat.zero_add _

end Cert.DeltaBlocks

end
-- ==== Proof.DeltaRef.lean ====
/- The reference's loop over the chunks: every state before a chunk and every output, entry by entry the plain functions of the arguments. -/
module

public import proofs.«01_k».proof.Proof.DeltaPlain
public import proofs.«01_k».proof.Proof.Gen.DeltaRefIdeal.Step
public import proofs.«01_k».proof.Proof.Gen.DeltaRefIdeal.Run

@[expose] public section

set_option maxRecDepth 16384

noncomputable section

namespace Cert.DeltaRef

open Idealize.ShloMosaic Idealize.ShloMosaic.TcCoe
open Cert.DeltaRefIdeal Cert.DeltaRefIdeal.Gen Cert.DeltaRefIdeal.Step Cert.Plain Cert.DeltaPlain

variable (q : (⟨2, ![16896, 1024]⟩ : Shape).Idx → EReal) (r : (⟨2, ![16896, 2048]⟩ : Shape).Idx → EReal)
  (k : (⟨2, ![16896, 1024]⟩ : Shape).Idx → EReal) (t a : (⟨4, ![264, 8, 64, 64]⟩ : Shape).Idx → EReal) (e : (⟨3, ![264, 8, 128]⟩ : Shape).Idx → EReal)
  (p : (⟨2, ![16896, 13824]⟩ : Shape).Idx → EReal) (w : (⟨2, ![2, 128]⟩ : Shape).Idx → EReal)

/-- What the loop holds before trip `n`. -/
structure Before (n : ℕ) (s : State Ideal) : Prop where
  hu : ∀ (N : Fin 33) (i h : Fin 8) (l : Fin 64) (d : Fin 128), s.main_v25_0 (ix5 N i h l d) = (chunk q r k t a e p i.val h.val N.val).u l.val d.val
  hw : ∀ (N : Fin 33) (i h : Fin 8) (l : Fin 64) (d : Fin 128), s.main_v25_1 (ix5 N i h l d) = (chunk q r k t a e p i.val h.val N.val).u l.val (128 + d.val)
  hq : ∀ (N : Fin 33) (i h : Fin 8) (l : Fin 64) (d : Fin 128), s.main_v25_2 (ix5 N i h l d) = (chunk q r k t a e p i.val h.val N.val).Q l.val d.val
  hk : ∀ (N : Fin 33) (i h : Fin 8) (l : Fin 64) (d : Fin 128), s.main_v25_3 (ix5 N i h l d) = (chunk q r k t a e p i.val h.val N.val).K l.val d.val
  ha : ∀ (N : Fin 33) (i h : Fin 8) (l m : Fin 64), s.main_v25_4 (ix5 N i h l m) = (chunk q r k t a e p i.val h.val N.val).A l.val m.val
  he : ∀ (N : Fin 33) (i h : Fin 8) (d : Fin 128), s.main_v25_5 (ix4 N i h d) = (chunk q r k t a e p i.val h.val N.val).E d.val
  hS : ∀ (i h : Fin 8) (x d : Fin 128), s.main_v25_7 (ix4 i h x d) = stateAt q r k t a e p i.val h.val n x.val d.val
  hO : ∀ (N : Fin 33) (i h : Fin 8) (l : Fin 64) (d : Fin 128), N.val < n →
    s.main_v25_8 (ix5 N i h l d) = (chunk q r k t a e p i.val h.val N.val).o (stateAt q r k t a e p i.val h.val N.val) l.val d.val

theorem solved_first (N : Fin 33) (i h : Fin 8) (l : Fin 64) (d : Fin 256) :
    A_main_v13 (F := Ideal) q r k t a e (ix5 i N h l d) = (chunk q r k t a e p i.val h.val N.val).u l.val d.val := by
  pointwise [A_main_v13, A_main_v10, A_main_v9, A_main_v5, A_main_v4, A_main_v3]
  refine Finset.sum_congr rfl fun x _ => congrArg₂ (· * ·) ?_ ?_
  · exact at4_of _ _ _ _ _ _ (by show i.val * 33 + N.val = _; omega) rfl rfl rfl
  · exact at2_of _ _ _ _ (by show i.val * 2112 + N.val * 64 + x.val = _; omega) (by show h.val * 256 + d.val = _; omega)

theorem before_first : Before q r k t a e p 0 (init q r k t a e) where
  hu N i h l d := by
    show A_main_v17 (F := Ideal) q r k t a e (ix5 N i h l d) = _
    refine Eq.trans ?_ (solved_first q r k t a e p N i h l ⟨d.val, by omega⟩)
    pointwise [A_main_v17, A_main_v14]
  hw N i h l d := by
    show A_main_v18 (F := Ideal) q r k t a e (ix5 N i h l d) = _
    refine Eq.trans ?_ (solved_first q r k t a e p N i h l ⟨128 + d.val, by omega⟩)
    pointwise [A_main_v18, A_main_v15]
  hq N i h l d := by
    show A_main_v19 (F := Ideal) q r k t a e (ix5 N i h l d) = _
    pointwise [A_main_v19, A_main_v2, A_main_v1, A_main_v0]
    exact at2_of _ _ _ _ (by show i.val * 2112 + N.val * 64 + l.val = _; omega) (by show h.val * 128 + d.val = _; omega)
  hk N i h l d := by
    show A_main_v20 (F := Ideal) q r k t a e (ix5 N i h l d) = _
    pointwise [A_main_v20, A_main_v8, A_main_v7, A_main_v6]
    exact at2_of _ _ _ _ (by show i.val * 2112 + N.val * 64 + l.val = _; omega) (by show h.val * 128 + d.val = _; omega)
  ha N i h l m := by
    show A_main_v21 (F := Ideal) q r k t a e (ix5 N i h l m) = _
    pointwise [A_main_v21, A_main_v12, A_main_v11]
    exact at4_of _ _ _ _ _ _ (by show i.val * 33 + N.val = _; omega) rfl rfl rfl
  he N i h d := by
    show A_main_v22 (F := Ideal) q r k t a e (ix4 N i h d) = _
    pointwise [A_main_v22, A_main_v16]
    exact at3_of _ _ _ _ _ (by show i.val * 33 + N.val = _; omega) rfl rfl
  hS i h x d := by
    show K_main_v23 (F := Ideal) (ix4 i h x d) = 0
    pointwise [K_main_v23, K_main_cst]
  hO N i h l d hn := absurd hn (Nat.not_lt_zero _)

theorem word_start {n : ℕ} (hn : n < 33) : (BitVec.ofNat 32 n).toInt = n := by
  rw [BitVec.toInt_eq_toNat_of_lt (by rw [BitVec.toNat_ofNat]; omega), BitVec.toNat_ofNat]
  omega

/-- A row of a stack of arrays, cut out at a start inside it. -/
theorem row5 {L n : ℕ} (hn : n < 33) (x : (⟨5, ![33, 8, 8, 64, L]⟩ : Shape).Idx → EReal) (start : Fin 5 → Int)
    (f : (⟨5, ![33, 8, 8, 64, L]⟩ : Shape).Slices (fun _ => 0) ⟨5, ![1, 8, 8, 64, L]⟩) (h0 : start 0 = n) (h1 : start 1 = 0) (h2 : start 2 = 0)
    (h3 : start 3 = 0) (h4 : start 4 = 0) (i h : Fin 8) (l : Fin 64) (d : Fin L) :
    Host.dynamicSlice (⟨5, ![1, 8, 8, 64, L]⟩ : Shape) x start f (ix5 0 i h l d) = x (ix5 ⟨n, hn⟩ i h l d) := by
  rw [Host.dynamicSlice_apply]
  refine congrArg x (funext fun a => Fin.ext ?_)
  match a with
  | ⟨0, _⟩ => exact (congrArg (· + 0) (Host.clampedStart_of_le f.1 start 0 n h0 (show n + 1 ≤ 33 from hn)))
  | ⟨1, _⟩ => exact (congrArg (· + i.val) (Host.clampedStart_of_le f.1 start 1 0 h1 (show 0 + 8 ≤ 8 from le_rfl))).trans (Nat.zero_add _)
  | ⟨2, _⟩ => exact (congrArg (· + h.val) (Host.clampedStart_of_le f.1 start 2 0 h2 (show 0 + 8 ≤ 8 from le_rfl))).trans (Nat.zero_add _)
  | ⟨3, _⟩ => exact (congrArg (· + l.val) (Host.clampedStart_of_le f.1 start 3 0 h3 (show 0 + 64 ≤ 64 from le_rfl))).trans (Nat.zero_add _)
  | ⟨4, _⟩ => exact (congrArg (· + d.val) (Host.clampedStart_of_le f.1 start 4 0 h4 (show 0 + L ≤ L by omega))).trans (Nat.zero_add _)

theorem row4 {n : ℕ} (hn : n < 33) (x : (⟨4, ![33, 8, 8, 128]⟩ : Shape).Idx → EReal) (start : Fin 4 → Int)
    (f : (⟨4, ![33, 8, 8, 128]⟩ : Shape).Slices (fun _ => 0) ⟨4, ![1, 8, 8, 128]⟩) (h0 : start 0 = n) (h1 : start 1 = 0) (h2 : start 2 = 0)
    (h3 : start 3 = 0) (i h : Fin 8) (d : Fin 128) :
    Host.dynamicSlice (⟨4, ![1, 8, 8, 128]⟩ : Shape) x start f (ix4 0 i h d) = x (ix4 ⟨n, hn⟩ i h d) := by
  rw [Host.dynamicSlice_apply]
  refine congrArg x (funext fun a => Fin.ext ?_)
  match a with
  | ⟨0, _⟩ => exact (congrArg (· + 0) (Host.clampedStart_of_le f.1 start 0 n h0 (show n + 1 ≤ 33 from hn)))
  | ⟨1, _⟩ => exact (congrArg (· + i.val) (Host.clampedStart_of_le f.1 start 1 0 h1 (show 0 + 8 ≤ 8 from le_rfl))).trans (Nat.zero_add _)
  | ⟨2, _⟩ => exact (congrArg (· + h.val) (Host.clampedStart_of_le f.1 start 2 0 h2 (show 0 + 8 ≤ 8 from le_rfl))).trans (Nat.zero_add _)
  | ⟨3, _⟩ => exact (congrArg (· + d.val) (Host.clampedStart_of_le f.1 start 3 0 h3 (show 0 + 128 ≤ 128 from le_rfl))).trans (Nat.zero_add _)

/-- A row written at a start inside the stack: the row itself, the stack elsewhere. -/
theorem put5 {n : ℕ} (hn : n < 33) (x : (⟨5, ![33, 8, 8, 64, 128]⟩ : Shape).Idx → EReal) (v : (⟨5, ![1, 8, 8, 64, 128]⟩ : Shape).Idx → EReal)
    (start : Fin 5 → Int) (f : (⟨5, ![33, 8, 8, 64, 128]⟩ : Shape).Slices (fun _ => 0) ⟨5, ![1, 8, 8, 64, 128]⟩) (h0 : start 0 = n)
    (h1 : start 1 = 0) (h2 : start 2 = 0) (h3 : start 3 = 0) (h4 : start 4 = 0) (N : Fin 33) (i h : Fin 8) (l : Fin 64) (d : Fin 128) :
    Host.dynamicUpdateSlice x v start f (ix5 N i h l d) = if N.val = n then v (ix5 0 i h l d) else x (ix5 N i h l d) := by
  have c0 := Host.clampedStart_of_le f.1 start 0 n h0 (show n + 1 ≤ 33 from hn)
  have c1 := Host.clampedStart_of_le f.1 start 1 0 h1 (show 0 + 8 ≤ 8 from le_rfl)
  have c2 := Host.clampedStart_of_le f.1 start 2 0 h2 (show 0 + 8 ≤ 8 from le_rfl)
  have c3 := Host.clampedStart_of_le f.1 start 3 0 h3 (show 0 + 64 ≤ 64 from le_rfl)
  have c4 := Host.clampedStart_of_le f.1 start 4 0 h4 (show 0 + 128 ≤ 128 from le_rfl)
  pointwise [c0, c1, c2, c3, c4]
  by_cases e : N.val = n
  · rw [dif_pos ⟨e.ge, by omega⟩, if_pos e]
    exact congrArg (fun z => v (ix5 z i h l d)) (Fin.ext (by show N.val - n = 0; omega))
  · rw [dif_neg (by omega), if_neg e]

section Trip

open Idealize.ShloMosaic.StableHlo Cert.DeltaRefIdeal.Value

/-- What a valuation holds of the loop's arrays. -/
def held (V0 : Valuation τ sig (Elt Ideal)) : State Ideal where
  main_v25_7 := V0 (Proc.devRef .tc main_v25_7)
  main_v25_8 := V0 (Proc.devRef .tc main_v25_8)
  main_v25_0 := V0 (Proc.devRef .tc main_v25_0)
  main_v25_1 := V0 (Proc.devRef .tc main_v25_1)
  main_v25_2 := V0 (Proc.devRef .tc main_v25_2)
  main_v25_3 := V0 (Proc.devRef .tc main_v25_3)
  main_v25_4 := V0 (Proc.devRef .tc main_v25_4)
  main_v25_5 := V0 (Proc.devRef .tc main_v25_5)

variable {V0 : Valuation τ sig (Elt Ideal)} {n : ℕ} (hc : V0 (Proc.devRef .tc main_v25_6) = constantI S_ 32 (BitVec.ofNat 32 n))

set_option maxRecDepth 65536 in
include hc in
theorem held_state : Value.step_main_v25_7 V0 = b44 n (held V0) := by
  unfold Value.step_main_v25_7 res_main_while0b_v58
  rw [hc]
  rfl

set_option maxRecDepth 65536 in
include hc in
theorem held_outputs : Value.step_main_v25_8 V0 = b50 n (held V0) := by
  unfold Value.step_main_v25_8 res_main_while0b_v58
  rw [hc]
  rfl

variable {n : ℕ} (hn : n < 33) {s : State Ideal} (B : Before q r k t a e p n s)
include hn B

theorem u_row (i h : Fin 8) (l : Fin 64) (d : Fin 128) : b5 n s (ix4 i h l d) = (chunk q r k t a e p i.val h.val n).u l.val d.val := by
  refine Eq.trans ?_ (B.hu ⟨n, hn⟩ i h l d)
  pointwise [b5]
  exact row5 hn _ _ _ (word_start hn) rfl rfl rfl rfl i h l d

theorem w_row (i h : Fin 8) (l : Fin 64) (d : Fin 128) : b11 n s (ix4 i h l d) = (chunk q r k t a e p i.val h.val n).u l.val (128 + d.val) := by
  refine Eq.trans ?_ (B.hw ⟨n, hn⟩ i h l d)
  pointwise [b11]
  exact row5 hn _ _ _ (word_start hn) rfl rfl rfl rfl i h l d

theorem q_row (i h : Fin 8) (l : Fin 64) (d : Fin 128) : b17 n s (ix4 i h l d) = (chunk q r k t a e p i.val h.val n).Q l.val d.val := by
  refine Eq.trans ?_ (B.hq ⟨n, hn⟩ i h l d)
  pointwise [b17]
  exact row5 hn _ _ _ (word_start hn) rfl rfl rfl rfl i h l d

theorem k_row (i h : Fin 8) (l : Fin 64) (d : Fin 128) : b23 n s (ix4 i h l d) = (chunk q r k t a e p i.val h.val n).K l.val d.val := by
  refine Eq.trans ?_ (B.hk ⟨n, hn⟩ i h l d)
  pointwise [b23]
  exact row5 hn _ _ _ (word_start hn) rfl rfl rfl rfl i h l d

theorem a_row (i h : Fin 8) (l d : Fin 64) : b29 n s (ix4 i h l d) = (chunk q r k t a e p i.val h.val n).A l.val d.val := by
  refine Eq.trans ?_ (B.ha ⟨n, hn⟩ i h l d)
  pointwise [b29]
  exact row5 hn _ _ _ (word_start hn) rfl rfl rfl rfl i h l d

theorem e_row (i h : Fin 8) (d : Fin 128) : b34 n s (ix3 i h d) = (chunk q r k t a e p i.val h.val n).E d.val := by
  refine Eq.trans ?_ (B.he ⟨n, hn⟩ i h d)
  pointwise [b34]
  exact row4 hn _ _ _ (word_start hn) rfl rfl rfl i h d

theorem v_row (i h : Fin 8) (l : Fin 64) (d : Fin 128) :
    b36 n s (ix4 i h l d) = (chunk q r k t a e p i.val h.val n).v (stateAt q r k t a e p i.val h.val n) l.val d.val := by
  pointwise [b36, b35]
  refine congrArg₂ (· - ·) (u_row q r k t a e p hn B i h l d) (Finset.sum_congr rfl fun x _ => congrArg₂ (· * ·) ?_ ?_)
  · exact w_row q r k t a e p hn B i h l x
  · exact B.hS i h x d

theorem o_row (i h : Fin 8) (l : Fin 64) (d : Fin 128) :
    b39 n s (ix4 i h l d) = (chunk q r k t a e p i.val h.val n).o (stateAt q r k t a e p i.val h.val n) l.val d.val := by
  pointwise [b39, b37, b38]
  refine congrArg₂ (· + ·) (Finset.sum_congr rfl fun x _ => congrArg₂ (· * ·) ?_ ?_) (Finset.sum_congr rfl fun x _ => congrArg₂ (· * ·) ?_ ?_)
  · exact q_row q r k t a e p hn B i h l x
  · exact B.hS i h x d
  · exact a_row q r k t a e p hn B i h l x
  · exact v_row q r k t a e p hn B i h x d

theorem s_row (i h : Fin 8) (x d : Fin 128) : b44 n s (ix4 i h x d) = stateAt q r k t a e p i.val h.val (n + 1) x.val d.val := by
  pointwise [b44, b42, b43, b41, b40]
  refine congrArg₂ (· + ·) (congrArg₂ (· * ·) (B.hS i h x d) (e_row q r k t a e p hn B i h d)) (Finset.sum_congr rfl fun y _ => congrArg₂ (· * ·) ?_ ?_)
  · exact k_row q r k t a e p hn B i h y x
  · exact v_row q r k t a e p hn B i h y d

theorem before_next : Before q r k t a e p (n + 1) (step n s) where
  hu := B.hu
  hw := B.hw
  hq := B.hq
  hk := B.hk
  ha := B.ha
  he := B.he
  hS := s_row q r k t a e p hn B
  hO N i h l d hN := by
    refine (put5 hn _ _ _ updateFits_S33x8x8x64x128_S1x8x8x64x128 (word_start hn) rfl rfl rfl rfl N i h l d).trans ?_
    split
    · next f =>
      pointwise [b45]
      rw [f]
      exact o_row q r k t a e p hn B i h l d
    · next f => exact B.hO N i h l d (by omega)

end Trip

section Run
variable (m : (ℓ : Loc nD τ sig) → Buf (Elt Ideal) ℓ) (c : Dev nD)

open Idealize.ShloMosaic.StableHlo Cert.DeltaRefIdeal.Value

abbrev aq : (⟨2, ![16896, 1024]⟩ : Shape).Idx → EReal := m ((c : Thread nD τ).loc main_arg0)
abbrev ar : (⟨2, ![16896, 2048]⟩ : Shape).Idx → EReal := m ((c : Thread nD τ).loc main_arg1)
abbrev ak : (⟨2, ![16896, 1024]⟩ : Shape).Idx → EReal := m ((c : Thread nD τ).loc main_arg2)
abbrev tm : (⟨4, ![264, 8, 64, 64]⟩ : Shape).Idx → EReal := m ((c : Thread nD τ).loc main_arg3)
abbrev am : (⟨4, ![264, 8, 64, 64]⟩ : Shape).Idx → EReal := m ((c : Thread nD τ).loc main_arg4)
abbrev ae : (⟨3, ![264, 8, 128]⟩ : Shape).Idx → EReal := m ((c : Thread nD τ).loc main_arg5)
abbrev ap : (⟨2, ![16896, 13824]⟩ : Shape).Idx → EReal := m ((c : Thread nD τ).loc main_arg6)
abbrev aw : (⟨2, ![2, 128]⟩ : Shape).Idx → EReal := m ((c : Thread nD τ).loc main_arg7)

/-- What the loop starts from. -/
theorem held_entry : held (entryContents preI m c) = init (aq m c) (ar m c) (ak m c) (tm m c) (am m c) (ae m c) := by
  have h : ∀ s : State Ideal, entryContents preI m c (Proc.devRef .tc main_v25_7) = s.main_v25_7 → entryContents preI m c (Proc.devRef .tc main_v25_8) = s.main_v25_8 →
      entryContents preI m c (Proc.devRef .tc main_v25_0) = s.main_v25_0 → entryContents preI m c (Proc.devRef .tc main_v25_1) = s.main_v25_1 →
      entryContents preI m c (Proc.devRef .tc main_v25_2) = s.main_v25_2 → entryContents preI m c (Proc.devRef .tc main_v25_3) = s.main_v25_3 →
      entryContents preI m c (Proc.devRef .tc main_v25_4) = s.main_v25_4 → entryContents preI m c (Proc.devRef .tc main_v25_5) = s.main_v25_5 →
      held (entryContents preI m c) = s := by
    rintro ⟨⟩ h7 h8 h0 h1 h2 h3 h4 h5
    unfold held
    rw [h7, h8, h0, h1, h2, h3, h4, h5]
  apply h <;> (simp only [entryContents, afterL_cons, afterL_nil]; after_reads_simp) <;> rfl

theorem counter_entry : entryContents preI m c (Proc.devRef .tc main_v25_6) = constantI S_ 32 (BitVec.ofNat 32 0) := ctr_entry m c

/-- One trip's arrays and counter. -/
theorem held_trip {V0 : Valuation τ sig (Elt Ideal)} {n : ℕ} (hc : V0 (Proc.devRef .tc main_v25_6) = constantI S_ 32 (BitVec.ofNat 32 n)) :
    held (STEP V0) = step n (held V0) := by
  unfold held Step.step
  rw [STEP_main_v25_7, STEP_main_v25_8, STEP_main_v25_0, STEP_main_v25_1, STEP_main_v25_2, STEP_main_v25_3, STEP_main_v25_4, STEP_main_v25_5,
    held_state hc, held_outputs hc]
  rfl

theorem counter_trip {V0 : Valuation τ sig (Elt Ideal)} {n : ℕ} (hc : V0 (Proc.devRef .tc main_v25_6) = constantI S_ 32 (BitVec.ofNat 32 n)) :
    STEP V0 (Proc.devRef .tc main_v25_6) = constantI S_ 32 (BitVec.ofNat 32 (n + 1)) := by
  rw [STEP_main_v25_6]
  unfold Value.step_main_v25_6
  rw [hc]
  funext x
  exact (BitVec.ofNat_add n 1).symm

theorem before_trip : ∀ n : ℕ, n ≤ 33 →
    (STEP^[n] (entryContents preI m c)) (Proc.devRef .tc main_v25_6) = constantI S_ 32 (BitVec.ofNat 32 n)
      ∧ Before (aq m c) (ar m c) (ak m c) (tm m c) (am m c) (ae m c) (ap m c) n (held (STEP^[n] (entryContents preI m c)))
  | 0, _ => ⟨counter_entry m c, held_entry m c ▸ before_first _ _ _ _ _ _ _⟩
  | n + 1, hn => by
    obtain ⟨hc, hB⟩ := before_trip n (by omega)
    rw [Function.iterate_succ_apply']
    exact ⟨counter_trip hc, held_trip hc ▸ before_next _ _ _ _ _ _ _ (by omega) hB⟩

set_option maxRecDepth 65536 in
theorem out_held (V0 : Valuation τ sig (Elt Ideal)) :
    out_main_v50 V0 = R_main_v50 (held V0) (V0 (Proc.devRef .tc main_arg6)) (V0 (Proc.devRef .tc main_arg7)) := by
  unfold out_main_v50 R_main_v50
  rfl

end Run

end Cert.DeltaRef

end
-- ==== Proof.DeltaOut.lean ====
/- The reference's result: its norm, gate and last layout, of the loop's outputs. -/
module

public import proofs.«01_k».proof.Proof.DeltaRef

@[expose] public section

set_option maxRecDepth 16384

noncomputable section

namespace Cert.DeltaOut

open Idealize.ShloMosaic Idealize.ShloMosaic.TcCoe
open Cert.DeltaRefIdeal Cert.DeltaRefIdeal.Gen Cert.DeltaRefIdeal.Step Cert.Plain Cert.DeltaPlain Cert.DeltaRef

variable (q : (⟨2, ![16896, 1024]⟩ : Shape).Idx → EReal) (r : (⟨2, ![16896, 2048]⟩ : Shape).Idx → EReal)
  (k : (⟨2, ![16896, 1024]⟩ : Shape).Idx → EReal) (t a : (⟨4, ![264, 8, 64, 64]⟩ : Shape).Idx → EReal) (e : (⟨3, ![264, 8, 128]⟩ : Shape).Idx → EReal)
  (p : (⟨2, ![16896, 13824]⟩ : Shape).Idx → EReal) (w : (⟨2, ![2, 128]⟩ : Shape).Idx → EReal)

theorem scanned_ix (i : Fin 8) (j : Fin 2112) (d : Fin 1024) :
    scanned q r k t a e p w (ix3 i j d) = gated ((chunk q r k t a e p i.val (d.val / 128) (j.val / 64)).o (stateAt q r k t a e p i.val (d.val / 128) (j.val / 64)) (j.val % 64))
      (at2 w 0) ((chunk q r k t a e p i.val (d.val / 128) (j.val / 64)).Z (j.val % 64)) (d.val % 128) := by
  unfold scanned scanAt Chunk.y
  rfl

theorem gain_at (d : Fin 128) : w (ix2 0 d) = at2 w 0 d.val := at2_of _ _ _ _ rfl rfl

theorem gate_at (i : Fin 8) (j : Fin 2112) (d : Fin 1024) (x : Fin 16896) (y : Fin 13824) (hx : x.val = i.val * 2112 + j.val / 64 * 64 + j.val % 64)
    (hy : y.val = 6144 + d.val) : p (ix2 x y) = (chunk q r k t a e p i.val (d.val / 128) (j.val / 64)).Z (j.val % 64) (d.val % 128) := by
  unfold chunk
  refine at2_of p (ix2 x y) _ _ ?_ ?_
  · show x.val = _
    rw [hx]; omega
  · show y.val = _
    rw [hy]; omega

/-- The norm of one head's row and the gate, read entry by entry. -/
theorem gated_of (x : Fin 128 → EReal) (v z : EReal) (o g Z : ℕ → EReal) (d : Fin 128) (hx : ∀ d : Fin 128, x d = o d.val) (hv : v = g d.val) (hz : z = Z d.val) :
    x d * Ideal.rsqrt (Ideal.div (∑ k : Fin 128, x k * x k) (Ideal.ofBits .f32 0x43000000#32) + Ideal.ofBits .f32 0x358637BD#32) * v * (z * Ideal.div 1 (1 + Ideal.exp (-z)))
      = gated o g Z d.val := by
  unfold gated sg
  rw [zero_sub, hv, hz]
  simp only [hx]

/-- The norm, the gate and the last layout, of the loop's outputs. -/
theorem out_read {s : State Ideal} (hB : Before q r k t a e p 33 s) : R_main_v50 (F := Ideal) s p w = scanned q r k t a e p w := by
  funext y
  idx_vars y
  refine Eq.trans ?_ (scanned_ix q r k t a e p w y0 y1 y2).symm
  have ho : ∀ d : Fin 128, s.main_v25_8 (ix5 ⟨y1.val / 64, by omega⟩ y0 ⟨y2.val / 128, by omega⟩ ⟨y1.val % 64, by omega⟩ d)
      = (chunk q r k t a e p y0.val (y2.val / 128) (y1.val / 64)).o (stateAt q r k t a e p y0.val (y2.val / 128) (y1.val / 64)) (y1.val % 64) d.val :=
    fun d => hB.hO ⟨y1.val / 64, by omega⟩ y0 ⟨y2.val / 128, by omega⟩ ⟨y1.val % 64, by omega⟩ d (by show y1.val / 64 < 33; omega)
  pointwise [R_main_v50]
  exact gated_of (fun d => s.main_v25_8 (ix5 ⟨y1.val / 64, by omega⟩ y0 ⟨y2.val / 128, by omega⟩ ⟨y1.val % 64, by omega⟩ d)) _ _ _ _ _
    ⟨y2.val % 128, by omega⟩ ho (gain_at w _) (gate_at q r k t a e p y0 y1 y2 _ _ rfl rfl)

section Run
variable (m : (ℓ : Loc nD τ sig) → Buf (Elt Ideal) ℓ) (c : Dev nD)

open Idealize.ShloMosaic.StableHlo Cert.DeltaRefIdeal.Value

/-- The reference's result. -/
theorem result : out_main_v50 (STEP^[33] (entryContents preI m c))
    = scanned (aq m c) (ar m c) (ak m c) (tm m c) (am m c) (ae m c) (ap m c) (aw m c) := by
  rw [out_held, iter_main_arg6 m c 33, iter_main_arg7 m c 33]
  exact out_read _ _ _ _ _ _ _ _ (before_trip m c 33 le_rfl).2

end Run

end Cert.DeltaOut

end
-- ==== Proof.Delta.lean ====
/- The claims about the gated DeltaNet's scan: its frame at both instances, the reference's, and the value claim. -/
module

public import proofs.«01_k».proof.Defs
public import proofs.«01_k».proof.Proof.Gen.DeltaScan.Frame
public import proofs.«01_k».proof.Proof.Gen.DeltaScanIdeal.Frame
public import proofs.«01_k».proof.Proof.Gen.DeltaScanIdeal.Value
public import proofs.«01_k».proof.Proof.Gen.DeltaRefIdeal.Run
public import proofs.«01_k».proof.Proof.DeltaBlocks
public import proofs.«01_k».proof.Proof.DeltaOut
public import Idealize.ShloMosaic.Adequacy
public import Idealize.ShloMosaic.Lib.Quiescent
public import Idealize.ShloMosaic.Init

@[expose] public section

set_option maxRecDepth 16384

noncomputable section

namespace Cert.DeltaClaims

open Idealize.ShloMosaic Idealize.SL.Sem

theorem frame_kernel : Cert.quiescent_DeltaScan := fun m ρ _ => Cert.DeltaScan.Gen.frame m ρ

theorem frame_ideal : Cert.quiescent_DeltaScanIdeal := fun m ρ _ => Cert.DeltaScanIdeal.Gen.frame m ρ

theorem frame_reference : Cert.quiescent_DeltaRefIdeal := by
  intro m ρ _
  exact (θ_run Cert.DeltaRefIdeal.defs _ _).mono
    (fun r h => ⟨fun c => (h c).2, sem_eq_zero_of_no_sems (by decide) r.2⟩) (Cert.DeltaRefIdeal.Value.run m ρ)

section Runs

open Cert.DeltaRefIdeal Cert.DeltaPlain

/-- The reference's run, its result the recurrence over chunks of its arguments. -/
theorem reference_run (m : (ℓ : Loc nD τ sig) → Buf (Elt Ideal) ℓ) (ρ : Dev nD → PrngReg) :
    θ_run (Cert.DeltaRefIdeal.defs (F := Ideal)) (onTc (τ := τ) (Cert.DeltaRefIdeal.main (F := Ideal))) ⟨m, fun _ => 0, ρ⟩ fun r => ∀ c : Dev nD,
      r.2.mem ((c.tc : Thread nD τ).loc main_v50)
        = scanned (Cert.DeltaRef.aq m c) (Cert.DeltaRef.ar m c) (Cert.DeltaRef.ak m c) (Cert.DeltaRef.tm m c)
            (Cert.DeltaRef.am m c) (Cert.DeltaRef.ae m c) (Cert.DeltaRef.ap m c) (Cert.DeltaRef.aw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run Cert.DeltaRefIdeal.defs _ _).mono
    (fun _ h c => ⟨(h c).1.trans (Cert.DeltaOut.result m c), (h c).2⟩) (Cert.DeltaRefIdeal.Value.run m ρ)

end Runs

/-- The array the scan's output window ends with is the recurrence over chunks of the arguments, and so is the
    reference's result. -/
theorem value : Cert.algebraic_DeltaScanIdeal_DeltaRefIdeal := by
  pair_intro
  · run_from Cert.DeltaScanIdeal.Value.run_blocks m g
  · run_from reference_run m' g'
    exact (Cert.DeltaBlocks.final m c).symm

end Cert.DeltaClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.InLast
public import proofs.«01_k».proof.Proof.Gen.InLast.Skeleton
public import proofs.«01_k».proof.Proof.Gen.InLast.Launch
public import proofs.«01_k».proof.Proof.Gen.InLast.Points
public import proofs.«01_k».proof.Proof.Gen.InLast.Frame
public import proofs.«01_k».proof.Proof.Gen.InLastIdeal
public import proofs.«01_k».proof.Proof.Gen.InLastIdeal.Skeleton
public import proofs.«01_k».proof.Proof.Gen.InLastIdeal.Launch
public import proofs.«01_k».proof.Proof.Gen.InLastIdeal.Points
public import proofs.«01_k».proof.Proof.Gen.InLastIdeal.Frame
public import proofs.«01_k».proof.Proof.Gen.OutFirst
public import proofs.«01_k».proof.Proof.Gen.OutFirst.Skeleton
public import proofs.«01_k».proof.Proof.Gen.OutFirst.Launch
public import proofs.«01_k».proof.Proof.Gen.OutFirst.Points
public import proofs.«01_k».proof.Proof.Gen.OutFirst.Frame
public import proofs.«01_k».proof.Proof.Gen.OutFirstIdeal
public import proofs.«01_k».proof.Proof.Gen.OutFirstIdeal.Skeleton
public import proofs.«01_k».proof.Proof.Gen.OutFirstIdeal.Launch
public import proofs.«01_k».proof.Proof.Gen.OutFirstIdeal.Points
public import proofs.«01_k».proof.Proof.Gen.OutFirstIdeal.Frame
public import proofs.«01_k».proof.Proof.Gen.OutFirstIdeal.Value
public import proofs.«01_k».proof.Proof.Gen.InLastRefIdeal
public import proofs.«01_k».proof.Proof.Gen.InLastRefIdeal.Run
public import proofs.«01_k».proof.Proof.Gen.InLastRefIdeal.Read
public import proofs.«01_k».proof.Proof.Gen.OutFirstRefIdeal
public import proofs.«01_k».proof.Proof.Gen.OutFirstRefIdeal.Run
public import proofs.«01_k».proof.Proof.Gen.OutFirstRefIdeal.Read
public import proofs.«01_k».proof.Proof.Gen.DeltaScan
public import proofs.«01_k».proof.Proof.Gen.DeltaScan.Skeleton
public import proofs.«01_k».proof.Proof.Gen.DeltaScan.Launch
public import proofs.«01_k».proof.Proof.Gen.DeltaScan.Points
public import proofs.«01_k».proof.Proof.Gen.DeltaScan.Frame
public import proofs.«01_k».proof.Proof.Gen.DeltaScanIdeal
public import proofs.«01_k».proof.Proof.Gen.DeltaScanIdeal.Skeleton
public import proofs.«01_k».proof.Proof.Gen.DeltaScanIdeal.Launch
public import proofs.«01_k».proof.Proof.Gen.DeltaScanIdeal.Points
public import proofs.«01_k».proof.Proof.Gen.DeltaScanIdeal.Frame
public import proofs.«01_k».proof.Proof.Gen.DeltaScanIdeal.Value
public import proofs.«01_k».proof.Proof.Gen.DeltaRefIdeal
public import proofs.«01_k».proof.Proof.Gen.DeltaRefIdeal.Step
public import proofs.«01_k».proof.Proof.Gen.DeltaRefIdeal.Run
public import proofs.«01_k».proof.Proof.Out
public import proofs.«01_k».proof.Proof.In
public import proofs.«01_k».proof.Proof.Last
public import proofs.«01_k».proof.Proof.First
public import proofs.«01_k».proof.Proof.Delta
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.InProj.Gen.facts, Cert.InProjIdeal.Gen.facts, Cert.InRefIdeal.Gen.facts, Cert.InLast.Gen.facts, Cert.InLastIdeal.Gen.facts, Cert.InLastRefIdeal.Gen.facts, Cert.OutFirst.Gen.facts, Cert.OutFirstIdeal.Gen.facts, Cert.OutFirstRefIdeal.Gen.facts, Cert.DeltaScan.Gen.facts, Cert.DeltaScanIdeal.Gen.facts, Cert.DeltaRefIdeal.Gen.facts,
    Cert.OutClaims.frame_kernel, Cert.OutClaims.frame_ideal, Cert.OutClaims.frame_reference,
    Cert.InClaims.frame_kernel, Cert.InClaims.frame_ideal, Cert.InClaims.frame_reference,
    Cert.LastClaims.frame_kernel, Cert.LastClaims.frame_ideal, Cert.LastClaims.frame_reference,
    Cert.FirstClaims.frame_kernel, Cert.FirstClaims.frame_ideal, Cert.FirstClaims.frame_reference,
    Cert.DeltaClaims.frame_kernel, Cert.DeltaClaims.frame_ideal, Cert.DeltaClaims.frame_reference,
    trivial, Cert.OutClaims.value, trivial, Cert.InClaims.value, trivial, Cert.LastClaims.value, trivial, Cert.FirstClaims.value, trivial, Cert.DeltaClaims.value⟩

end Cert.Proof

end
